-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_pre [hPre_attention_pre : Cert.Pre_attention_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attention_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_pre [hPre_attention_pre : Cert.Pre_attention_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attention_pre [hAttnIdeal : Cert.AttnIdeal.Facts] [hPre_attention_pre : Cert.Pre_attention_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attention_pre [hAttnRefIdeal : Cert.AttnRefIdeal.Facts] [hPre_attention_pre : Cert.Pre_attention_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def preserves_Attn_AttnIdeal : Prop :=
  IdealRules.named_const.Statement Cert.AttnIdeal.κ "scale_log2e" .f32 0x3E0293EE#32 (((Real.sqrt 128)⁻¹ * (Real.log 2)⁻¹ : ℝ) : EReal)
  ∧ IdealRules.named_const.Statement Cert.AttnIdeal.κ "mask" .f32 0xF149F2CA#32 ⊥
  ∧ IdealRules.named_const.Statement Cert.AttnIdeal.κ "scale" .f32 0x3DB504F3#32 (((Real.sqrt 128)⁻¹ : ℝ) : EReal)

def algebraic_AttnIdeal_AttnRefIdeal_pre_attention_pre [hAttnIdeal : Cert.AttnIdeal.Facts] [hAttnRefIdeal : Cert.AttnRefIdeal.Facts] [hPre_attention_pre : Cert.Pre_attention_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v15)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v16) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v13) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)) →
    ∃ (v0 : (c : Dev Cert.SmallIdeal.nD) → Buf (Elt Ideal) ((c.tc : Thread Cert.SmallIdeal.nD Cert.SmallIdeal.τ).loc Cert.SmallIdeal.main_v1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v12) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)) (v2 : (c : Dev Cert.PrepIdeal.nD) → Buf (Elt Ideal) ((c.tc : Thread Cert.PrepIdeal.nD Cert.PrepIdeal.τ).loc Cert.PrepIdeal.main_v4_2)) (v3 : (c : Dev Cert.PrepIdeal.nD) → Buf (Elt Ideal) ((c.tc : Thread Cert.PrepIdeal.nD Cert.PrepIdeal.τ).loc Cert.PrepIdeal.main_v4_3)) (v4 : (c : Dev Cert.PrepIdeal.nD) → Buf (Elt Ideal) ((c.tc : Thread Cert.PrepIdeal.nD Cert.PrepIdeal.τ).loc Cert.PrepIdeal.main_v4_4)) (v5 : (c : Dev Cert.PrepIdeal.nD) → Buf (Elt Ideal) ((c.tc : Thread Cert.PrepIdeal.nD Cert.PrepIdeal.τ).loc Cert.PrepIdeal.main_v4_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_v4_2) = v2 c
          ∧ r.2.mem ((c.tc : Thread Cert.PrepIdeal.nD Cert.PrepIdeal.τ).loc Cert.PrepIdeal.main_v4_3) = v3 c
          ∧ r.2.mem ((c.tc : Thread Cert.PrepIdeal.nD Cert.PrepIdeal.τ).loc Cert.PrepIdeal.main_v4_4) = v4 c
          ∧ r.2.mem ((c.tc : Thread Cert.PrepIdeal.nD Cert.PrepIdeal.τ).loc Cert.PrepIdeal.main_v4_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v121) = v0 c
          ∧ r.2.mem ((c.tc : Thread Cert.PrepRefIdeal.nD Cert.PrepRefIdeal.τ).loc Cert.PrepRefIdeal.main_v123) = v1 c
          ∧ r.2.mem ((c.tc : Thread Cert.PrepRefIdeal.nD Cert.PrepRefIdeal.τ).loc Cert.PrepRefIdeal.main_v124) = v2 c
          ∧ r.2.mem ((c.tc : Thread Cert.PrepRefIdeal.nD Cert.PrepRefIdeal.τ).loc Cert.PrepRefIdeal.main_v126) = v3 c
          ∧ r.2.mem ((c.tc : Thread Cert.PrepRefIdeal.nD Cert.PrepRefIdeal.τ).loc Cert.PrepRefIdeal.main_v127) = v4 c
          ∧ r.2.mem ((c.tc : Thread Cert.PrepRefIdeal.nD Cert.PrepRefIdeal.τ).loc Cert.PrepRefIdeal.main_v117) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hSmall : Cert.Small.Facts) (hSmallIdeal : Cert.SmallIdeal.Facts) (hSmallRefIdeal : Cert.SmallRefIdeal.Facts) (hMerge : Cert.Merge.Facts) (hMergeIdeal : Cert.MergeIdeal.Facts) (hMergeRefIdeal : Cert.MergeRefIdeal.Facts) (hPrep : Cert.Prep.Facts) (hPrepIdeal : Cert.PrepIdeal.Facts) (hPrepRefIdeal : Cert.PrepRefIdeal.Facts) (hPre_attention_pre : Cert.Pre_attention_pre.Facts),
    quiescent_Attn (hAttn := hAttn)
    ∧ quiescent_AttnIdeal (hAttnIdeal := hAttnIdeal)
    ∧ quiescent_AttnIdeal_pre_attention_pre (hAttnIdeal := hAttnIdeal) (hPre_attention_pre := hPre_attention_pre)
    ∧ quiescent_AttnRefIdeal (hAttnRefIdeal := hAttnRefIdeal)
    ∧ quiescent_AttnRefIdeal_pre_attention_pre (hAttnRefIdeal := hAttnRefIdeal) (hPre_attention_pre := hPre_attention_pre)
    ∧ quiescent_Mlp (hMlp := hMlp)
    ∧ quiescent_MlpIdeal (hMlpIdeal := hMlpIdeal)
    ∧ quiescent_MlpRefIdeal (hMlpRefIdeal := hMlpRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Small (hSmall := hSmall)
    ∧ quiescent_SmallIdeal (hSmallIdeal := hSmallIdeal)
    ∧ quiescent_SmallRefIdeal (hSmallRefIdeal := hSmallRefIdeal)
    ∧ quiescent_Merge (hMerge := hMerge)
    ∧ quiescent_MergeIdeal (hMergeIdeal := hMergeIdeal)
    ∧ quiescent_MergeRefIdeal (hMergeRefIdeal := hMergeRefIdeal)
    ∧ quiescent_Prep (hPrep := hPrep)
    ∧ quiescent_PrepIdeal (hPrepIdeal := hPrepIdeal)
    ∧ quiescent_PrepRefIdeal (hPrepRefIdeal := hPrepRefIdeal)
    ∧ preserves_Attn_AttnIdeal
    ∧ algebraic_AttnIdeal_AttnRefIdeal_pre_attention_pre (hAttnIdeal := hAttnIdeal) (hAttnRefIdeal := hAttnRefIdeal) (hPre_attention_pre := hPre_attention_pre)
    ∧ preserves_Mlp_MlpIdeal
    ∧ algebraic_MlpIdeal_MlpRefIdeal (hMlpIdeal := hMlpIdeal) (hMlpRefIdeal := hMlpRefIdeal)
    ∧ preserves_Inproj_InprojIdeal
    ∧ algebraic_InprojIdeal_InprojRefIdeal (hInprojIdeal := hInprojIdeal) (hInprojRefIdeal := hInprojRefIdeal)
    ∧ preserves_Small_SmallIdeal
    ∧ algebraic_SmallIdeal_SmallRefIdeal (hSmallIdeal := hSmallIdeal) (hSmallRefIdeal := hSmallRefIdeal)
    ∧ preserves_Merge_MergeIdeal
    ∧ algebraic_MergeIdeal_MergeRefIdeal (hMergeIdeal := hMergeIdeal) (hMergeRefIdeal := hMergeRefIdeal)
    ∧ preserves_Prep_PrepIdeal
    ∧ algebraic_PrepIdeal_PrepRefIdeal (hPrepIdeal := hPrepIdeal) (hPrepRefIdeal := hPrepRefIdeal)
-- ==== Pre_attention_pre.lean ====
abbrev S32768x1024 : Shape := ⟨2, ![32768, 1024]⟩
abbrev S32768x256 : Shape := ⟨2, ![32768, 256]⟩
abbrev S4x8192x8192 : Shape := ⟨3, ![4, 8192, 8192]⟩
abbrev S1 : Shape := ⟨1, ![1]⟩
abbrev S_ : Shape := ⟨0, ![]⟩
abbrev S32768 : Shape := ⟨1, ![32768]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩

class Facts : Prop where
  bitsLt_bf16_f32 : FTy.bits .bf16 < FTy.bits .f32
  reducesTo_S32768x1024_S32768_d1 : S32768x1024.ReducesTo [1] S32768
  h_S_ : 0 < S_.numel
  bcast_S_S32768 : S_.BroadcastsInDim S32768 (![] : Fin 0 → Fin S32768.rank)
  reducesTo_S32768x256_S32768_d1 : S32768x256.ReducesTo [1] S32768
  bcast_S_S4x8192x8192 : S_.BroadcastsInDim S4x8192x8192 (![] : Fin 0 → Fin S4x8192x8192.rank)
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S8192x8192_S1x8192x8192_1_2 : S8192x8192.BroadcastsInDim S1x8192x8192 (![1, 2] : Fin 2 → Fin S1x8192x8192.rank)
  bcast_S1x8192x8192_S4x8192x8192_0_1_2 : S1x8192x8192.BroadcastsInDim S4x8192x8192 (![0, 1, 2] : Fin 3 → Fin S4x8192x8192.rank)
  reducesTo_S4x8192x8192_S4x8192_d2 : S4x8192x8192.ReducesTo [2] S4x8192
  shapeCasts_S4x8192_S32768 : S4x8192.ShapeCasts S32768

variable [Facts]

def fn_part1 {F : FTy → Type} [FloatOps F] (main_v10 : IVec S32768 1) (main_v13 : IVec S4x8192x8192 1) (main_v18 : IVec S8192x8192 1) : IVec S32768 1 :=
  let main_v19 : IVec S1x8192x8192 1 := broadcastInDim S1x8192x8192 ![1, 2] bcast_S8192x8192_S1x8192x8192_1_2 main_v18
  let main_v20 : IVec S4x8192x8192 1 := broadcastInDim S4x8192x8192 ![0, 1, 2] bcast_S1x8192x8192_S4x8192x8192_0_1_2 main_v19
  let main_v21 : IVec S4x8192x8192 1 := andi main_v13 main_v20
  let main_c_3 : IVec S_ 1 := constantI S_ 1 0#1
  let main_v22 : IVec S4x8192 1 := (fun x v => Host.reduce IntOp.ori x v reducesTo_S4x8192x8192_S4x8192_d2 h_S_) main_v21 main_c_3
  let main_v23 : IVec S32768 1 := shapeCast S32768 main_v22 shapeCasts_S4x8192_S32768
  let main_v24 : IVec S32768 1 := andi main_v10 main_v23
  main_v24

def fn {F : FTy → Type} [FloatOps F] (main_arg0 : FVec F S32768x1024 .bf16) (main_arg1 : FVec F S32768x256 .bf16) (main_arg2 : FVec F S32768x256 .bf16) (main_arg3 : IVec S4x8192x8192 32) (main_arg4 : FVec F S1 .f32) : IVec S32768 1 :=
  let main_v0 : FVec F S32768x1024 .f32 := (extf .f32 · bitsLt_bf16_f32) main_arg0
  let main_v1 : FVec F S32768x1024 .f32 := Host.absf main_v0
  let main_cst : FVec F S_ .f32 := constant S_ .f32 0xFF800000#32
  let main_v2 : FVec F S32768 .f32 := (fun x v => Host.reduce FloatOps.maximumf x v reducesTo_S32768x1024_S32768_d1 h_S_) main_v1 main_cst
  let main_cst_0 : FVec F S_ .f32 := constant S_ .f32 0x7F800000#32
  let main_v3 : FVec F S32768 .f32 := broadcastInDim S32768 ![] bcast_S_S32768 main_cst_0
  let main_v4 : IVec S32768 1 := cmpf .olt main_v2 main_v3
  let main_v5 : FVec F S32768x256 .f32 := (extf .f32 · bitsLt_bf16_f32) main_arg1
  let main_v6 : FVec F S32768x256 .f32 := Host.absf main_v5
  let main_cst_1 : FVec F S_ .f32 := constant S_ .f32 0xFF800000#32
  let main_v7 : FVec F S32768 .f32 := (fun x v => Host.reduce FloatOps.maximumf x v reducesTo_S32768x256_S32768_d1 h_S_) main_v6 main_cst_1
  let main_cst_2 : FVec F S_ .f32 := constant S_ .f32 0x7F800000#32
  let main_v8 : FVec F S32768 .f32 := broadcastInDim S32768 ![] bcast_S_S32768 main_cst_2
  let main_v9 : IVec S32768 1 := cmpf .olt main_v7 main_v8
  let main_v10 : IVec S32768 1 := andi main_v4 main_v9
  let main_v11 : IVec S8192 32 := iotaInDim S8192 32 0
  let main_c : IVec S_ 32 := constantI S_ 32 0#32
  let main_v12 : IVec S4x8192x8192 32 := broadcastInDim S4x8192x8192 ![] bcast_S_S4x8192x8192 main_c
  let main_v13 : IVec S4x8192x8192 1 := cmpi .ne main_arg3 main_v12
  let main_v14 : IVec S1x8192 32 := broadcastInDim S1x8192 ![1] bcast_S8192_S1x8192_1 main_v11
  let main_v15 : IVec S8192x1 32 := broadcastInDim S8192x1 ![0] bcast_S8192_S8192x1_0 main_v11
  let main_v16 : IVec S8192x8192 32 := broadcastInDim S8192x8192 ![0, 1] bcast_S1x8192_S8192x8192_0_1 main_v14
  let main_v17 : IVec S8192x8192 32 := broadcastInDim S8192x8192 ![0, 1] bcast_S8192x1_S8192x8192_0_1 main_v15
  let main_v18 : IVec S8192x8192 1 := cmpi .sle main_v16 main_v17
  fn_part1 (F := F) main_v10 main_v13 main_v18
-- ==== Attn.lean ====
abbrev S32768x1024 : Shape := ⟨2, ![32768, 1024]⟩
abbrev S32768x256 : Shape := ⟨2, ![32768, 256]⟩
abbrev S4x8192x8192 : Shape := ⟨3, ![4, 8192, 8192]⟩
abbrev S1 : Shape := ⟨1, ![1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S1x8192x8192 : Shape := ⟨3, ![1, 8192, 8192]⟩
abbrev S4x64x128x16x512 : Shape := ⟨5, ![4, 64, 128, 16, 512]⟩
abbrev S4x64x16x128x512 : Shape := ⟨5, ![4, 64, 16, 128, 512]⟩
abbrev S256x1024 : Shape := ⟨2, ![256, 1024]⟩
abbrev S8192x256 : Shape := ⟨2, ![8192, 256]⟩
abbrev S1x2x16x128x512 : Shape := ⟨5, ![1, 2, 16, 128, 512]⟩
abbrev S2x1024x1 : Shape := ⟨3, ![2, 1024, 1]⟩
abbrev S2x1024x128 : Shape := ⟨3, ![2, 1024, 128]⟩
abbrev S2x1024x256 : Shape := ⟨3, ![2, 1024, 256]⟩
abbrev S256x128 : Shape := ⟨2, ![256, 128]⟩
abbrev S1024x128 : Shape := ⟨2, ![1024, 128]⟩
abbrev S512x128 : Shape := ⟨2, ![512, 128]⟩
abbrev S1x1x1x128x512 : Shape := ⟨5, ![1, 1, 1, 128, 512]⟩
abbrev S128x512 : Shape := ⟨2, ![128, 512]⟩
abbrev S256x512 : Shape := ⟨2, ![256, 512]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩
abbrev S1x1024x1 : Shape := ⟨3, ![1, 1024, 1]⟩
abbrev S1024x1 : Shape := ⟨2, ![1024, 1]⟩
abbrev S1024 : Shape := ⟨1, ![1024]⟩
abbrev S1x1024x128 : Shape := ⟨3, ![1, 1024, 128]⟩

abbrev nBuf : Space → Nat
  | .hbm => 26
  | .vmem => 14
  | .smem => 1
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S4x8192x8192, .i32⟩
  | .hbm, ⟨4, _⟩ => ⟨S1, .f32⟩
  | .hbm, ⟨5, _⟩ => ⟨S8192, .i32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S_, .i32⟩
  | .hbm, ⟨12, _⟩ => ⟨S4x8192x8192, .i32⟩
  | .hbm, ⟨13, _⟩ => ⟨S4x8192x8192, .i1⟩
  | .hbm, ⟨14, _⟩ => ⟨S1x8192x8192, .i1⟩
  | .hbm, ⟨15, _⟩ => ⟨S4x8192x8192, .i1⟩
  | .hbm, ⟨16, _⟩ => ⟨S4x8192x8192, .i1⟩
  | .hbm, ⟨17, _⟩ => ⟨S_, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S4x8192x8192, .bf16⟩
  | .hbm, ⟨23, _⟩ => ⟨S4x64x128x16x512, .bf16⟩
  | .hbm, ⟨24, _⟩ => ⟨S4x64x16x128x512, .bf16⟩
  | .hbm, ⟨25, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1x2x16x128x512, .bf16⟩
  | .local _ .vmem, ⟨7, _⟩ => ⟨S1x2x16x128x512, .bf16⟩
  | .local _ .vmem, ⟨8, _⟩ => ⟨S256x1024, .bf16⟩
  | .local _ .vmem, ⟨9, _⟩ => ⟨S256x1024, .bf16⟩
  | .local _ .vmem, ⟨10, _⟩ => ⟨S2x1024x1, .f32⟩
  | .local _ .vmem, ⟨11, _⟩ => ⟨S2x1024x1, .f32⟩
  | .local _ .vmem, ⟨12, _⟩ => ⟨S2x1024x128, .f32⟩
  | .local _ .vmem, ⟨13, _⟩ => ⟨S2x1024x256, .f32⟩
  | .local _ .smem, ⟨0, _⟩ => ⟨S1, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_26 : BitVec 32 := 1#32
  ⟨c0_i32_24, v48, c1_i32_26⟩
def k0_mult1 (i : grid0.Coords) (k0_t1 : Fin (k0_t1_loop i).trips) : BitVec 32 :=
  let c4_i32 : BitVec 32 := 4#32
  let c0_i32_24 : BitVec 32 := 0#32
  let c1_i32_26 : BitVec 32 := 1#32
  let arg12 : BitVec 32 := Scf.iv c0_i32_24 c1_i32_26 k0_t1
  let v89 : BitVec 32 := Scalar.muli c4_i32 arg12
  let c0_i32_54 : BitVec 32 := 0#32
  let v90 : BitVec 32 := Scalar.addi v89 c0_i32_54
  let c512_i32_55 : BitVec 32 := 512#32
  let v91 : BitVec 32 := Scalar.muli v90 c512_i32_55
  v91
def k0_off1 (i : grid0.Coords) (k0_t1 : Fin (k0_t1_loop i).trips) (c0_i32_54 : BitVec 32) : Fin 5 → Nat :=
  let c0_56 : Index := 0#32
  let c0_57 : Index := 0#32
  let c4_i32 : BitVec 32 := 4#32
  let c0_i32_24 : BitVec 32 := 0#32
  let c1_i32_26 : BitVec 32 := 1#32
  let arg12 : BitVec 32 := Scf.iv c0_i32_24 c1_i32_26 k0_t1
  let v89 : BitVec 32 := Scalar.muli c4_i32 arg12
  let v90 : BitVec 32 := Scalar.addi v89 c0_i32_54
  let v93 : Index := Scalar.indexCast v90
  let c0_58 : Index := 0#32
  let c0_59 : Index := 0#32
  ![0, 0, v93.toNat, 0, 0]
def k0_off2 (i : grid0.Coords) (k0_t1 : Fin (k0_t1_loop i).trips) (c0_i32_54 : BitVec 32) : Fin 5 → Nat :=
  let c0_60 : Index := 0#32
  let c1_61 : Index := 1#32
  let c4_i32 : BitVec 32 := 4#32
  let c0_i32_24 : BitVec 32 := 0#32
  let c1_i32_26 : BitVec 32 := 1#32
  let arg12 : BitVec 32 := Scf.iv c0_i32_24 c1_i32_26 k0_t1
  let v89 : BitVec 32 := Scalar.muli c4_i32 arg12
  let v90 : BitVec 32 := Scalar.addi v89 c0_i32_54
  let v96 : Index := Scalar.indexCast v90
  let c0_62 : Index := 0#32
  let c0_63 : Index := 0#32
  ![0, 1, v96.toNat, 0, 0]
def k0_off3 (i : grid0.Coords) (k0_t1 : Fin (k0_t1_loop i).trips) (c0_i32_54 : BitVec 32) : Fin 2 → Nat :=
  let c4_i32 : BitVec 32 := 4#32
  let c0_i32_24 : BitVec 32 := 0#32
  let c1_i32_26 : BitVec 32 := 1#32
  let arg12 : BitVec 32 := Scf.iv c0_i32_24 c1_i32_26 k0_t1
  let v89 : BitVec 32 := Scalar.muli c4_i32 arg12
  let v90 : BitVec 32 := Scalar.addi v89 c0_i32_54
  let c512_i32_55 : BitVec 32 := 512#32
  let v91 : BitVec 32 := Scalar.muli v90 c512_i32_55
  let v92 : BitVec 32 := v91
  let v102 : Index := Scalar.indexCast v92
  let c0_64 : Index := 0#32
  ![v102.toNat, 0]
def k0_off4 (i : grid0.Coords) (k0_t1 : Fin (k0_t1_loop i).trips) (c0_i32_54 : BitVec 32) : Fin 2 → Nat :=
  let c4_i32 : BitVec 32 := 4#32
  let c0_i32_24 : BitVec 32 := 0#32
  let c1_i32_26 : BitVec 32 := 1#32
  let arg12 : BitVec 32 := Scf.iv c0_i32_24 c1_i32_26 k0_t1
  let v89 : BitVec 32 := Scalar.muli c4_i32 arg12
  let v90 : BitVec 32 := Scalar.addi v89 c0_i32_54
  let c512_i32_55 : BitVec 32 := 512#32
  let v91 : BitVec 32 := Scalar.muli v90 c512_i32_55
  let v92 : BitVec 32 := v91
  let v120 : Index := Scalar.indexCast v92
  let c128_75 : Index := 128#32
  ![v120.toNat, 128]
def k0_mult2 (i : grid0.Coords) (k0_t1 : Fin (k0_t1_loop i).trips) : BitVec 32 :=
  let c4_i32_86 : BitVec 32 := 4#32
  let c0_i32_24 : BitVec 32 := 0#32
  let c1_i32_26 : BitVec 32 := 1#32
  let arg12 : BitVec 32 := Scf.iv c0_i32_24 c1_i32_26 k0_t1
  let v138 : BitVec 32 := Scalar.muli c4_i32_86 arg12
  let c1_i32_87 : BitVec 32 := 1#32
  let v139 : BitVec 32 := Scalar.addi v138 c1_i32_87
  let c512_i32_88 : BitVec 32 := 512#32
  let v140 : BitVec 32 := Scalar.muli v139 c512_i32_88
  v140
def k0_mult3 (i : grid0.Coords) (k0_t1 : Fin (k0_t1_loop i).trips) : BitVec 32 :=
  let c4_i32_119 : BitVec 32 := 4#32
  let c0_i32_24 : BitVec 32 := 0#32
  let c1_i32_26 : BitVec 32 := 1#32
  let arg12 : BitVec 32 := Scf.iv c0_i32_24 c1_i32_26 k0_t1
  let v187 : BitVec 32 := Scalar.muli c4_i32_119 arg12
  let c2_i32_120 : BitVec 32 := 2#32
  let v188 : BitVec 32 := Scalar.addi v187 c2_i32_120
  let c512_i32_121 : BitVec 32 := 512#32
  let v189 : BitVec 32 := Scalar.muli v188 c512_i32_121
  v189
def k0_mult4 (i : grid0.Coords) (k0_t1 : Fin (k0_t1_loop i).trips) : BitVec 32 :=
  let c4_i32_152 : BitVec 32 := 4#32
  let c0_i32_24 : BitVec 32 := 0#32
  let c1_i32_26 : BitVec 32 := 1#32
  let arg12 : BitVec 32 := Scf.iv c0_i32_24 c1_i32_26 k0_t1
  let v236 : BitVec 32 := Scalar.muli c4_i32_152 arg12
  let c3_i32 : BitVec 32 := 3#32
  let v237 : BitVec 32 := Scalar.addi v236 c3_i32
  let c512_i32_153 : BitVec 32 := 512#32
  let v238 : BitVec 32 := Scalar.muli v237 c512_i32_153
  v238
@[reducible] def k0_t2_loop (i : grid0.Coords) : Scf.Loop 32 :=
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let v45 : BitVec 32 := Scalar.addi c0_i32_24 v44
  let c1_i32_27 : BitVec 32 := 1#32
  ⟨v48, v45, c1_i32_27⟩
def k0_mult5 (i : grid0.Coords) (k0_t2 : Fin (k0_t2_loop i).trips) : BitVec 32 :=
  let c4_i32 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v89 : BitVec 32 := Scalar.muli c4_i32 arg12
  let c0_i32_54 : BitVec 32 := 0#32
  let v90 : BitVec 32 := Scalar.addi v89 c0_i32_54
  let c512_i32_55 : BitVec 32 := 512#32
  let v91 : BitVec 32 := Scalar.muli v90 c512_i32_55
  v91
def k0_off5 (i : grid0.Coords) (k0_t2 : Fin (k0_t2_loop i).trips) (c0_i32_54 : BitVec 32) : Fin 5 → Nat :=
  let c0_56 : Index := 0#32
  let c0_57 : Index := 0#32
  let c4_i32 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v89 : BitVec 32 := Scalar.muli c4_i32 arg12
  let v90 : BitVec 32 := Scalar.addi v89 c0_i32_54
  let v93 : Index := Scalar.indexCast v90
  let c0_58 : Index := 0#32
  let c0_59 : Index := 0#32
  ![0, 0, v93.toNat, 0, 0]
def k0_off6 (i : grid0.Coords) (k0_t2 : Fin (k0_t2_loop i).trips) (c0_i32_54 : BitVec 32) : Fin 5 → Nat :=
  let c0_60 : Index := 0#32
  let c1_61 : Index := 1#32
  let c4_i32 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v89 : BitVec 32 := Scalar.muli c4_i32 arg12
  let v90 : BitVec 32 := Scalar.addi v89 c0_i32_54
  let v96 : Index := Scalar.indexCast v90
  let c0_62 : Index := 0#32
  let c0_63 : Index := 0#32
  ![0, 1, v96.toNat, 0, 0]
def k0_off7 (i : grid0.Coords) (k0_t2 : Fin (k0_t2_loop i).trips) (c0_i32_54 : BitVec 32) : Fin 2 → Nat :=
  let c4_i32 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v89 : BitVec 32 := Scalar.muli c4_i32 arg12
  let v90 : BitVec 32 := Scalar.addi v89 c0_i32_54
  let c512_i32_55 : BitVec 32 := 512#32
  let v91 : BitVec 32 := Scalar.muli v90 c512_i32_55
  let v92 : BitVec 32 := v91
  let v102 : Index := Scalar.indexCast v92
  let c0_64 : Index := 0#32
  ![v102.toNat, 0]
def k0_off8 (i : grid0.Coords) (k0_t2 : Fin (k0_t2_loop i).trips) (c0_i32_54 : BitVec 32) : Fin 2 → Nat :=
  let c4_i32 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v89 : BitVec 32 := Scalar.muli c4_i32 arg12
  let v90 : BitVec 32 := Scalar.addi v89 c0_i32_54
  let c512_i32_55 : BitVec 32 := 512#32
  let v91 : BitVec 32 := Scalar.muli v90 c512_i32_55
  let v92 : BitVec 32 := v91
  let v120 : Index := Scalar.indexCast v92
  let c128_75 : Index := 128#32
  ![v120.toNat, 128]
def k0_mult6 (i : grid0.Coords) (k0_t2 : Fin (k0_t2_loop i).trips) : BitVec 32 :=
  let c4_i32_86 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v138 : BitVec 32 := Scalar.muli c4_i32_86 arg12
  let c1_i32_87 : BitVec 32 := 1#32
  let v139 : BitVec 32 := Scalar.addi v138 c1_i32_87
  let c512_i32_88 : BitVec 32 := 512#32
  let v140 : BitVec 32 := Scalar.muli v139 c512_i32_88
  v140
def k0_mult7 (i : grid0.Coords) (k0_t2 : Fin (k0_t2_loop i).trips) : BitVec 32 :=
  let c4_i32_119 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v187 : BitVec 32 := Scalar.muli c4_i32_119 arg12
  let c2_i32_120 : BitVec 32 := 2#32
  let v188 : BitVec 32 := Scalar.addi v187 c2_i32_120
  let c512_i32_121 : BitVec 32 := 512#32
  let v189 : BitVec 32 := Scalar.muli v188 c512_i32_121
  v189
def k0_mult8 (i : grid0.Coords) (k0_t2 : Fin (k0_t2_loop i).trips) : BitVec 32 :=
  let c4_i32_152 : BitVec 32 := 4#32
  let c0_i32_24 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let v44 : BitVec 32 := Scalar.subi v43 c0_i32_24
  let c1_i32_25 : BitVec 32 := 1#32
  let v46 : BitVec 32 := Scalar.divsi v44 c1_i32_25
  let v47 : BitVec 32 := Scalar.muli v46 c1_i32_25
  let v48 : BitVec 32 := Scalar.addi c0_i32_24 v47
  let c1_i32_27 : BitVec 32 := 1#32
  let arg12 : BitVec 32 := Scf.iv v48 c1_i32_27 k0_t2
  let v236 : BitVec 32 := Scalar.muli c4_i32_152 arg12
  let c3_i32 : BitVec 32 := 3#32
  let v237 : BitVec 32 := Scalar.addi v236 c3_i32
  let c512_i32_153 : BitVec 32 := 512#32
  let v238 : BitVec 32 := Scalar.muli v237 c512_i32_153
  v238
@[reducible] def k0_t3_loop (i : grid0.Coords) : Scf.Loop 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let v50 : BitVec 32 := Scalar.subi v20 v49
  let c1_i32_30 : BitVec 32 := 1#32
  let v52 : BitVec 32 := Scalar.divsi v50 c1_i32_30
  let v53 : BitVec 32 := Scalar.muli v52 c1_i32_30
  let v54 : BitVec 32 := Scalar.addi v49 v53
  let c1_i32_31 : BitVec 32 := 1#32
  ⟨v49, v54, c1_i32_31⟩
def k0_mult9 (i : grid0.Coords) (k0_t3 : Fin (k0_t3_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let c1_i32_31 : BitVec 32 := 1#32
  let arg12 : BitVec 32 := Scf.iv v49 c1_i32_31 k0_t3
  let c512_i32_54 : BitVec 32 := 512#32
  let v89 : BitVec 32 := Scalar.muli arg12 c512_i32_54
  v89
def k0_off9 (i : grid0.Coords) (k0_t3 : Fin (k0_t3_loop i).trips) : Fin 5 → Nat :=
  let c0_55 : Index := 0#32
  let c0_56 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let c1_i32_31 : BitVec 32 := 1#32
  let arg12 : BitVec 32 := Scf.iv v49 c1_i32_31 k0_t3
  let v91 : Index := Scalar.indexCast arg12
  let c0_57 : Index := 0#32
  let c0_58 : Index := 0#32
  ![0, 0, v91.toNat, 0, 0]
def k0_off10 (i : grid0.Coords) (k0_t3 : Fin (k0_t3_loop i).trips) : Fin 5 → Nat :=
  let c0_59 : Index := 0#32
  let c1_60 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let c1_i32_31 : BitVec 32 := 1#32
  let arg12 : BitVec 32 := Scf.iv v49 c1_i32_31 k0_t3
  let v94 : Index := Scalar.indexCast arg12
  let c0_61 : Index := 0#32
  let c0_62 : Index := 0#32
  ![0, 1, v94.toNat, 0, 0]
def k0_off11 (i : grid0.Coords) (k0_t3 : Fin (k0_t3_loop i).trips) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let c1_i32_31 : BitVec 32 := 1#32
  let arg12 : BitVec 32 := Scf.iv v49 c1_i32_31 k0_t3
  let c512_i32_54 : BitVec 32 := 512#32
  let v89 : BitVec 32 := Scalar.muli arg12 c512_i32_54
  let v90 : BitVec 32 := v89
  let v100 : Index := Scalar.indexCast v90
  let c0_63 : Index := 0#32
  ![v100.toNat, 0]
def k0_off12 (i : grid0.Coords) (k0_t3 : Fin (k0_t3_loop i).trips) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let c1_i32_31 : BitVec 32 := 1#32
  let arg12 : BitVec 32 := Scf.iv v49 c1_i32_31 k0_t3
  let c512_i32_54 : BitVec 32 := 512#32
  let v89 : BitVec 32 := Scalar.muli arg12 c512_i32_54
  let v90 : BitVec 32 := v89
  let v118 : Index := Scalar.indexCast v90
  let c128_74 : Index := 128#32
  ![v118.toNat, 128]
@[reducible] def k0_t4_loop (i : grid0.Coords) : Scf.Loop 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let v50 : BitVec 32 := Scalar.subi v20 v49
  let c1_i32_30 : BitVec 32 := 1#32
  let v52 : BitVec 32 := Scalar.divsi v50 c1_i32_30
  let v53 : BitVec 32 := Scalar.muli v52 c1_i32_30
  let v54 : BitVec 32 := Scalar.addi v49 v53
  let v51 : BitVec 32 := Scalar.addi v49 v50
  let c1_i32_32 : BitVec 32 := 1#32
  ⟨v54, v51, c1_i32_32⟩
def k0_mult10 (i : grid0.Coords) (k0_t4 : Fin (k0_t4_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let v50 : BitVec 32 := Scalar.subi v20 v49
  let c1_i32_30 : BitVec 32 := 1#32
  let v52 : BitVec 32 := Scalar.divsi v50 c1_i32_30
  let v53 : BitVec 32 := Scalar.muli v52 c1_i32_30
  let v54 : BitVec 32 := Scalar.addi v49 v53
  let c1_i32_32 : BitVec 32 := 1#32
  let arg12 : BitVec 32 := Scf.iv v54 c1_i32_32 k0_t4
  let c512_i32_54 : BitVec 32 := 512#32
  let v89 : BitVec 32 := Scalar.muli arg12 c512_i32_54
  v89
def k0_off13 (i : grid0.Coords) (k0_t4 : Fin (k0_t4_loop i).trips) : Fin 5 → Nat :=
  let c0_55 : Index := 0#32
  let c0_56 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let v50 : BitVec 32 := Scalar.subi v20 v49
  let c1_i32_30 : BitVec 32 := 1#32
  let v52 : BitVec 32 := Scalar.divsi v50 c1_i32_30
  let v53 : BitVec 32 := Scalar.muli v52 c1_i32_30
  let v54 : BitVec 32 := Scalar.addi v49 v53
  let c1_i32_32 : BitVec 32 := 1#32
  let arg12 : BitVec 32 := Scf.iv v54 c1_i32_32 k0_t4
  let v91 : Index := Scalar.indexCast arg12
  let c0_57 : Index := 0#32
  let c0_58 : Index := 0#32
  ![0, 0, v91.toNat, 0, 0]
def k0_off14 (i : grid0.Coords) (k0_t4 : Fin (k0_t4_loop i).trips) : Fin 5 → Nat :=
  let c0_59 : Index := 0#32
  let c1_60 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let v50 : BitVec 32 := Scalar.subi v20 v49
  let c1_i32_30 : BitVec 32 := 1#32
  let v52 : BitVec 32 := Scalar.divsi v50 c1_i32_30
  let v53 : BitVec 32 := Scalar.muli v52 c1_i32_30
  let v54 : BitVec 32 := Scalar.addi v49 v53
  let c1_i32_32 : BitVec 32 := 1#32
  let arg12 : BitVec 32 := Scf.iv v54 c1_i32_32 k0_t4
  let v94 : Index := Scalar.indexCast arg12
  let c0_61 : Index := 0#32
  let c0_62 : Index := 0#32
  ![0, 1, v94.toNat, 0, 0]
def k0_off15 (i : grid0.Coords) (k0_t4 : Fin (k0_t4_loop i).trips) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let v50 : BitVec 32 := Scalar.subi v20 v49
  let c1_i32_30 : BitVec 32 := 1#32
  let v52 : BitVec 32 := Scalar.divsi v50 c1_i32_30
  let v53 : BitVec 32 := Scalar.muli v52 c1_i32_30
  let v54 : BitVec 32 := Scalar.addi v49 v53
  let c1_i32_32 : BitVec 32 := 1#32
  let arg12 : BitVec 32 := Scf.iv v54 c1_i32_32 k0_t4
  let c512_i32_54 : BitVec 32 := 512#32
  let v89 : BitVec 32 := Scalar.muli arg12 c512_i32_54
  let v90 : BitVec 32 := v89
  let v100 : Index := Scalar.indexCast v90
  let c0_63 : Index := 0#32
  ![v100.toNat, 0]
def k0_off16 (i : grid0.Coords) (k0_t4 : Fin (k0_t4_loop i).trips) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v43 : BitVec 32 := Scalar.shrui v20 c2_i32
  let c2_i32_28 : BitVec 32 := 2#32
  let v49 : BitVec 32 := Scalar.shli v43 c2_i32_28
  let v50 : BitVec 32 := Scalar.subi v20 v49
  let c1_i32_30 : BitVec 32 := 1#32
  let v52 : BitVec 32 := Scalar.divsi v50 c1_i32_30
  let v53 : BitVec 32 := Scalar.muli v52 c1_i32_30
  let v54 : BitVec 32 := Scalar.addi v49 v53
  let c1_i32_32 : BitVec 32 := 1#32
  let arg12 : BitVec 32 := Scf.iv v54 c1_i32_32 k0_t4
  let c512_i32_54 : BitVec 32 := 512#32
  let v89 : BitVec 32 := Scalar.muli arg12 c512_i32_54
  let v90 : BitVec 32 := v89
  let v118 : Index := Scalar.indexCast v90
  let c128_74 : Index := 128#32
  ![v118.toNat, 128]
@[reducible] def k0_t5_loop (i : grid0.Coords) : Scf.Loop 32 :=
  let c0_i32_31 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v50 : BitVec 32 := Scalar.subi v20 c0_i32_31
  let c1_i32_32 : BitVec 32 := 1#32
  let v52 : BitVec 32 := Scalar.divsi v50 c1_i32_32
  let v53 : BitVec 32 := Scalar.muli v52 c1_i32_32
  let v54 : BitVec 32 := Scalar.addi c0_i32_31 v53
  let c1_i32_33 : BitVec 32 := 1#32
  ⟨c0_i32_31, v54, c1_i32_33⟩
def k0_mult11 (i : grid0.Coords) (k0_t5 : Fin (k0_t5_loop i).trips) : BitVec 32 :=
  let c0_i32_31 : BitVec 32 := 0#32
  let c1_i32_33 : BitVec 32 := 1#32
  let arg12 : BitVec 32 := Scf.iv c0_i32_31 c1_i32_33 k0_t5
  let c512_i32_62 : BitVec 32 := 512#32
  let v91 : BitVec 32 := Scalar.muli arg12 c512_i32_62
  v91
def k0_off17 (i : grid0.Coords) (k0_t5 : Fin (k0_t5_loop i).trips) : Fin 5 → Nat :=
  let c0_63 : Index := 0#32
  let c0_64 : Index := 0#32
  let c0_i32_31 : BitVec 32 := 0#32
  let c1_i32_33 : BitVec 32 := 1#32
  let arg12 : BitVec 32 := Scf.iv c0_i32_31 c1_i32_33 k0_t5
  let v93 : Index := Scalar.indexCast arg12
  let c0_65 : Index := 0#32
  let c0_66 : Index := 0#32
  ![0, 0, v93.toNat, 0, 0]
def k0_off18 (i : grid0.Coords) (k0_t5 : Fin (k0_t5_loop i).trips) : Fin 5 → Nat :=
  let c0_67 : Index := 0#32
  let c1_68 : Index := 1#32
  let c0_i32_31 : BitVec 32 := 0#32
  let c1_i32_33 : BitVec 32 := 1#32
  let arg12 : BitVec 32 := Scf.iv c0_i32_31 c1_i32_33 k0_t5
  let v96 : Index := Scalar.indexCast arg12
  let c0_69 : Index := 0#32
  let c0_70 : Index := 0#32
  ![0, 1, v96.toNat, 0, 0]
def k0_off19 (i : grid0.Coords) (k0_t5 : Fin (k0_t5_loop i).trips) : Fin 2 → Nat :=
  let c0_i32_31 : BitVec 32 := 0#32
  let c1_i32_33 : BitVec 32 := 1#32
  let arg12 : BitVec 32 := Scf.iv c0_i32_31 c1_i32_33 k0_t5
  let c512_i32_62 : BitVec 32 := 512#32
  let v91 : BitVec 32 := Scalar.muli arg12 c512_i32_62
  let v92 : BitVec 32 := v91
  let v102 : Index := Scalar.indexCast v92
  let c0_71 : Index := 0#32
  ![v102.toNat, 0]
def k0_off20 (i : grid0.Coords) (k0_t5 : Fin (k0_t5_loop i).trips) : Fin 2 → Nat :=
  let c0_i32_31 : BitVec 32 := 0#32
  let c1_i32_33 : BitVec 32 := 1#32
  let arg12 : BitVec 32 := Scf.iv c0_i32_31 c1_i32_33 k0_t5
  let c512_i32_62 : BitVec 32 := 512#32
  let v91 : BitVec 32 := Scalar.muli arg12 c512_i32_62
  let v92 : BitVec 32 := v91
  let v142 : Index := Scalar.indexCast v92
  let c128_96 : Index := 128#32
  ![v142.toNat, 128]
@[reducible] def k0_t6_loop (i : grid0.Coords) : Scf.Loop 32 :=
  let c0_i32_31 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v50 : BitVec 32 := Scalar.subi v20 c0_i32_31
  let c1_i32_32 : BitVec 32 := 1#32
  let v52 : BitVec 32 := Scalar.divsi v50 c1_i32_32
  let v53 : BitVec 32 := Scalar.muli v52 c1_i32_32
  let v54 : BitVec 32 := Scalar.addi c0_i32_31 v53
  let v51 : BitVec 32 := Scalar.addi c0_i32_31 v50
  let c1_i32_34 : BitVec 32 := 1#32
  ⟨v54, v51, c1_i32_34⟩
def k0_mult12 (i : grid0.Coords) (k0_t6 : Fin (k0_t6_loop i).trips) : BitVec 32 :=
  let c0_i32_31 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v50 : BitVec 32 := Scalar.subi v20 c0_i32_31
  let c1_i32_32 : BitVec 32 := 1#32
  let v52 : BitVec 32 := Scalar.divsi v50 c1_i32_32
  let v53 : BitVec 32 := Scalar.muli v52 c1_i32_32
  let v54 : BitVec 32 := Scalar.addi c0_i32_31 v53
  let c1_i32_34 : BitVec 32 := 1#32
  let arg12 : BitVec 32 := Scf.iv v54 c1_i32_34 k0_t6
  let c512_i32_62 : BitVec 32 := 512#32
  let v91 : BitVec 32 := Scalar.muli arg12 c512_i32_62
  v91
def k0_off21 (i : grid0.Coords) (k0_t6 : Fin (k0_t6_loop i).trips) : Fin 5 → Nat :=
  let c0_63 : Index := 0#32
  let c0_64 : Index := 0#32
  let c0_i32_31 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v50 : BitVec 32 := Scalar.subi v20 c0_i32_31
  let c1_i32_32 : BitVec 32 := 1#32
  let v52 : BitVec 32 := Scalar.divsi v50 c1_i32_32
  let v53 : BitVec 32 := Scalar.muli v52 c1_i32_32
  let v54 : BitVec 32 := Scalar.addi c0_i32_31 v53
  let c1_i32_34 : BitVec 32 := 1#32
  let arg12 : BitVec 32 := Scf.iv v54 c1_i32_34 k0_t6
  let v93 : Index := Scalar.indexCast arg12
  let c0_65 : Index := 0#32
  let c0_66 : Index := 0#32
  ![0, 0, v93.toNat, 0, 0]
def k0_off22 (i : grid0.Coords) (k0_t6 : Fin (k0_t6_loop i).trips) : Fin 5 → Nat :=
  let c0_67 : Index := 0#32
  let c1_68 : Index := 1#32
  let c0_i32_31 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v50 : BitVec 32 := Scalar.subi v20 c0_i32_31
  let c1_i32_32 : BitVec 32 := 1#32
  let v52 : BitVec 32 := Scalar.divsi v50 c1_i32_32
  let v53 : BitVec 32 := Scalar.muli v52 c1_i32_32
  let v54 : BitVec 32 := Scalar.addi c0_i32_31 v53
  let c1_i32_34 : BitVec 32 := 1#32
  let arg12 : BitVec 32 := Scf.iv v54 c1_i32_34 k0_t6
  let v96 : Index := Scalar.indexCast arg12
  let c0_69 : Index := 0#32
  let c0_70 : Index := 0#32
  ![0, 1, v96.toNat, 0, 0]
def k0_off23 (i : grid0.Coords) (k0_t6 : Fin (k0_t6_loop i).trips) : Fin 2 → Nat :=
  let c0_i32_31 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v50 : BitVec 32 := Scalar.subi v20 c0_i32_31
  let c1_i32_32 : BitVec 32 := 1#32
  let v52 : BitVec 32 := Scalar.divsi v50 c1_i32_32
  let v53 : BitVec 32 := Scalar.muli v52 c1_i32_32
  let v54 : BitVec 32 := Scalar.addi c0_i32_31 v53
  let c1_i32_34 : BitVec 32 := 1#32
  let arg12 : BitVec 32 := Scf.iv v54 c1_i32_34 k0_t6
  let c512_i32_62 : BitVec 32 := 512#32
  let v91 : BitVec 32 := Scalar.muli arg12 c512_i32_62
  let v92 : BitVec 32 := v91
  let v102 : Index := Scalar.indexCast v92
  let c0_71 : Index := 0#32
  ![v102.toNat, 0]
def k0_off24 (i : grid0.Coords) (k0_t6 : Fin (k0_t6_loop i).trips) : Fin 2 → Nat :=
  let c0_i32_31 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v50 : BitVec 32 := Scalar.subi v20 c0_i32_31
  let c1_i32_32 : BitVec 32 := 1#32
  let v52 : BitVec 32 := Scalar.divsi v50 c1_i32_32
  let v53 : BitVec 32 := Scalar.muli v52 c1_i32_32
  let v54 : BitVec 32 := Scalar.addi c0_i32_31 v53
  let c1_i32_34 : BitVec 32 := 1#32
  let arg12 : BitVec 32 := Scf.iv v54 c1_i32_34 k0_t6
  let c512_i32_62 : BitVec 32 := 512#32
  let v91 : BitVec 32 := Scalar.muli arg12 c512_i32_62
  let v92 : BitVec 32 := v91
  let v142 : Index := Scalar.indexCast v92
  let c128_96 : Index := 128#32
  ![v142.toNat, 128]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnIdeal.lean ====
variable {F : FTy → Type} [FloatOps F] [Named F]
def κ : String → Option EReal := fun
  | "mask" => some ⊥
  | "scale" => some (((Real.sqrt 128)⁻¹ : ℝ) : EReal)
  | "scale_log2e" => some (((Real.sqrt 128)⁻¹ * (Real.log 2)⁻¹ : ℝ) : EReal)
  | _ => none
-- ==== AttnRefIdeal.lean ====
abbrev S32768x1024 : Shape := ⟨2, ![32768, 1024]⟩
abbrev S32768x256 : Shape := ⟨2, ![32768, 256]⟩
abbrev S4x8192x8192 : Shape := ⟨3, ![4, 8192, 8192]⟩
abbrev S1 : Shape := ⟨1, ![1]⟩
abbrev S4x8192x2x4x128 : Shape := ⟨5, ![4, 8192, 2, 4, 128]⟩
abbrev S4x8192x2x128 : Shape := ⟨4, ![4, 8192, 2, 128]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x2x8192x8192x4 : Shape := ⟨5, ![4, 2, 8192, 8192, 4]⟩
abbrev S4x8192x2x4x8192 : Shape := ⟨5, ![4, 8192, 2, 4, 8192]⟩
abbrev S4x8192x1x1x8192 : Shape := ⟨5, ![4, 8192, 1, 1, 8192]⟩
abbrev S4x8192x2x4 : Shape := ⟨4, ![4, 8192, 2, 4]⟩
abbrev S4x8192x2x4x1 : Shape := ⟨5, ![4, 8192, 2, 4, 1]⟩
abbrev S4x2x128x8192x4 : Shape := ⟨5, ![4, 2, 128, 8192, 4]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S4x8192x8192, .i32⟩
  | .hbm, ⟨4, _⟩ => ⟨S1, .f32⟩
  | .hbm, ⟨5, _⟩ => ⟨S32768x1024, .f32⟩
  | .hbm, ⟨6, _⟩ => ⟨S4x8192x2x4x128, .f32⟩
  | .hbm, ⟨7, _⟩ => ⟨S32768x256, .f32⟩
  | .hbm, ⟨8, _⟩ => ⟨S4x8192x2x128, .f32⟩
  | .hbm, ⟨9, _⟩ => ⟨S32768x256, .f32⟩
  | .hbm, ⟨10, _⟩ => ⟨S4x8192x2x128, .f32⟩
  | .hbm, ⟨11, _⟩ => ⟨S8192, .i32⟩
  | .hbm, ⟨12, _⟩ => ⟨S_, .i32⟩
  | .hbm, ⟨13, _⟩ => ⟨S4x8192x8192, .i32⟩
  | .hbm, ⟨14, _⟩ => ⟨S4x8192x8192, .i1⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S4x8192x8192, .i1⟩
  | .hbm, ⟨22, _⟩ => ⟨S4x8192x8192, .i1⟩
  | .hbm, ⟨23, _⟩ => ⟨S4x2x8192x8192x4, .f32⟩
  | .hbm, ⟨24, _⟩ => ⟨S4x8192x2x4x8192, .f32⟩
  | .hbm, ⟨25, _⟩ => ⟨S_, .f32⟩
  | .hbm, ⟨26, _⟩ => ⟨S_, .f32⟩
  | .hbm, ⟨27, _⟩ => ⟨S4x8192x2x4x8192, .f32⟩
  | .hbm, ⟨28, _⟩ => ⟨S4x8192x2x4x8192, .f32⟩
  | .hbm, ⟨29, _⟩ => ⟨S4x8192x1x1x8192, .i1⟩
  | .hbm, ⟨30, _⟩ => ⟨S_, .f32⟩
  | .hbm, ⟨31, _⟩ => ⟨S_, .f32⟩
  | .hbm, ⟨32, _⟩ => ⟨S4x8192x2x4x8192, .i1⟩
  | .hbm, ⟨33, _⟩ => ⟨S4x8192x2x4x8192, .f32⟩
  | .hbm, ⟨34, _⟩ => ⟨S4x8192x2x4x8192, .f32⟩
  | .hbm, ⟨35, _⟩ => ⟨S_, .f32⟩
  | .hbm, ⟨36, _⟩ => ⟨S4x8192x2x4, .f32⟩
  | .hbm, ⟨37, _⟩ => ⟨S_, .f32⟩
  | .hbm, ⟨38, _⟩ => ⟨S4x8192x2x4, .f32⟩
  | .hbm, ⟨39, _⟩ => ⟨S4x8192x2x4, .f32⟩
  | .hbm, ⟨40, _⟩ => ⟨S4x8192x2x4x1, .f32⟩
  | .hbm, ⟨41, _⟩ => ⟨S4x8192x2x4x8192, .f32⟩
  | .hbm, ⟨42, _⟩ => ⟨S4x8192x2x4x8192, .f32⟩
  | .hbm, ⟨43, _⟩ => ⟨S4x8192x2x4x8192, .f32⟩
  | .hbm, ⟨44, _⟩ => ⟨S_, .f32⟩
  | .hbm, ⟨45, _⟩ => ⟨S4x8192x2x4, .f32⟩
  | .hbm, ⟨46, _⟩ => ⟨S4x8192x2x4x1, .f32⟩
  | .hbm, ⟨47, _⟩ => ⟨S4x8192x2x4x8192, .f32⟩
  | .hbm, ⟨48, _⟩ => ⟨S4x8192x2x4x8192, .f32⟩
  | .hbm, ⟨49, _⟩ => ⟨S4x2x128x8192x4, .f32⟩
  | .hbm, ⟨50, _⟩ => ⟨S4x8192x2x4x128, .f32⟩
  | .hbm, ⟨51, _⟩ => ⟨S32768x1024, .f32⟩
  | .hbm, ⟨52, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Mlp.lean ====
abbrev S32768x1024 : Shape := ⟨2, ![32768, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S32768x1024 : Shape := ⟨2, ![32768, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x4096, .f32⟩
  | .hbm, ⟨20, _⟩ => ⟨S_, .f32⟩
  | .hbm, ⟨21, _⟩ => ⟨S32768x4096, .f32⟩
  | .hbm, ⟨22, _⟩ => ⟨S32768x4096, .f32⟩
  | .hbm, ⟨23, _⟩ => ⟨S32768x4096, .f32⟩
  | .hbm, ⟨24, _⟩ => ⟨S32768x1024, .f32⟩
  | .hbm, ⟨25, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Inproj.lean ====
abbrev S32768x1024 : Shape := ⟨2, ![32768, 1024]⟩
abbrev S1x1024 : Shape := ⟨2, ![1, 1024]⟩
abbrev S1024x8192 : Shape := ⟨2, ![1024, 8192]⟩
abbrev S32768x8192 : Shape := ⟨2, ![32768, 8192]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x8192, .f32⟩
  | .hbm, ⟨3, _⟩ => ⟨S1024x8192, .bf16⟩
  | .hbm, ⟨4, _⟩ => ⟨S32768x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S32768x1024 : Shape := ⟨2, ![32768, 1024]⟩
abbrev S1x1024 : Shape := ⟨2, ![1, 1024]⟩
abbrev S1024x8192 : Shape := ⟨2, ![1024, 8192]⟩
abbrev S_ : Shape := ⟨0, ![]⟩
abbrev S32768 : Shape := ⟨1, ![32768]⟩
abbrev S32768x1 : Shape := ⟨2, ![32768, 1]⟩
abbrev S32768x8192 : Shape := ⟨2, ![32768, 8192]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x8192, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x8192, .f32⟩
  | .hbm, ⟨19, _⟩ => ⟨S32768x8192, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Small.lean ====
abbrev S32768x1024 : Shape := ⟨2, ![32768, 1024]⟩
abbrev S1x1024 : Shape := ⟨2, ![1, 1024]⟩
abbrev S1024x128 : Shape := ⟨2, ![1024, 128]⟩
abbrev S32768x128 : Shape := ⟨2, ![32768, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x128, .f32⟩
  | .hbm, ⟨3, _⟩ => ⟨S1024x128, .bf16⟩
  | .hbm, ⟨4, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SmallRefIdeal.lean ====
abbrev S32768x1024 : Shape := ⟨2, ![32768, 1024]⟩
abbrev S1x1024 : Shape := ⟨2, ![1, 1024]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S32768x128 : Shape := ⟨2, ![32768, 128]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x128, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Merge.lean ====
abbrev S32768x8192 : Shape := ⟨2, ![32768, 8192]⟩
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S32768x8192, .bf16⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S1024x1024, .f32⟩
  | .hbm, ⟨5, _⟩ => ⟨S1024x1024, .bf16⟩
  | .hbm, ⟨6, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S32768x8192 : Shape := ⟨2, ![32768, 8192]⟩
abbrev S32768x1024 : Shape := ⟨2, ![32768, 1024]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S32768x8192, .bf16⟩
  | .hbm, ⟨1, _⟩ => ⟨S32768x1024, .bf16⟩
  | .hbm, ⟨2, _⟩ => ⟨S32768x1024, .bf16⟩
  | .hbm, ⟨3, _⟩ => ⟨S32768x1024, .f32⟩
  | .hbm, ⟨4, _⟩ => ⟨S1024x1024, .f32⟩
  | .hbm, ⟨5, _⟩ => ⟨S32768x8192, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Prep.lean ====
abbrev S32768x8192 : Shape := ⟨2, ![32768, 8192]⟩
abbrev S32768x128 : Shape := ⟨2, ![32768, 128]⟩
abbrev S8192x16 : Shape := ⟨2, ![8192, 16]⟩
abbrev S8192x8 : Shape := ⟨2, ![8192, 8]⟩
abbrev S1x128 : Shape := ⟨2, ![1, 128]⟩
abbrev S_ : Shape := ⟨0, ![]⟩
abbrev S8192x32 : Shape := ⟨2, ![8192, 32]⟩
abbrev S8192x128 : Shape := ⟨2, ![8192, 128]⟩
abbrev S32768x1024 : Shape := ⟨2, ![32768, 1024]⟩
abbrev S32768x256 : Shape := ⟨2, ![32768, 256]⟩
abbrev S32768x512 : Shape := ⟨2, ![32768, 512]⟩
abbrev S4x16x64x512 : Shape := ⟨4, ![4, 16, 64, 512]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S1x1x64x512 : Shape := ⟨4, ![1, 1, 64, 512]⟩
abbrev S512 : Shape := ⟨1, ![512]⟩
abbrev S512x1 : Shape := ⟨2, ![512, 1]⟩
abbrev S128x512 : Shape := ⟨2, ![128, 512]⟩
abbrev S64x512 : Shape := ⟨2, ![64, 512]⟩

abbrev nBuf : Space → Nat
  | .hbm => 19
  | .vmem => 24
  | .smem => 0
  | _ => 0

abbrev bufTy : (tb : Table) → Fin (tcTables nBuf tb) → BufTy
  | .hbm, ⟨0, _⟩ => ⟨S32768x8192, .bf16⟩
  | .hbm, ⟨1, _⟩ => ⟨S32768x128, .f32⟩
  | .hbm, ⟨2, _⟩ => ⟨S8192x16, .f32⟩
  | .hbm, ⟨3, _⟩ => ⟨S8192x16, .f32⟩
  | .hbm, ⟨4, _⟩ => ⟨S8192x8, .f32⟩
  | .hbm, ⟨5, _⟩ => ⟨S8192x8, .f32⟩
  | .hbm, ⟨6, _⟩ => ⟨S1x128, .f32⟩
  | .hbm, ⟨7, _⟩ => ⟨S1x128, .f32⟩
  | .hbm, ⟨8, _⟩ => ⟨S8192x16, .f32⟩
  | .hbm, ⟨9, _⟩ => ⟨S8192x8, .f32⟩
  | .hbm, ⟨10, _⟩ => ⟨S_, .f32⟩
  | .hbm, ⟨11, _⟩ => ⟨S8192x32, .f32⟩
  | .hbm, ⟨12, _⟩ => ⟨S8192x128, .f32⟩
  | .hbm, ⟨13, _⟩ => ⟨S32768x1024, .bf16⟩
  | .hbm, ⟨14, _⟩ => ⟨S32768x256, .bf16⟩
  | .hbm, ⟨15, _⟩ => ⟨S32768x256, .bf16⟩
  | .hbm, ⟨16, _⟩ => ⟨S32768x512, .bf16⟩
  | .hbm, ⟨17, _⟩ => ⟨S4x16x64x512, .bf16⟩
  | .hbm, ⟨18, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x512, .bf16⟩
  | .local _ .vmem, ⟨19, _⟩ => ⟨S512x512, .bf16⟩
  | .local _ .vmem, ⟨20, _⟩ => ⟨S1x1x64x512, .bf16⟩
  | .local _ .vmem, ⟨21, _⟩ => ⟨S1x1x64x512, .bf16⟩
  | .local _ .vmem, ⟨22, _⟩ => ⟨S512x128, .f32⟩
  | .local _ .vmem, ⟨23, _⟩ => ⟨S512x128, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepRefIdeal.lean ====
abbrev S32768x8192 : Shape := ⟨2, ![32768, 8192]⟩
abbrev S32768x128 : Shape := ⟨2, ![32768, 128]⟩
abbrev S8192x16 : Shape := ⟨2, ![8192, 16]⟩
abbrev S8192x8 : Shape := ⟨2, ![8192, 8]⟩
abbrev S1x128 : Shape := ⟨2, ![1, 128]⟩
abbrev S32768x1024 : Shape := ⟨2, ![32768, 1024]⟩
abbrev S4x8192x8x128 : Shape := ⟨4, ![4, 8192, 8, 128]⟩
abbrev S32768x256 : Shape := ⟨2, ![32768, 256]⟩
abbrev S4x8192x2x128 : Shape := ⟨4, ![4, 8192, 2, 128]⟩
abbrev S32768x512 : Shape := ⟨2, ![32768, 512]⟩
abbrev S4x8192x8x64 : Shape := ⟨4, ![4, 8192, 8, 64]⟩
abbrev S32768x64 : Shape := ⟨2, ![32768, 64]⟩
abbrev S4x8192x64 : Shape := ⟨3, ![4, 8192, 64]⟩
abbrev S128 : Shape := ⟨1, ![128]⟩
abbrev S_ : Shape := ⟨0, ![]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S8192x1x16 : Shape := ⟨3, ![8192, 1, 16]⟩
abbrev S4x8192x8x16 : Shape := ⟨4, ![4, 8192, 8, 16]⟩
abbrev S1x8192x1x16 : Shape := ⟨4, ![1, 8192, 1, 16]⟩
abbrev S4x8192x8x96 : Shape := ⟨4, ![4, 8192, 8, 96]⟩
abbrev S4x8192x2 : Shape := ⟨3, ![4, 8192, 2]⟩
abbrev S4x8192x2x1 : Shape := ⟨4, ![4, 8192, 2, 1]⟩
abbrev S4x8192x2x16 : Shape := ⟨4, ![4, 8192, 2, 16]⟩
abbrev S4x8192x2x96 : Shape := ⟨4, ![4, 8192, 2, 96]⟩
abbrev S8192x1x8 : Shape := ⟨3, ![8192, 1, 8]⟩
abbrev S4x8192x8x8 : Shape := ⟨4, ![4, 8192, 8, 8]⟩
abbrev S1x8192x1x8 : Shape := ⟨4, ![1, 8192, 1, 8]⟩
abbrev S4x8192x8x48 : Shape := ⟨4, ![4, 8192, 8, 48]⟩
abbrev S1x8192x8 : Shape := ⟨3, ![1, 8192, 8]⟩
abbrev S4x8192x48 : Shape := ⟨3, ![4, 8192, 48]⟩
abbrev S4x16x512x64 : Shape := ⟨4, ![4, 16, 512, 64]⟩
abbrev S4x16x64x512 : Shape := ⟨4, ![4, 16, 64, 512]⟩

abbrev nBuf : Space → Nat
  | .hbm => 143
  | .vmem => 0
  | .smem => 0
  | _ => 0

abbrev hbmTy0_0 (i : Nat) : BufTy := match i % 128 with
  | 0 => ⟨S32768x8192, .bf16⟩
  | 1 => ⟨S32768x128, .f32⟩
  | 2 => ⟨S8192x16, .f32⟩
  | 3 => ⟨S8192x16, .f32⟩
  | 4 => ⟨S8192x8, .f32⟩
  | 5 => ⟨S8192x8, .f32⟩
  | 6 => ⟨S1x128, .f32⟩
  | 7 => ⟨S1x128, .f32⟩
  | 8 => ⟨S32768x8192, .f32⟩
  | 9 => ⟨S32768x1024, .f32⟩
  | 10 => ⟨S4x8192x8x128, .f32⟩
  | 11 => ⟨S32768x256, .f32⟩
  | 12 => ⟨S4x8192x2x128, .f32⟩
  | 13 => ⟨S32768x256, .f32⟩
  | 14 => ⟨S32768x512, .f32⟩
  | 15 => ⟨S4x8192x8x64, .f32⟩
  | 16 => ⟨S32768x64, .f32⟩
  | 17 => ⟨S4x8192x64, .f32⟩
  | 18 => ⟨S128, .f32⟩
  | 19 => ⟨S4x8192x8x128, .f32⟩
  | 20 => ⟨S_, .f32⟩
  | 21 => ⟨S4x8192x8, .f32⟩
  | 22 => ⟨S4x8192x8x1, .f32⟩
  | 23 => ⟨S_, .f32⟩
  | 24 => ⟨S4x8192x8x1, .f32⟩
  | 25 => ⟨S4x8192x8x1, .f32⟩
  | 26 => ⟨S_, .f32⟩
  | 27 => ⟨S4x8192x8x1, .f32⟩
  | 28 => ⟨S4x8192x8x1, .f32⟩
  | 29 => ⟨S4x8192x8x1, .f32⟩
  | 30 => ⟨S4x8192x8x128, .f32⟩
  | 31 => ⟨S4x8192x8x128, .f32⟩
  | 32 => ⟨S1x1x1x128, .f32⟩
  | 33 => ⟨S4x8192x8x128, .f32⟩
  | 34 => ⟨S4x8192x8x128, .f32⟩
  | 35 => ⟨S8192x1x16, .f32⟩
  | 36 => ⟨S8192x1x16, .f32⟩
  | 37 => ⟨S4x8192x8x16, .f32⟩
  | 38 => ⟨S4x8192x8x16, .f32⟩
  | 39 => ⟨S1x8192x1x16, .f32⟩
  | 40 => ⟨S4x8192x8x16, .f32⟩
  | 41 => ⟨S4x8192x8x16, .f32⟩
  | 42 => ⟨S1x8192x1x16, .f32⟩
  | 43 => ⟨S4x8192x8x16, .f32⟩
  | 44 => ⟨S4x8192x8x16, .f32⟩
  | 45 => ⟨S4x8192x8x16, .f32⟩
  | 46 => ⟨S1x8192x1x16, .f32⟩
  | 47 => ⟨S4x8192x8x16, .f32⟩
  | 48 => ⟨S4x8192x8x16, .f32⟩
  | 49 => ⟨S1x8192x1x16, .f32⟩
  | 50 => ⟨S4x8192x8x16, .f32⟩
  | 51 => ⟨S4x8192x8x16, .f32⟩
  | 52 => ⟨S4x8192x8x16, .f32⟩
  | 53 => ⟨S4x8192x8x96, .f32⟩
  | 54 => ⟨S4x8192x8x128, .f32⟩
  | 55 => ⟨S128, .f32⟩
  | 56 => ⟨S4x8192x2x128, .f32⟩
  | 57 => ⟨S_, .f32⟩
  | 58 => ⟨S4x8192x2, .f32⟩
  | 59 => ⟨S4x8192x2x1, .f32⟩
  | 60 => ⟨S_, .f32⟩
  | 61 => ⟨S4x8192x2x1, .f32⟩
  | 62 => ⟨S4x8192x2x1, .f32⟩
  | 63 => ⟨S_, .f32⟩
  | 64 => ⟨S4x8192x2x1, .f32⟩
  | 65 => ⟨S4x8192x2x1, .f32⟩
  | 66 => ⟨S4x8192x2x1, .f32⟩
  | 67 => ⟨S4x8192x2x128, .f32⟩
  | 68 => ⟨S4x8192x2x128, .f32⟩
  | 69 => ⟨S1x1x1x128, .f32⟩
  | 70 => ⟨S4x8192x2x128, .f32⟩
  | 71 => ⟨S4x8192x2x128, .f32⟩
  | 72 => ⟨S8192x1x16, .f32⟩
  | 73 => ⟨S8192x1x16, .f32⟩
  | 74 => ⟨S4x8192x2x16, .f32⟩
  | 75 => ⟨S4x8192x2x16, .f32⟩
  | 76 => ⟨S1x8192x1x16, .f32⟩
  | 77 => ⟨S4x8192x2x16, .f32⟩
  | 78 => ⟨S4x8192x2x16, .f32⟩
  | 79 => ⟨S1x8192x1x16, .f32⟩
  | 80 => ⟨S4x8192x2x16, .f32⟩
  | 81 => ⟨S4x8192x2x16, .f32⟩
  | 82 => ⟨S4x8192x2x16, .f32⟩
  | 83 => ⟨S1x8192x1x16, .f32⟩
  | 84 => ⟨S4x8192x2x16, .f32⟩
  | 85 => ⟨S4x8192x2x16, .f32⟩
  | 86 => ⟨S1x8192x1x16, .f32⟩
  | 87 => ⟨S4x8192x2x16, .f32⟩
  | 88 => ⟨S4x8192x2x16, .f32⟩
  | 89 => ⟨S4x8192x2x16, .f32⟩
  | 90 => ⟨S4x8192x2x96, .f32⟩
  | 91 => ⟨S4x8192x2x128, .f32⟩
  | 92 => ⟨S8192x1x8, .f32⟩
  | 93 => ⟨S8192x1x8, .f32⟩
  | 94 => ⟨S4x8192x8x8, .f32⟩
  | 95 => ⟨S4x8192x8x8, .f32⟩
  | 96 => ⟨S1x8192x1x8, .f32⟩
  | 97 => ⟨S4x8192x8x8, .f32⟩
  | 98 => ⟨S4x8192x8x8, .f32⟩
  | 99 => ⟨S1x8192x1x8, .f32⟩
  | 100 => ⟨S4x8192x8x8, .f32⟩
  | 101 => ⟨S4x8192x8x8, .f32⟩
  | 102 => ⟨S4x8192x8x8, .f32⟩
  | 103 => ⟨S1x8192x1x8, .f32⟩
  | 104 => ⟨S4x8192x8x8, .f32⟩
  | 105 => ⟨S4x8192x8x8, .f32⟩
  | 106 => ⟨S1x8192x1x8, .f32⟩
  | 107 => ⟨S4x8192x8x8, .f32⟩
  | 108 => ⟨S4x8192x8x8, .f32⟩
  | 109 => ⟨S4x8192x8x8, .f32⟩
  | 110 => ⟨S4x8192x8x48, .f32⟩
  | 111 => ⟨S4x8192x8x64, .f32⟩
  | 112 => ⟨S4x8192x8, .f32⟩
  | 113 => ⟨S4x8192x8, .f32⟩
  | 114 => ⟨S1x8192x8, .f32⟩
  | 115 => ⟨S4x8192x8, .f32⟩
  | 116 => ⟨S4x8192x8, .f32⟩
  | 117 => ⟨S1x8192x8, .f32⟩
  | 118 => ⟨S4x8192x8, .f32⟩
  | 119 => ⟨S4x8192x8, .f32⟩
  | 120 => ⟨S4x8192x8, .f32⟩
  | 121 => ⟨S1x8192x8, .f32⟩
  | 122 => ⟨S4x8192x8, .f32⟩
  | 123 => ⟨S4x8192x8, .f32⟩
  | 124 => ⟨S1x8192x8, .f32⟩
  | 125 => ⟨S4x8192x8, .f32⟩
  | 126 => ⟨S4x8192x8, .f32⟩
  | 127 => ⟨S4x8192x8, .f32⟩
  | _ => ⟨S32768x8192, .bf16⟩

abbrev hbmTy0_1 (i : Nat) : BufTy := match i % 128 with
  | 0 => ⟨S4x8192x48, .f32⟩
  | 1 => ⟨S4x8192x64, .f32⟩
  | 2 => ⟨S_, .f32⟩
  | 3 => ⟨S32768x128, .f32⟩
  | 4 => ⟨S32768x128, .f32⟩
  | 5 => ⟨S4x16x512x64, .f32⟩
  | 6 => ⟨S4x16x64x512, .f32⟩
  | 7 => ⟨S32768x1024, .f32⟩
  | 8 => ⟨S32768x1024, .bf16⟩
  | 9 => ⟨S32768x256, .f32⟩
  | 10 => ⟨S32768x256, .bf16⟩
  | 11 => ⟨S32768x256, .bf16⟩
  | 12 => ⟨S32768x512, .f32⟩
  | 13 => ⟨S32768x512, .bf16⟩
  | 14 => ⟨S4x16x64x512, .bf16⟩
  | _ => ⟨S32768x8192, .bf16⟩

abbrev hbmTy (i : Nat) : BufTy := match i / 128 with
  | 0 => hbmTy0_0 i
  | 1 => hbmTy0_1 i
  | _ => ⟨S32768x8192, .bf16⟩

abbrev bufTy : (tb : Table) → Fin (tcTables nBuf tb) → BufTy
  | .hbm, ⟨i, _⟩ => hbmTy i
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_cst_5 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩

abbrev nD : Nat := 1
abbrev τ : Topo := Topo.v7x

variable {F : FTy → Type} [FloatOps F]
-- ==== Proof.AttnOff.lean ====
module

public import proofs.«01_k».proof.Proof.Gen.AttnIdeal.Loops
public import Idealize.ShloMosaic.Lib.Pipeline.ValueKit

/- How many key tiles the attention's loops visit and where a tile's loads lie. -/

@[expose] public section

set_option maxRecDepth 16384

noncomputable section

open Idealize.ShloMosaic Idealize.ShloMosaic.TcCoe Idealize.SL.Sem
open scoped BigOperators

namespace Cert.AttnIdeal.Tile

open Cert.AttnIdeal Cert.AttnIdeal.Gen

/-! ### How many tiles a query block reads, and where -/

/-- The number of key tiles of 512 that reach a query block's last row. -/
def tiles (i : grid0.Coords) : ℕ := ((i 1).val + 2) / 2

theorem tiles_le (i : grid0.Coords) : tiles i ≤ 16 := by
  have : (i 1).val < 32 := (i 1).isLt
  unfold tiles
  omega

theorem trips1 : ∀ i : grid0.Coords, (k0_t1_loop i).trips = tiles i / 4 := by decide +kernel
theorem trips2 : ∀ i : grid0.Coords, (k0_t2_loop i).trips = 0 := by decide +kernel
theorem trips3 : ∀ i : grid0.Coords, (k0_t3_loop i).trips = tiles i % 4 := by decide +kernel
theorem trips4 : ∀ i : grid0.Coords, (k0_t4_loop i).trips = 0 := by decide +kernel
theorem trips5 : ∀ i : grid0.Coords, (k0_t5_loop i).trips = tiles i := by decide +kernel
theorem trips6 : ∀ i : grid0.Coords, (k0_t6_loop i).trips = 0 := by decide +kernel

theorem off1 : ∀ (i : grid0.Coords) (k : Fin (k0_t1_loop i).trips) (r : Fin 4), k0_off1 i k (BitVec.ofNat 32 r.val) = ![0, 0, 4 * k.val + r.val, 0, 0] := by decide +kernel
theorem off2 : ∀ (i : grid0.Coords) (k : Fin (k0_t1_loop i).trips) (r : Fin 4), k0_off2 i k (BitVec.ofNat 32 r.val) = ![0, 1, 4 * k.val + r.val, 0, 0] := by decide +kernel
theorem off3 : ∀ (i : grid0.Coords) (k : Fin (k0_t1_loop i).trips) (r : Fin 4), k0_off3 i k (BitVec.ofNat 32 r.val) = ![512 * (4 * k.val + r.val), 0] := by decide +kernel
theorem off4 : ∀ (i : grid0.Coords) (k : Fin (k0_t1_loop i).trips) (r : Fin 4), k0_off4 i k (BitVec.ofNat 32 r.val) = ![512 * (4 * k.val + r.val), 128] := by decide +kernel
theorem off9 : ∀ (i : grid0.Coords) (k : Fin (k0_t3_loop i).trips), k0_off9 i k = ![0, 0, 4 * (tiles i / 4) + k.val, 0, 0] := by decide +kernel
theorem off10 : ∀ (i : grid0.Coords) (k : Fin (k0_t3_loop i).trips), k0_off10 i k = ![0, 1, 4 * (tiles i / 4) + k.val, 0, 0] := by decide +kernel
theorem off11 : ∀ (i : grid0.Coords) (k : Fin (k0_t3_loop i).trips), k0_off11 i k = ![512 * (4 * (tiles i / 4) + k.val), 0] := by decide +kernel
theorem off12 : ∀ (i : grid0.Coords) (k : Fin (k0_t3_loop i).trips), k0_off12 i k = ![512 * (4 * (tiles i / 4) + k.val), 128] := by decide +kernel
theorem off17 : ∀ (i : grid0.Coords) (k : Fin (k0_t5_loop i).trips), k0_off17 i k = ![0, 0, k.val, 0, 0] := by decide +kernel
theorem off18 : ∀ (i : grid0.Coords) (k : Fin (k0_t5_loop i).trips), k0_off18 i k = ![0, 1, k.val, 0, 0] := by decide +kernel
theorem off19 : ∀ (i : grid0.Coords) (k : Fin (k0_t5_loop i).trips), k0_off19 i k = ![512 * k.val, 0] := by decide +kernel
theorem off20 : ∀ (i : grid0.Coords) (k : Fin (k0_t5_loop i).trips), k0_off20 i k = ![512 * k.val, 128] := by decide +kernel

end Cert.AttnIdeal.Tile

end
-- ==== Proof.AttnTile.lean ====
module

public import proofs.«01_k».proof.Proof.AttnOff
public import Idealize.ShloMosaic.Lib.Pipeline.ValueKit

/- One key tile of the attention, over the extended reals. -/

@[expose] public section

set_option maxRecDepth 16384

noncomputable section

open Idealize.ShloMosaic Idealize.ShloMosaic.TcCoe Idealize.SL.Sem
open scoped BigOperators

namespace Cert.AttnIdeal.Tile

open Cert.AttnIdeal Cert.AttnIdeal.Gen

/-! ### A tile's weights -/

/-- The bias of a stacked row: the two query halves of the block, repeated for each head of the group. -/
def rowBias (b0 b1 : Vec Ideal S1x1x1x128x512 .bf16) (r : Fin 1024) (n : Fin 512) : EReal :=
  if r.val % 256 < 128 then b0 (ix5 0 0 0 ⟨r.val % 128, by omega⟩ n) else b1 (ix5 0 0 0 ⟨r.val % 128, by omega⟩ n)

theorem bias_apply (b0 b1 : Vec Ideal S1x1x1x128x512 .bf16) (y : S1024x512.Idx) :
    k0_pay40 b0 b1 y = rowBias b0 b1 (y 0) (y 1) := by
  pointwise [k0_pay40, rowBias]
  have hr : (y 0).val < 1024 := (y 0).isLt
  have e : ∀ (b : Vec Ideal S1x1x1x128x512 .bf16) (p p' : Fin 128), p.val = p'.val → b (ix5 0 0 0 p (y 1)) = b (ix5 0 0 0 p' (y 1)) :=
    fun b p p' h => by rw [Fin.ext h]
  by_cases h : (y 0).val % 256 < 128
  · rw [if_pos h]
    split_ifs <;> first | (exfalso; omega) | (refine e _ _ _ ?_; dsimp only; omega)
  · rw [if_neg h]
    split_ifs <;> first | (exfalso; omega) | (refine e _ _ _ ?_; dsimp only; omega)

/-- A query row against a key: the product of their coordinates in the key head's 128 columns. -/
def score (cc : Fin 2) (q : FVec Ideal S1024x128 .bf16) (x1 : Vec Ideal S8192x256 .bf16) (r : Fin 1024) (n : ℕ) : EReal :=
  ∑ d : Fin 128, q (ix2 r d) * x1 (ix2 ⟨n % 8192, Nat.mod_lt _ (by decide)⟩ ⟨128 * cc.val + d.val, by omega⟩)

/-- The bias block at a stacked row and a key. -/
def bias (x3 : Vec Ideal S1x2x16x128x512 .bf16) (r : Fin 1024) (n : ℕ) : EReal :=
  x3 (ix5 0 ⟨r.val % 256 / 128, by omega⟩ ⟨n / 512 % 16, by omega⟩ ⟨r.val % 128, by omega⟩ ⟨n % 512, by omega⟩)

/-- A key's value in a lane, and 1 in the lanes that count the weights. -/
def valueOrOne (cc : Fin 2) (x2 : Vec Ideal S8192x256 .bf16) (l : Fin 256) (n : ℕ) : EReal :=
  if h : l.val < 128 then x2 (ix2 ⟨n % 8192, Nat.mod_lt _ (by decide)⟩ ⟨128 * cc.val + l.val, by omega⟩) else 1

/-- The named factor: the scale times the base-2 logarithm of e. -/
abbrev scaleLog2e : EReal := (Named.named (F := Ideal) κ "scale_log2e" (0x3E0293EE#32 : BitVec (FTy.bits .f32)) : Ideal .f32)

/-- What a key adds to a row's sums. -/
def term (cc : Fin 2) (q : FVec Ideal S1024x128 .bf16) (x1 x2 : Vec Ideal S8192x256 .bf16)
    (x3 : Vec Ideal S1x2x16x128x512 .bf16) (r : Fin 1024) (l : Fin 256) (n : ℕ) : EReal :=
  FloatOps.exp2 (F := Ideal) (φ := .f32) (score cc q x1 r n * scaleLog2e + bias x3 r n) * valueOrOne cc x2 l n

theorem readAt_unread {sp : Space} {s : Shape} {e : EltTy} (a : Memref sig .tc sp s e) (h : a.IsWhole) (x : s.Idx → Elt Ideal e)
    (r : Rect s) (y : r.shape.Idx) : View.readAt (Elt Ideal) a.view r.toLoadRect (h.unread x) y = x (r.emb y) := by
  show a.view.read (Elt Ideal) (h.unread x) (r.emb y) = _
  rw [h.read_unread]

theorem emb_rows (j : ℕ) (hj : j < 16) (cc : Fin 2) (n : Fin 512) (d : Fin 128)
    (ik : ∀ a, (![512 * j, 128 * cc.val] : Fin 2 → ℕ) a + S512x128.size a ≤ S8192x256.size a) :
    (Rect.unit (s := S8192x256) ![512 * j, 128 * cc.val] S512x128.size ik).emb (ix2 n d)
      = ix2 ⟨(512 * j + n.val) % 8192, Nat.mod_lt _ (by decide)⟩ ⟨128 * cc.val + d.val, by omega⟩ :=
  funext fun a => match a with
    | 0 => Fin.ext (by show 512 * j + 1 * n.val = (512 * j + n.val) % 8192; omega)
    | 1 => Fin.ext (by show 128 * cc.val + 1 * d.val = 128 * cc.val + d.val; omega)

theorem emb_bias (j : ℕ) (hj : j < 16) (p : Fin 2) (r : Fin 128) (n : Fin 512)
    (ib : ∀ a, (![0, p.val, j, 0, 0] : Fin 5 → ℕ) a + S1x1x1x128x512.size a ≤ S1x2x16x128x512.size a) :
    (Rect.unit (s := S1x2x16x128x512) ![0, p.val, j, 0, 0] S1x1x1x128x512.size ib).emb (ix5 0 0 0 r n)
      = ix5 0 p ⟨(512 * j + n.val) / 512 % 16, by omega⟩ r ⟨(512 * j + n.val) % 512, by omega⟩ :=
  funext fun a => match a with
    | 0 => rfl
    | 1 => Fin.ext (by show p.val + 1 * 0 = p.val; omega)
    | 2 => Fin.ext (by show j + 1 * 0 = (512 * j + n.val) / 512 % 16; omega)
    | 3 => Fin.ext (by show 0 + 1 * r.val = r.val; omega)
    | 4 => Fin.ext (by show 0 + 1 * n.val = (512 * j + n.val) % 512; omega)

theorem added (cc : Fin 2) (q : FVec Ideal S1024x128 .bf16) (x1 x2 : Vec Ideal S8192x256 .bf16) (x3 : Vec Ideal S1x2x16x128x512 .bf16)
    (arg3 : Memref sig .tc .vmem S8192x256 .bf16) (harg3 : arg3.IsWhole) (arg4 : Memref sig .tc .vmem S8192x256 .bf16) (harg4 : arg4.IsWhole)
    (arg5 : Memref sig .tc .vmem S1x2x16x128x512 .bf16) (harg5 : arg5.IsWhole) (j : ℕ) (hj : j < 16)
    (o0 o1 : Fin 5 → ℕ) (ok : Fin 2 → ℕ) (i0 : ∀ a, o0 a + S1x1x1x128x512.size a ≤ S1x2x16x128x512.size a)
    (i1 : ∀ a, o1 a + S1x1x1x128x512.size a ≤ S1x2x16x128x512.size a) (ik : ∀ a, ok a + S512x128.size a ≤ S8192x256.size a)
    (h0 : o0 = ![0, 0, j, 0, 0]) (h1 : o1 = ![0, 1, j, 0, 0]) (hk : ok = ![512 * j, 128 * cc.val])
    (a : Vec Ideal S1x1024x256 .f32) (y : S1x1024x256.Idx) :
    k0_pay41 q k0_pay47
        (View.readAt (Elt Ideal) arg5.view (Rect.unit (s := S1x2x16x128x512) o0 S1x1x1x128x512.size i0).toLoadRect (harg5.unread x3))
        (View.readAt (Elt Ideal) arg5.view (Rect.unit (s := S1x2x16x128x512) o1 S1x1x1x128x512.size i1).toLoadRect (harg5.unread x3))
        (View.readAt (Elt Ideal) arg3.view (Rect.unit (s := S8192x256) ok S512x128.size ik).toLoadRect (harg3.unread x1))
        (View.readAt (Elt Ideal) arg4.view (Rect.unit (s := S8192x256) ok S512x128.size ik).toLoadRect (harg4.unread x2)) a y
      = a y + ∑ n ∈ Finset.range 512, term cc q x1 x2 x3 (y 1) (y 2) (512 * j + n) := by
  subst h0 h1 hk
  pointwise [k0_pay41, k0_pay47, bias_apply, rowBias]
  rw [Finset.sum_range]
  congr 1
  refine Finset.sum_congr rfl fun n _ => ?_
  have e0 := emb_bias j hj 0 ⟨(y 1).val % 128, Nat.mod_lt _ (by decide)⟩ n i0
  have e1 := emb_bias j hj 1 ⟨(y 1).val % 128, Nat.mod_lt _ (by decide)⟩ n i1
  have hr : (y 1).val < 1024 := (y 1).isLt
  have eb : (if (y 1).val % 256 < 128 then
        x3 ((Rect.unit (s := S1x2x16x128x512) ![0, 0, j, 0, 0] S1x1x1x128x512.size i0).emb (ix5 0 0 0 ⟨(y 1).val % 128, Nat.mod_lt _ (by decide)⟩ n))
      else x3 ((Rect.unit (s := S1x2x16x128x512) ![0, 1, j, 0, 0] S1x1x1x128x512.size i1).emb (ix5 0 0 0 ⟨(y 1).val % 128, Nat.mod_lt _ (by decide)⟩ n)))
      = bias x3 (y 1) (512 * j + n.val) := by
    unfold bias
    split_ifs with h
    · refine (congrArg x3 e0).trans (congrArg x3 ?_)
      rw [show (⟨(y 1).val % 256 / 128, by omega⟩ : Fin 2) = 0 from Fin.ext (by show _ / 128 = 0; omega)]
    · refine (congrArg x3 e1).trans (congrArg x3 ?_)
      rw [show (⟨(y 1).val % 256 / 128, by omega⟩ : Fin 2) = 1 from Fin.ext (by show _ / 128 = 1; omega)]
  simp only [readAt_unread]
  refine congrArg₂ (· * ·) (congrArg (FloatOps.exp2 (F := Ideal) (φ := .f32)) (congrArg₂ (· + ·) (congrArg (· * scaleLog2e) ?_) eb)) ?_
  · exact Finset.sum_congr rfl fun d _ => congrArg (q (ix2 (y 1) d) * ·) (congrArg x1 (emb_rows j hj cc n d ik))
  · unfold valueOrOne
    split_ifs with h
    · exact congrArg x2 (emb_rows j hj cc n ⟨(y 2).val, h⟩ ik)
    · rfl

end Cert.AttnIdeal.Tile

end
-- ==== Proof.AttnSafe.lean ====
module

public import proofs.«01_k».proof.Proof.AttnTile
public import Idealize.ShloMosaic.Lib.WritesUnit

/- The sums the attention's direct loop carries, trip by trip. -/

@[expose] public section

set_option maxRecDepth 16384

noncomputable section

open Idealize.ShloMosaic Idealize.ShloMosaic.TcCoe Idealize.SL.Sem
open scoped BigOperators

namespace Cert.AttnIdeal.Tile

open Cert.AttnIdeal Cert.AttnIdeal.Gen

section Pieces

variable {sp : Space} (v : View sig .tc sp S2x1024x256 .f32)

/-- The list's stores leave these contents, whatever was there before. -/
def Holds (L : List (View.Piece (Elt Ideal) S2x1024x256 .f32)) (A : S2x1024x256.Idx → EReal) : Prop :=
  ∀ g y, v.read (Elt Ideal) (v.writes (Elt Ideal) g L) y = A y

theorem pair (g : v.ty.Contents (Elt Ideal)) (L : List (View.Piece (Elt Ideal) S2x1024x256 .f32))
    (i1 : ∀ a, (![1, 0, 0] : Fin 3 → ℕ) a + S1x1024x256.size a ≤ S2x1024x256.size a)
    (i0 : ∀ a, (![0, 0, 0] : Fin 3 → ℕ) a + S1x1024x256.size a ≤ S2x1024x256.size a)
    (w1 w0 : S1x1024x256.Idx → EReal) (A : S2x1024x256.Idx → EReal) (T : Fin 2 → Fin 1024 → Fin 256 → EReal)
    (h1 : ∀ r l, w1 (ix3 0 r l) = A (ix3 1 r l) + T 1 r l) (h0 : ∀ r l, w0 (ix3 0 r l) = A (ix3 0 r l) + T 0 r l) (y : S2x1024x256.Idx) :
    v.read (Elt Ideal) (v.writes (Elt Ideal) g
        ((⟨Rect.unit (s := S2x1024x256) ![1, 0, 0] S1x1024x256.size i1, w1⟩ : View.Piece (Elt Ideal) S2x1024x256 .f32)
          :: ⟨Rect.unit (s := S2x1024x256) ![0, 0, 0] S1x1024x256.size i0, w0⟩ :: L)) y
      = A y + T (y 0) (y 1) (y 2) := by
  obtain ⟨p, r, l, rfl⟩ : ∃ (p : Fin 2) (r : Fin 1024) (l : Fin 256), y = ix3 p r l :=
    ⟨y 0, y 1, y 2, funext fun a => match a with | 0 => rfl | 1 => rfl | 2 => rfl⟩
  obtain rfl | rfl : p = 0 ∨ p = 1 := by omega
  · refine (View.read_writes_cons_unit_of_not_mem v g i1 w1 _ _ rfl 0 (Or.inl (by show 0 < 1; omega))).trans ?_
    refine (View.read_writes_cons_unit_of_mem v g i0 w0 L _ (ix3 0 r l) rfl fun a => ?_).trans (h0 r l)
    match a with
    | 0 => rfl
    | 1 => show r.val = 0 + r.val; omega
    | 2 => show l.val = 0 + l.val; omega
  · refine (View.read_writes_cons_unit_of_mem v g i1 w1 _ _ (ix3 0 r l) rfl fun a => ?_).trans (h1 r l)
    match a with
    | 0 => rfl
    | 1 => show r.val = 0 + r.val; omega
    | 2 => show l.val = 0 + l.val; omega

theorem load0 (f : v.ty.Contents (Elt Ideal)) (i0 : ∀ a, (![0, 0, 0] : Fin 3 → ℕ) a + S1x1024x256.size a ≤ S2x1024x256.size a)
    (r : Fin 1024) (l : Fin 256) :
    View.readAt (Elt Ideal) v (Rect.unit (s := S2x1024x256) ![0, 0, 0] S1x1024x256.size i0).toLoadRect f (ix3 0 r l)
      = v.read (Elt Ideal) f (ix3 0 r l) := by
  refine congrArg (v.read (Elt Ideal) f) (funext fun a => Fin.ext ?_)
  match a with
  | 0 => rfl
  | 1 => show 0 + 1 * r.val = r.val; omega
  | 2 => show 0 + 1 * l.val = l.val; omega

theorem load1 (f : v.ty.Contents (Elt Ideal)) (i1 : ∀ a, (![1, 0, 0] : Fin 3 → ℕ) a + S1x1024x256.size a ≤ S2x1024x256.size a)
    (r : Fin 1024) (l : Fin 256) :
    View.readAt (Elt Ideal) v (Rect.unit (s := S2x1024x256) ![1, 0, 0] S1x1024x256.size i1).toLoadRect f (ix3 0 r l)
      = v.read (Elt Ideal) f (ix3 1 r l) := by
  refine congrArg (v.read (Elt Ideal) f) (funext fun a => Fin.ext ?_)
  match a with
  | 0 => rfl
  | 1 => show 0 + 1 * r.val = r.val; omega
  | 2 => show 0 + 1 * l.val = l.val; omega

theorem reload0 (L : List (View.Piece (Elt Ideal) S2x1024x256 .f32)) (A : S2x1024x256.Idx → EReal) (hL : Holds v L A)
    (i0 : ∀ a, (![0, 0, 0] : Fin 3 → ℕ) a + S1x1024x256.size a ≤ S2x1024x256.size a) (r : Fin 1024) (l : Fin 256) :
    v.readCov L (Rect.unit (s := S2x1024x256) ![0, 0, 0] S1x1024x256.size i0).toLoadRect (ix3 0 r l) = A (ix3 0 r l) :=
  (load0 v _ i0 r l).trans (hL _ _)

theorem reload1 (L : List (View.Piece (Elt Ideal) S2x1024x256 .f32)) (A : S2x1024x256.Idx → EReal) (hL : Holds v L A)
    (w0 : S1x1024x256.Idx → EReal) (i0 : ∀ a, (![0, 0, 0] : Fin 3 → ℕ) a + S1x1024x256.size a ≤ S2x1024x256.size a)
    (i1 : ∀ a, (![1, 0, 0] : Fin 3 → ℕ) a + S1x1024x256.size a ≤ S2x1024x256.size a) (r : Fin 1024) (l : Fin 256) :
    v.readCov ((⟨Rect.unit (s := S2x1024x256) ![0, 0, 0] S1x1024x256.size i0, w0⟩ : View.Piece (Elt Ideal) S2x1024x256 .f32) :: L)
      (Rect.unit (s := S2x1024x256) ![1, 0, 0] S1x1024x256.size i1).toLoadRect (ix3 0 r l) = A (ix3 1 r l) := by
  refine (load1 v _ i1 r l).trans ?_
  rw [View.read_writes_cons_unit_of_not_mem v _ i0 w0 L (ix3 1 r l) rfl 0 (Or.inr (Nat.le_refl 1))]
  exact hL _ _

end Pieces

section Trips

variable (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole)
variable (v20 : BitVec 32) (v25 v30 : FVec Ideal S1024x128 .bf16) (v49 : BitVec 32) (x1 x2 : Vec Ideal S8192x256 .bf16) (x3 : Vec Ideal S1x2x16x128x512 .bf16)

/-- What a tile adds to the sums. -/
def tileSum (j : ℕ) (cc : Fin 2) (r : Fin 1024) (l : Fin 256) : EReal :=
  ∑ n ∈ Finset.range 512, term cc (![v25, v30] cc) x1 x2 x3 r l (512 * j + n)

theorem trip1 (k : Fin (k0_t1_loop i).trips) (f : BufTy.Contents (Elt Ideal) arg11.view.ty) (y : S2x1024x256.Idx) :
    arg11.view.read (Elt Ideal) (arg11.view.writes (Elt Ideal) f (tripL_k0_t1 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) k f)) y
      = arg11.view.read (Elt Ideal) f y
        + tileSum v25 v30 x1 x2 x3 (4 * k.val + (0 : Fin 4).val) (y 0) (y 1) (y 2) + tileSum v25 v30 x1 x2 x3 (4 * k.val + (1 : Fin 4).val) (y 0) (y 1) (y 2)
        + tileSum v25 v30 x1 x2 x3 (4 * k.val + (2 : Fin 4).val) (y 0) (y 1) (y 2) + tileSum v25 v30 x1 x2 x3 (4 * k.val + (3 : Fin 4).val) (y 0) (y 1) (y 2) := by
  have hk : k.val < tiles i / 4 := lt_of_lt_of_eq k.isLt (trips1 i)
  have ht := tiles_le i
  have H2 : Holds arg11.view (trip_k0_t1.sl.HW_arg11_2 i arg3 arg4 arg5 arg11 v25 v30 (harg3.unread x1) (harg4.unread x2) (harg5.unread x3) k f) (fun y => arg11.view.read (Elt Ideal) f y + tileSum v25 v30 x1 x2 x3 (4 * k.val + (0 : Fin 4).val) (y 0) (y 1) (y 2)) := by
    intro g y
    have hj : 4 * k.val + (0 : Fin 4).val < 16 := by show 4 * k.val + 0 < 16; omega
    delta trip_k0_t1.sl.HW_arg11_2
    refine pair arg11.view g _ _ _ _ _ (fun y => arg11.view.read (Elt Ideal) f y) (tileSum v25 v30 x1 x2 x3 (4 * k.val + (0 : Fin 4).val)) (fun r l => ?_) (fun r l => ?_) y
    · exact (added 1 v30 x1 x2 x3 arg3 harg3 arg4 harg4 arg5 harg5 (4 * k.val + (0 : Fin 4).val) hj _ _ _ _ _ _ (off1 i k 0) (off2 i k 0) (off4 i k 0) _ (ix3 0 r l)).trans (congrArg (· + _) (load1 arg11.view f _ r l))
    · exact (added 0 v25 x1 x2 x3 arg3 harg3 arg4 harg4 arg5 harg5 (4 * k.val + (0 : Fin 4).val) hj _ _ _ _ _ _ (off1 i k 0) (off2 i k 0) (off3 i k 0) _ (ix3 0 r l)).trans (congrArg (· + _) (load0 arg11.view f _ r l))
  have H4 : Holds arg11.view (trip_k0_t1.sl.HW_arg11_4 i arg3 arg4 arg5 arg11 v25 v30 (harg3.unread x1) (harg4.unread x2) (harg5.unread x3) k f) (fun y => arg11.view.read (Elt Ideal) f y + tileSum v25 v30 x1 x2 x3 (4 * k.val + (0 : Fin 4).val) (y 0) (y 1) (y 2) + tileSum v25 v30 x1 x2 x3 (4 * k.val + (1 : Fin 4).val) (y 0) (y 1) (y 2)) := by
    intro g y
    have hj : 4 * k.val + (1 : Fin 4).val < 16 := by show 4 * k.val + 1 < 16; omega
    delta trip_k0_t1.sl.HW_arg11_4 trip_k0_t1.sl.HW_arg11_3
    refine pair arg11.view g _ _ _ _ _ (fun y => arg11.view.read (Elt Ideal) f y + tileSum v25 v30 x1 x2 x3 (4 * k.val + (0 : Fin 4).val) (y 0) (y 1) (y 2)) (tileSum v25 v30 x1 x2 x3 (4 * k.val + (1 : Fin 4).val)) (fun r l => ?_) (fun r l => ?_) y
    · exact (added 1 v30 x1 x2 x3 arg3 harg3 arg4 harg4 arg5 harg5 (4 * k.val + (1 : Fin 4).val) hj _ _ _ _ _ _ (off1 i k 1) (off2 i k 1) (off4 i k 1) _ (ix3 0 r l)).trans (congrArg (· + _) (reload1 arg11.view _ _ H2 _ _ _ r l))
    · exact (added 0 v25 x1 x2 x3 arg3 harg3 arg4 harg4 arg5 harg5 (4 * k.val + (1 : Fin 4).val) hj _ _ _ _ _ _ (off1 i k 1) (off2 i k 1) (off3 i k 1) _ (ix3 0 r l)).trans (congrArg (· + _) (reload0 arg11.view _ _ H2 _ r l))
  have H6 : Holds arg11.view (trip_k0_t1.sl.HW_arg11_6 i arg3 arg4 arg5 arg11 v25 v30 (harg3.unread x1) (harg4.unread x2) (harg5.unread x3) k f) (fun y => arg11.view.read (Elt Ideal) f y + tileSum v25 v30 x1 x2 x3 (4 * k.val + (0 : Fin 4).val) (y 0) (y 1) (y 2) + tileSum v25 v30 x1 x2 x3 (4 * k.val + (1 : Fin 4).val) (y 0) (y 1) (y 2) + tileSum v25 v30 x1 x2 x3 (4 * k.val + (2 : Fin 4).val) (y 0) (y 1) (y 2)) := by
    intro g y
    have hj : 4 * k.val + (2 : Fin 4).val < 16 := by show 4 * k.val + 2 < 16; omega
    delta trip_k0_t1.sl.HW_arg11_6 trip_k0_t1.sl.HW_arg11_5
    refine pair arg11.view g _ _ _ _ _ (fun y => arg11.view.read (Elt Ideal) f y + tileSum v25 v30 x1 x2 x3 (4 * k.val + (0 : Fin 4).val) (y 0) (y 1) (y 2) + tileSum v25 v30 x1 x2 x3 (4 * k.val + (1 : Fin 4).val) (y 0) (y 1) (y 2)) (tileSum v25 v30 x1 x2 x3 (4 * k.val + (2 : Fin 4).val)) (fun r l => ?_) (fun r l => ?_) y
    · exact (added 1 v30 x1 x2 x3 arg3 harg3 arg4 harg4 arg5 harg5 (4 * k.val + (2 : Fin 4).val) hj _ _ _ _ _ _ (off1 i k 2) (off2 i k 2) (off4 i k 2) _ (ix3 0 r l)).trans (congrArg (· + _) (reload1 arg11.view _ _ H4 _ _ _ r l))
    · exact (added 0 v25 x1 x2 x3 arg3 harg3 arg4 harg4 arg5 harg5 (4 * k.val + (2 : Fin 4).val) hj _ _ _ _ _ _ (off1 i k 2) (off2 i k 2) (off3 i k 2) _ (ix3 0 r l)).trans (congrArg (· + _) (reload0 arg11.view _ _ H4 _ r l))
  have hj : 4 * k.val + (3 : Fin 4).val < 16 := by show 4 * k.val + 3 < 16; omega
  unfold tripL_k0_t1 trip_k0_t1
  dsimp only
  delta trip_k0_t1.sl.HW_arg11_7
  refine pair arg11.view f _ _ _ _ _ (fun y => arg11.view.read (Elt Ideal) f y + tileSum v25 v30 x1 x2 x3 (4 * k.val + (0 : Fin 4).val) (y 0) (y 1) (y 2) + tileSum v25 v30 x1 x2 x3 (4 * k.val + (1 : Fin 4).val) (y 0) (y 1) (y 2) + tileSum v25 v30 x1 x2 x3 (4 * k.val + (2 : Fin 4).val) (y 0) (y 1) (y 2)) (tileSum v25 v30 x1 x2 x3 (4 * k.val + (3 : Fin 4).val)) (fun r l => ?_) (fun r l => ?_) y
  · exact (added 1 v30 x1 x2 x3 arg3 harg3 arg4 harg4 arg5 harg5 (4 * k.val + (3 : Fin 4).val) hj _ _ _ _ _ _ (off1 i k 3) (off2 i k 3) (off4 i k 3) _ (ix3 0 r l)).trans (congrArg (· + _) (reload1 arg11.view _ _ H6 _ _ _ r l))
  · exact (added 0 v25 x1 x2 x3 arg3 harg3 arg4 harg4 arg5 harg5 (4 * k.val + (3 : Fin 4).val) hj _ _ _ _ _ _ (off1 i k 3) (off2 i k 3) (off3 i k 3) _ (ix3 0 r l)).trans (congrArg (· + _) (reload0 arg11.view _ _ H6 _ r l))

theorem trip3 (k : Fin (k0_t3_loop i).trips) (f : BufTy.Contents (Elt Ideal) arg11.view.ty) (y : S2x1024x256.Idx) :
    arg11.view.read (Elt Ideal) (arg11.view.writes (Elt Ideal) f (tripL_k0_t3 (F := Ideal) Variants.none c none i arg2 harg2 arg3 harg3 arg4 harg4 arg5 harg5 arg6 harg6 arg7 harg7 arg8 harg8 arg9 harg9 arg10 harg10 arg11 harg11 v20 v25 v30 v49 (harg3.unread x1) (harg4.unread x2) (harg5.unread x3) k f)) y
      = arg11.view.read (Elt Ideal) f y + tileSum v25 v30 x1 x2 x3 (4 * (tiles i / 4) + k.val) (y 0) (y 1) (y 2) := by
  have hk : k.val < tiles i % 4 := lt_of_lt_of_eq k.isLt (trips3 i)
  have ht := tiles_le i
  have hj : 4 * (tiles i / 4) + k.val < 16 := by omega
  unfold tripL_k0_t3 trip_k0_t3
  dsimp only
  refine pair arg11.view f _ _ _ _ _ (fun y => arg11.view.read (Elt Ideal) f y) (tileSum v25 v30 x1 x2 x3 (4 * (tiles i / 4) + k.val)) (fun r l => ?_) (fun r l => ?_) y
  · exact (added 1 v30 x1 x2 x3 arg3 harg3 arg4 harg4 arg5 harg5 (4 * (tiles i / 4) + k.val) hj _ _ _ _ _ _ (off9 i k) (off10 i k) (off12 i k) _ (ix3 0 r l)).trans (congrArg (· + _) (load1 arg11.view f _ r l))
  · exact (added 0 v25 x1 x2 x3 arg3 harg3 arg4 harg4 arg5 harg5 (4 * (tiles i / 4) + k.val) hj _ _ _ _ _ _ (off9 i k) (off10 i k) (off11 i k) _ (ix3 0 r l)).trans (congrArg (· + _) (load0 arg11.view f _ r l))

/-- The sums over the keys of the first tiles. -/
def firstSum (m : ℕ) (cc : Fin 2) (r : Fin 1024) (l : Fin 256) : EReal :=
  ∑ n ∈ Finset.range (512 * m), term cc (![v25, v30] cc) x1 x2 x3 r l n

theorem firstSum_succ (m : ℕ) (cc : Fin 2) (r : Fin 1024) (l : Fin 256) :
    firstSum v25 v30 x1 x2 x3 (m + 1) cc r l = firstSum v25 v30 x1 x2 x3 m cc r l + tileSum v25 v30 x1 x2 x3 m cc r l :=
  Finset.sum_range_add _ (512 * m) 512

theorem loop1 (G : BufTy.Contents (Elt Ideal) arg11.view.ty) (hG : ∀ y, arg11.view.read (Elt Ideal) G y = 0) (n : ℕ) (hn : n ≤ (k0_t1_loop i).trips) (y : S2x1024x256.Idx) :
    arg11.view.read (Elt Ideal) (arg11.view.writes (Elt Ideal) G (pb_k0_t1 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) G n)) y
      = firstSum v25 v30 x1 x2 x3 (4 * n) (y 0) (y 1) (y 2) := by
  induction n with
  | zero => exact (hG y).trans (by unfold firstSum; simp)
  | succ n ih =>
    have e := pb_k0_t1_succ (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) G ⟨n, hn⟩
    rw [show n + 1 = (⟨n, hn⟩ : Fin (k0_t1_loop i).trips).val + 1 from rfl, e, View.writes_append, trip1, ih (Nat.le_of_succ_le hn)]
    have e4 : ∀ a b d, firstSum v25 v30 x1 x2 x3 (4 * n + 1 + 1 + 1 + 1) a b d = _ := fun a b d => by
      rw [firstSum_succ, firstSum_succ, firstSum_succ, firstSum_succ]
    exact (e4 _ _ _).symm

theorem loop3 (G : BufTy.Contents (Elt Ideal) arg11.view.ty)
    (hG : ∀ y, arg11.view.read (Elt Ideal) G y = firstSum v25 v30 x1 x2 x3 (4 * (tiles i / 4)) (y 0) (y 1) (y 2)) (n : ℕ) (hn : n ≤ (k0_t3_loop i).trips) (y : S2x1024x256.Idx) :
    arg11.view.read (Elt Ideal) (arg11.view.writes (Elt Ideal) G (pb_k0_t3 (F := Ideal) Variants.none c none i arg2 harg2 arg3 harg3 arg4 harg4 arg5 harg5 arg6 harg6 arg7 harg7 arg8 harg8 arg9 harg9 arg10 harg10 arg11 harg11 v20 v25 v30 v49 (harg3.unread x1) (harg4.unread x2) (harg5.unread x3) G n)) y
      = firstSum v25 v30 x1 x2 x3 (4 * (tiles i / 4) + n) (y 0) (y 1) (y 2) := by
  induction n with
  | zero => exact hG y
  | succ n ih =>
    have e := pb_k0_t3_succ (F := Ideal) Variants.none c none i arg2 harg2 arg3 harg3 arg4 harg4 arg5 harg5 arg6 harg6 arg7 harg7 arg8 harg8 arg9 harg9 arg10 harg10 arg11 harg11 v20 v25 v30 v49 (harg3.unread x1) (harg4.unread x2) (harg5.unread x3) G ⟨n, hn⟩
    rw [show n + 1 = (⟨n, hn⟩ : Fin (k0_t3_loop i).trips).val + 1 from rfl, e, View.writes_append, trip3, ih (Nat.le_of_succ_le hn)]
    exact (firstSum_succ ..).symm

theorem loop2 (G : BufTy.Contents (Elt Ideal) arg11.view.ty) (w : BitVec 32) :
    pb_k0_t2 (F := Ideal) Variants.none c none i arg2 harg2 arg3 harg3 arg4 harg4 arg5 harg5 arg6 harg6 arg7 harg7 arg8 harg8 arg9 harg9 arg10 harg10 arg11 harg11 v20 v25 v30 w (harg3.unread x1) (harg4.unread x2) (harg5.unread x3) G (k0_t2_loop i).trips = [] := by
  rw [trips2]
  rfl

theorem loop4 (G : BufTy.Contents (Elt Ideal) arg11.view.ty) (w : BitVec 32) :
    pb_k0_t4 (F := Ideal) Variants.none c none i arg2 harg2 arg3 harg3 arg4 harg4 arg5 harg5 arg6 harg6 arg7 harg7 arg8 harg8 arg9 harg9 arg10 harg10 arg11 harg11 v20 v25 v30 w (harg3.unread x1) (harg4.unread x2) (harg5.unread x3) G (k0_t4_loop i).trips = [] := by
  rw [trips4]
  rfl

/-- All four loops of the direct form, from a cleared buffer. -/
theorem total (L0 L1 L2 L3 L4 : List (View.Piece (Elt Ideal) S2x1024x256 .f32)) (w2 w4 : BitVec 32)
    (h0 : ∀ y, arg11.view.read (Elt Ideal) (arg11.view.writes (Elt Ideal) arg11.view.junk L0) y = 0)
    (h1 : L1 = pb_k0_t1 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) (arg11.view.writes (Elt Ideal) arg11.view.junk L0) (k0_t1_loop i).trips ++ L0)
    (h2 : L2 = pb_k0_t2 (F := Ideal) Variants.none c none i arg2 harg2 arg3 harg3 arg4 harg4 arg5 harg5 arg6 harg6 arg7 harg7 arg8 harg8 arg9 harg9 arg10 harg10 arg11 harg11 v20 v25 v30 w2 (harg3.unread x1) (harg4.unread x2) (harg5.unread x3) (arg11.view.writes (Elt Ideal) arg11.view.junk L1) (k0_t2_loop i).trips ++ L1)
    (h3 : L3 = pb_k0_t3 (F := Ideal) Variants.none c none i arg2 harg2 arg3 harg3 arg4 harg4 arg5 harg5 arg6 harg6 arg7 harg7 arg8 harg8 arg9 harg9 arg10 harg10 arg11 harg11 v20 v25 v30 v49 (harg3.unread x1) (harg4.unread x2) (harg5.unread x3) (arg11.view.writes (Elt Ideal) arg11.view.junk L2) (k0_t3_loop i).trips ++ L2)
    (h4 : L4 = pb_k0_t4 (F := Ideal) Variants.none c none i arg2 harg2 arg3 harg3 arg4 harg4 arg5 harg5 arg6 harg6 arg7 harg7 arg8 harg8 arg9 harg9 arg10 harg10 arg11 harg11 v20 v25 v30 w4 (harg3.unread x1) (harg4.unread x2) (harg5.unread x3) (arg11.view.writes (Elt Ideal) arg11.view.junk L3) (k0_t4_loop i).trips ++ L3) (y : S2x1024x256.Idx) :
    arg11.view.read (Elt Ideal) (arg11.view.writes (Elt Ideal) arg11.view.junk L4) y = firstSum v25 v30 x1 x2 x3 (tiles i) (y 0) (y 1) (y 2) := by
  have e1 : ∀ y, arg11.view.read (Elt Ideal) (arg11.view.writes (Elt Ideal) arg11.view.junk L1) y
      = firstSum v25 v30 x1 x2 x3 (4 * (tiles i / 4)) (y 0) (y 1) (y 2) := fun y => by
    rw [h1, View.writes_append, loop1 (hG := h0) (hn := le_refl _), trips1]
  have e2 : L2 = L1 := by rw [h2, loop2, List.nil_append]
  have e4 : L4 = L3 := by rw [h4, loop4, List.nil_append]
  rw [e4, h3, View.writes_append, e2, loop3 (hG := e1) (hn := le_refl _), trips3, Nat.div_add_mod]

end Trips

end Cert.AttnIdeal.Tile

end
-- ==== Proof.AttnIdealRun.lean ====
module

public import proofs.«01_k».proof.Proof.Gen.AttnIdeal.Loops
public import proofs.«01_k».proof.Proof.Gen.AttnIdeal.Frame

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The comparison of the bound in memory with sixty, as the kernel's branch reads it. -/
abbrev small (arg6 : Memref sig .tc .smem S1 .f32) (harg6 : arg6.IsWhole) (x4 : Vec F S1 .f32) : BitVec 1 :=
  Scalar.cmpf .ole (View.readAt (Elt F) arg6.view (Rect.unit (s := S1) ![0] S1.size inb_S1_S1_0).toLoadRect (harg6.unread x4)
    (Shape.Idx.first (by decide))) (FloatOps.ofBits .f32 1114636288#32)

theorem zero_of_not_one {b : BitVec 1} (h : ¬b = 1#1) : b = 0#1 := by
  revert h; revert b; decide

set_option maxHeartbeats 4000000 in
/-- The pieces the kernel writes into its result when the bound is small: plain exponentials. -/
noncomputable def runSafe (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole)
    (x0 : Vec F S256x1024 .bf16) (x1 : Vec F S8192x256 .bf16) (x2 : Vec F S8192x256 .bf16) (x3 : Vec F S1x2x16x128x512 .bf16) (x4 : Vec F S1 .f32) (hc : small arg6 harg6 x4 = 1#1) :
    { L5 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11) K } := by
  refine ⟨?_, fun E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    unfold small at hc
    sl_exec (disch := (sl_unfold_words; rw [hc]; decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; iexact HS3

set_option maxHeartbeats 4000000 in
/-- The pieces the kernel writes into its result when the bound is not small: exponentials below a running maximum. -/
noncomputable def runOnline (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole)
    (x0 : Vec F S256x1024 .bf16) (x1 : Vec F S8192x256 .bf16) (x2 : Vec F S8192x256 .bf16) (x3 : Vec F S1x2x16x128x512 .bf16) (x4 : Vec F S1 .f32) (hc : ¬small arg6 harg6 x4 = 1#1) :
    { L5 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11) K } := by
  refine ⟨?_, fun E K => ?run⟩
  case run =>
    simp only [cc0_attention_eq_skeleton]; unfold cc0_attention_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    have hz := zero_of_not_one hc
    unfold small at hz
    sl_exec (disch := (sl_unfold_words; rw [hz]; decide))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; iexact HS3

end Cert.AttnIdeal.Run

end
-- ==== Proof.AttnIdealFrame.lean ====
module

public import proofs.«01_k».proof.Proof.AttnIdealRun
public import Idealize.ShloMosaic.Lib.Claim

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A view through which the result's block is spelt: the first staging buffer's. -/
abbrev VO : View sig .tc .vmem S256x1024 .bf16 := (Memref.whole cc0_stg5_0 : Memref sig .tc .vmem S256x1024 .bf16).view

theorem coverSafe (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole) (x0 : Vec F S256x1024 .bf16) (x1 : Vec F S8192x256 .bf16) (x2 : Vec F S8192x256 .bf16) (x3 : Vec F S1x2x16x128x512 .bf16) (x4 : Vec F S1 .f32) (hc : small arg6 harg6 x4 = 1#1) (y : S256x1024.Idx) :
    ∃ pc ∈ (runSafe c i arg2 harg2 arg3 harg3 arg4 harg4 arg5 harg5 arg6 harg6 arg7 harg7 arg8 harg8 arg9 harg9 arg10 harg10 arg11 harg11 x0 x1 x2 x3 x4 hc).1, y ∈ pc.1.set :=
  View.cover_of_tiledL (runSafe c i arg2 harg2 arg3 harg3 arg4 harg4 arg5 harg5 arg6 harg6 arg7 harg7 arg8 harg8 arg9 harg9 arg10 harg10 arg11 harg11 x0 x1 x2 x3 x4 hc).1 S256x128.size (by sl_kernel_rfl) y

theorem coverOnline (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole) (x0 : Vec F S256x1024 .bf16) (x1 : Vec F S8192x256 .bf16) (x2 : Vec F S8192x256 .bf16) (x3 : Vec F S1x2x16x128x512 .bf16) (x4 : Vec F S1 .f32) (hc : ¬small arg6 harg6 x4 = 1#1) (y : S256x1024.Idx) :
    ∃ pc ∈ (runOnline c i arg2 harg2 arg3 harg3 arg4 harg4 arg5 harg5 arg6 harg6 arg7 harg7 arg8 harg8 arg9 harg9 arg10 harg10 arg11 harg11 x0 x1 x2 x3 x4 hc).1, y ∈ pc.1.set :=
  View.cover_of_tiledL (runOnline c i arg2 harg2 arg3 harg3 arg4 harg4 arg5 harg5 arg6 harg6 arg7 harg7 arg8 harg8 arg9 harg9 arg10 harg10 arg11 harg11 x0 x1 x2 x3 x4 hc).1 S256x128.size (by sl_kernel_rfl) y

/-- What the kernel leaves in the result's block, in either branch. -/
def out5 (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole) (x0 : Vec F S256x1024 .bf16) (x1 : Vec F S8192x256 .bf16) (x2 : Vec F S8192x256 .bf16) (x3 : Vec F S1x2x16x128x512 .bf16) (x4 : Vec F S1 .f32) : Vec F S256x1024 .bf16 :=
  if hc : small arg6 harg6 x4 = 1#1 then VO.read (Elt F) (VO.writes (Elt F) VO.junk (runSafe c i arg2 harg2 arg3 harg3 arg4 harg4 arg5 harg5 arg6 harg6 arg7 harg7 arg8 harg8 arg9 harg9 arg10 harg10 arg11 harg11 x0 x1 x2 x3 x4 hc).1)
  else VO.read (Elt F) (VO.writes (Elt F) VO.junk (runOnline c i arg2 harg2 arg3 harg3 arg4 harg4 arg5 harg5 arg6 harg6 arg7 harg7 arg8 harg8 arg9 harg9 arg10 harg10 arg11 harg11 x0 x1 x2 x3 x4 hc).1)

/-- The kernel's triple: inputs handed back, the result's block at `out5`, the scratch at something. -/
theorem kernel_triple (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole) (x0 : Vec F S256x1024 .bf16) (x1 : Vec F S8192x256 .bf16) (x2 : Vec F S8192x256 .bf16) (x3 : Vec F S1x2x16x128x512 .bf16) (x4 : Vec F S1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5 c i arg2 harg2 arg3 harg3 arg4 harg4 arg5 harg5 arg6 harg6 arg7 harg7 arg8 harg8 arg9 harg9 arg10 harg10 arg11 harg11 x0 x1 x2 x3 x4)
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  by_cases hc : small arg6 harg6 x4 = 1#1
  · iintro ⟨H0, H1, H2, H3, H4, H5, HS0, HS1, HS2, HS3, Hk⟩
    iapply ((runSafe c i arg2 harg2 arg3 harg3 arg4 harg4 arg5 harg5 arg6 harg6 arg7 harg7 arg8 harg8 arg9 harg9 arg10 harg10 arg11 harg11 x0 x1 x2 x3 x4 hc).2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, ⟨%f5, H5⟩, ⟨%g0, HS0⟩, ⟨%g1, HS1⟩, ⟨%g2, HS2⟩, ⟨%g3, HS3⟩⟩
    iapply Hk
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; unfold out5; rw [dif_pos hc]
      exact View.read_writes_of_cover _ _ _ _ _ (coverSafe c i arg2 harg2 arg3 harg3 arg4 harg4 arg5 harg5 arg6 harg6 arg7 harg7 arg8 harg8 arg9 harg9 arg10 harg10 arg11 harg11 x0 x1 x2 x3 x4 hc)
    isplitl [HS0]
    · unfold owns; iexists _; iexists _; isplitr
      swap; · iexact HS0
      ipureintro; rfl
    isplitl [HS1]
    · unfold owns; iexists _; iexists _; isplitr
      swap; · iexact HS1
      ipureintro; rfl
    isplitl [HS2]
    · unfold owns; iexists _; iexists _; isplitr
      swap; · iexact HS2
      ipureintro; rfl
    unfold owns; iexists _; iexists _; isplitr
    swap; · iexact HS3
    ipureintro; rfl

  · iintro ⟨H0, H1, H2, H3, H4, H5, HS0, HS1, HS2, HS3, Hk⟩
    iapply ((runOnline c i arg2 harg2 arg3 harg3 arg4 harg4 arg5 harg5 arg6 harg6 arg7 harg7 arg8 harg8 arg9 harg9 arg10 harg10 arg11 harg11 x0 x1 x2 x3 x4 hc).2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, ⟨%f5, H5⟩, ⟨%g0, HS0⟩, ⟨%g1, HS1⟩, ⟨%g2, HS2⟩, ⟨%g3, HS3⟩⟩
    iapply Hk
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; unfold out5; rw [dif_neg hc]
      exact View.read_writes_of_cover _ _ _ _ _ (coverOnline c i arg2 harg2 arg3 harg3 arg4 harg4 arg5 harg5 arg6 harg6 arg7 harg7 arg8 harg8 arg9 harg9 arg10 harg10 arg11 harg11 x0 x1 x2 x3 x4 hc)
    isplitl [HS0]
    · unfold owns; iexists _; iexists _; isplitr
      swap; · iexact HS0
      ipureintro; rfl
    isplitl [HS1]
    · unfold owns; iexists _; iexists _; isplitr
      swap; · iexact HS1
      ipureintro; rfl
    isplitl [HS2]
    · unfold owns; iexists _; iexists _; isplitr
      swap; · iexact HS2
      ipureintro; rfl
    unfold owns; iexists _; iexists _; isplitr
    swap; · iexact HS3
    ipureintro; rfl

/-! ## The windows' staging buffers and the scratch -/

abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x16x128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev scM0_0 : Memref sig .tc .vmem S2x1024x1 .f32 := Memref.whole cc0_scratch0
abbrev scM0_1 : Memref sig .tc .vmem S2x1024x1 .f32 := Memref.whole cc0_scratch1
abbrev scM0_2 : Memref sig .tc .vmem S2x1024x128 .f32 := Memref.whole cc0_scratch2
abbrev scM0_3 : Memref sig .tc .vmem S2x1024x256 .f32 := Memref.whole cc0_scratch3

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the kernel leaves in the result's block at point `t`. -/
def outAt (c : Dev nD) (t : Fin cfg0.N) : Vec F S256x1024 .bf16 :=
  out5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t)

/-- The launch's proof data: inputs left as staged, the result's block at `outAt`, the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' buffers hold their blocks, so the kernel's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, PhiA0_eq]
  unfold outAt
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (kernel_triple c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array as the library computes it from the proof data, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.AttnIdeal.Run

end
-- ==== Proof.AttnSafeOut.lean ====
module

public import proofs.«01_k».proof.Proof.AttnSafe
public import proofs.«01_k».proof.Proof.AttnIdealFrame

/- What the attention's direct form leaves in its output block. -/

@[expose] public section

set_option maxRecDepth 16384

noncomputable section

open Idealize.ShloMosaic Idealize.ShloMosaic.TcCoe Idealize.SL.Sem
open scoped BigOperators

namespace Cert.AttnIdeal.Tile

open Cert.AttnIdeal Cert.AttnIdeal.Gen Cert.AttnIdeal.Run

theorem columns {sp : Space} (v : View sig .tc sp S256x1024 .bf16) (g : v.ty.Contents (Elt Ideal)) (w0 w1 w2 w3 w4 w5 w6 w7 : S256x128.Idx → EReal)
    (i0 : ∀ a, (![0, 0] : Fin 2 → ℕ) a + S256x128.size a ≤ S256x1024.size a)
    (i1 : ∀ a, (![0, 128] : Fin 2 → ℕ) a + S256x128.size a ≤ S256x1024.size a)
    (i2 : ∀ a, (![0, 256] : Fin 2 → ℕ) a + S256x128.size a ≤ S256x1024.size a)
    (i3 : ∀ a, (![0, 384] : Fin 2 → ℕ) a + S256x128.size a ≤ S256x1024.size a)
    (i4 : ∀ a, (![0, 512] : Fin 2 → ℕ) a + S256x128.size a ≤ S256x1024.size a)
    (i5 : ∀ a, (![0, 640] : Fin 2 → ℕ) a + S256x128.size a ≤ S256x1024.size a)
    (i6 : ∀ a, (![0, 768] : Fin 2 → ℕ) a + S256x128.size a ≤ S256x1024.size a)
    (i7 : ∀ a, (![0, 896] : Fin 2 → ℕ) a + S256x128.size a ≤ S256x1024.size a)
    (a : Fin 256) (h : Fin 8) (d : Fin 128) :
    v.read (Elt Ideal) (v.writes (Elt Ideal) g [
        (⟨Rect.unit (s := S256x1024) ![0, 896] S256x128.size i7, w7⟩ : View.Piece (Elt Ideal) S256x1024 .bf16),
        (⟨Rect.unit (s := S256x1024) ![0, 768] S256x128.size i6, w6⟩ : View.Piece (Elt Ideal) S256x1024 .bf16),
        (⟨Rect.unit (s := S256x1024) ![0, 640] S256x128.size i5, w5⟩ : View.Piece (Elt Ideal) S256x1024 .bf16),
        (⟨Rect.unit (s := S256x1024) ![0, 512] S256x128.size i4, w4⟩ : View.Piece (Elt Ideal) S256x1024 .bf16),
        (⟨Rect.unit (s := S256x1024) ![0, 384] S256x128.size i3, w3⟩ : View.Piece (Elt Ideal) S256x1024 .bf16),
        (⟨Rect.unit (s := S256x1024) ![0, 256] S256x128.size i2, w2⟩ : View.Piece (Elt Ideal) S256x1024 .bf16),
        (⟨Rect.unit (s := S256x1024) ![0, 128] S256x128.size i1, w1⟩ : View.Piece (Elt Ideal) S256x1024 .bf16),
        (⟨Rect.unit (s := S256x1024) ![0, 0] S256x128.size i0, w0⟩ : View.Piece (Elt Ideal) S256x1024 .bf16)]) (ix2 a ⟨128 * h.val + d.val, by omega⟩)
      = (![w0, w1, w2, w3, w4, w5, w6, w7] : Fin 8 → S256x128.Idx → EReal) h (ix2 a d) := by
  have hd := d.isLt
  match h with
  | 0 =>
    refine (View.read_writes_cons_unit_of_not_mem v g i7 w7 _ _ rfl 1 (Or.inl (by show 128 * 0 + d.val < 896; omega))).trans ?_
    refine (View.read_writes_cons_unit_of_not_mem v g i6 w6 _ _ rfl 1 (Or.inl (by show 128 * 0 + d.val < 768; omega))).trans ?_
    refine (View.read_writes_cons_unit_of_not_mem v g i5 w5 _ _ rfl 1 (Or.inl (by show 128 * 0 + d.val < 640; omega))).trans ?_
    refine (View.read_writes_cons_unit_of_not_mem v g i4 w4 _ _ rfl 1 (Or.inl (by show 128 * 0 + d.val < 512; omega))).trans ?_
    refine (View.read_writes_cons_unit_of_not_mem v g i3 w3 _ _ rfl 1 (Or.inl (by show 128 * 0 + d.val < 384; omega))).trans ?_
    refine (View.read_writes_cons_unit_of_not_mem v g i2 w2 _ _ rfl 1 (Or.inl (by show 128 * 0 + d.val < 256; omega))).trans ?_
    refine (View.read_writes_cons_unit_of_not_mem v g i1 w1 _ _ rfl 1 (Or.inl (by show 128 * 0 + d.val < 128; omega))).trans ?_
    exact View.read_writes_cons_unit_of_mem v g i0 w0 _ _ (ix2 a d) rfl fun | 0 => (Nat.zero_add _).symm | 1 => (by show 128 * 0 + d.val = 0 + d.val; omega)
  | 1 =>
    refine (View.read_writes_cons_unit_of_not_mem v g i7 w7 _ _ rfl 1 (Or.inl (by show 128 * 1 + d.val < 896; omega))).trans ?_
    refine (View.read_writes_cons_unit_of_not_mem v g i6 w6 _ _ rfl 1 (Or.inl (by show 128 * 1 + d.val < 768; omega))).trans ?_
    refine (View.read_writes_cons_unit_of_not_mem v g i5 w5 _ _ rfl 1 (Or.inl (by show 128 * 1 + d.val < 640; omega))).trans ?_
    refine (View.read_writes_cons_unit_of_not_mem v g i4 w4 _ _ rfl 1 (Or.inl (by show 128 * 1 + d.val < 512; omega))).trans ?_
    refine (View.read_writes_cons_unit_of_not_mem v g i3 w3 _ _ rfl 1 (Or.inl (by show 128 * 1 + d.val < 384; omega))).trans ?_
    refine (View.read_writes_cons_unit_of_not_mem v g i2 w2 _ _ rfl 1 (Or.inl (by show 128 * 1 + d.val < 256; omega))).trans ?_
    exact View.read_writes_cons_unit_of_mem v g i1 w1 _ _ (ix2 a d) rfl fun | 0 => (Nat.zero_add _).symm | 1 => (by show 128 * 1 + d.val = 128 + d.val; omega)
  | 2 =>
    refine (View.read_writes_cons_unit_of_not_mem v g i7 w7 _ _ rfl 1 (Or.inl (by show 128 * 2 + d.val < 896; omega))).trans ?_
    refine (View.read_writes_cons_unit_of_not_mem v g i6 w6 _ _ rfl 1 (Or.inl (by show 128 * 2 + d.val < 768; omega))).trans ?_
    refine (View.read_writes_cons_unit_of_not_mem v g i5 w5 _ _ rfl 1 (Or.inl (by show 128 * 2 + d.val < 640; omega))).trans ?_
    refine (View.read_writes_cons_unit_of_not_mem v g i4 w4 _ _ rfl 1 (Or.inl (by show 128 * 2 + d.val < 512; omega))).trans ?_
    refine (View.read_writes_cons_unit_of_not_mem v g i3 w3 _ _ rfl 1 (Or.inl (by show 128 * 2 + d.val < 384; omega))).trans ?_
    exact View.read_writes_cons_unit_of_mem v g i2 w2 _ _ (ix2 a d) rfl fun | 0 => (Nat.zero_add _).symm | 1 => (by show 128 * 2 + d.val = 256 + d.val; omega)
  | 3 =>
    refine (View.read_writes_cons_unit_of_not_mem v g i7 w7 _ _ rfl 1 (Or.inl (by show 128 * 3 + d.val < 896; omega))).trans ?_
    refine (View.read_writes_cons_unit_of_not_mem v g i6 w6 _ _ rfl 1 (Or.inl (by show 128 * 3 + d.val < 768; omega))).trans ?_
    refine (View.read_writes_cons_unit_of_not_mem v g i5 w5 _ _ rfl 1 (Or.inl (by show 128 * 3 + d.val < 640; omega))).trans ?_
    refine (View.read_writes_cons_unit_of_not_mem v g i4 w4 _ _ rfl 1 (Or.inl (by show 128 * 3 + d.val < 512; omega))).trans ?_
    exact View.read_writes_cons_unit_of_mem v g i3 w3 _ _ (ix2 a d) rfl fun | 0 => (Nat.zero_add _).symm | 1 => (by show 128 * 3 + d.val = 384 + d.val; omega)
  | 4 =>
    refine (View.read_writes_cons_unit_of_not_mem v g i7 w7 _ _ rfl 1 (Or.inl (by show 128 * 4 + d.val < 896; omega))).trans ?_
    refine (View.read_writes_cons_unit_of_not_mem v g i6 w6 _ _ rfl 1 (Or.inl (by show 128 * 4 + d.val < 768; omega))).trans ?_
    refine (View.read_writes_cons_unit_of_not_mem v g i5 w5 _ _ rfl 1 (Or.inl (by show 128 * 4 + d.val < 640; omega))).trans ?_
    exact View.read_writes_cons_unit_of_mem v g i4 w4 _ _ (ix2 a d) rfl fun | 0 => (Nat.zero_add _).symm | 1 => (by show 128 * 4 + d.val = 512 + d.val; omega)
  | 5 =>
    refine (View.read_writes_cons_unit_of_not_mem v g i7 w7 _ _ rfl 1 (Or.inl (by show 128 * 5 + d.val < 896; omega))).trans ?_
    refine (View.read_writes_cons_unit_of_not_mem v g i6 w6 _ _ rfl 1 (Or.inl (by show 128 * 5 + d.val < 768; omega))).trans ?_
    exact View.read_writes_cons_unit_of_mem v g i5 w5 _ _ (ix2 a d) rfl fun | 0 => (Nat.zero_add _).symm | 1 => (by show 128 * 5 + d.val = 640 + d.val; omega)
  | 6 =>
    refine (View.read_writes_cons_unit_of_not_mem v g i7 w7 _ _ rfl 1 (Or.inl (by show 128 * 6 + d.val < 896; omega))).trans ?_
    exact View.read_writes_cons_unit_of_mem v g i6 w6 _ _ (ix2 a d) rfl fun | 0 => (Nat.zero_add _).symm | 1 => (by show 128 * 6 + d.val = 768 + d.val; omega)
  | 7 =>
    exact View.read_writes_cons_unit_of_mem v g i7 w7 _ _ (ix2 a d) rfl fun | 0 => (Nat.zero_add _).symm | 1 => (by show 128 * 7 + d.val = 896 + d.val; omega)

/-- A query block's rows stacked head by head: the four heads that share a key head. -/
def stacked (x0 : Vec Ideal S256x1024 .bf16) (cc : Fin 2) (r : Fin 1024) (d : Fin 128) : EReal :=
  x0 (ix2 ⟨r.val % 256, by omega⟩ ⟨128 * (4 * cc.val + r.val / 256) + d.val, by omega⟩)

theorem slab (a : Memref sig .tc .vmem S256x1024 .bf16) (h : a.IsWhole) (x0 : Vec Ideal S256x1024 .bf16) (o : ℕ) (ho : o + 128 ≤ 1024)
    (w : ∀ k, (![0, o] : Fin 2 → ℕ) k + S256x128.size k ≤ S256x1024.size k) (r : Fin 256) (d : Fin 128) :
    View.readAt (Elt Ideal) a.view (Rect.unit (s := S256x1024) ![0, o] S256x128.size w).toLoadRect (h.unread x0) (ix2 r d)
      = x0 (ix2 r ⟨o + d.val, by omega⟩) :=
  (readAt_unread a h x0 _ _).trans (congrArg x0 (funext fun k => match k with
    | 0 => Fin.ext (by show 0 + 1 * r.val = r.val; omega)
    | 1 => Fin.ext (by show o + 1 * d.val = o + d.val; omega)))

variable (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole) (x0 : Vec Ideal S256x1024 .bf16) (x1 x2 : Vec Ideal S8192x256 .bf16) (x3 : Vec Ideal S1x2x16x128x512 .bf16) (x4 : Vec Ideal S1 .f32)

theorem stacked0 (r : Fin 1024) (d : Fin 128) : runSafe.sl.v25 c arg2 harg2 x0 (ix2 r d) = stacked x0 0 r d := by
  delta runSafe.sl.v25
  pointwise
  by_cases h0 : r.val < 256
  · refine (dif_pos h0).trans ((slab arg2 harg2 x0 0 (by omega) _ ⟨r.val, h0⟩ d).trans (congrArg x0 (congrArg₂ ix2 (Fin.ext ?_) (Fin.ext ?_))))
    · show r.val = r.val % 256; omega
    · show 0 + d.val = 128 * (4 * 0 + r.val / 256) + d.val; omega
  refine (dif_neg h0).trans ?_
  by_cases h1 : r.val - 256 < 256
  · refine (dif_pos h1).trans ((slab arg2 harg2 x0 128 (by omega) _ ⟨r.val - 256, h1⟩ d).trans (congrArg x0 (congrArg₂ ix2 (Fin.ext ?_) (Fin.ext ?_))))
    · show r.val - 256 = r.val % 256; omega
    · show 128 + d.val = 128 * (4 * 0 + r.val / 256) + d.val; omega
  refine (dif_neg h1).trans ?_
  by_cases h2 : r.val - 256 - 256 < 256
  · refine (dif_pos h2).trans ((slab arg2 harg2 x0 256 (by omega) _ ⟨r.val - 256 - 256, h2⟩ d).trans (congrArg x0 (congrArg₂ ix2 (Fin.ext ?_) (Fin.ext ?_))))
    · show r.val - 256 - 256 = r.val % 256; omega
    · show 256 + d.val = 128 * (4 * 0 + r.val / 256) + d.val; omega
  refine (dif_neg h2).trans ?_
  refine (slab arg2 harg2 x0 384 (by omega) _ ⟨r.val - 256 - 256 - 256, by omega⟩ d).trans (congrArg x0 (congrArg₂ ix2 (Fin.ext ?_) (Fin.ext ?_)))
  · show r.val - 256 - 256 - 256 = r.val % 256; omega
  · show 384 + d.val = 128 * (4 * 0 + r.val / 256) + d.val; omega

theorem stacked1 (r : Fin 1024) (d : Fin 128) : runSafe.sl.v30 c arg2 harg2 x0 (ix2 r d) = stacked x0 1 r d := by
  delta runSafe.sl.v30
  pointwise
  by_cases h0 : r.val < 256
  · refine (dif_pos h0).trans ((slab arg2 harg2 x0 512 (by omega) _ ⟨r.val, h0⟩ d).trans (congrArg x0 (congrArg₂ ix2 (Fin.ext ?_) (Fin.ext ?_))))
    · show r.val = r.val % 256; omega
    · show 512 + d.val = 128 * (4 * 1 + r.val / 256) + d.val; omega
  refine (dif_neg h0).trans ?_
  by_cases h1 : r.val - 256 < 256
  · refine (dif_pos h1).trans ((slab arg2 harg2 x0 640 (by omega) _ ⟨r.val - 256, h1⟩ d).trans (congrArg x0 (congrArg₂ ix2 (Fin.ext ?_) (Fin.ext ?_))))
    · show r.val - 256 = r.val % 256; omega
    · show 640 + d.val = 128 * (4 * 1 + r.val / 256) + d.val; omega
  refine (dif_neg h1).trans ?_
  by_cases h2 : r.val - 256 - 256 < 256
  · refine (dif_pos h2).trans ((slab arg2 harg2 x0 768 (by omega) _ ⟨r.val - 256 - 256, h2⟩ d).trans (congrArg x0 (congrArg₂ ix2 (Fin.ext ?_) (Fin.ext ?_))))
    · show r.val - 256 - 256 = r.val % 256; omega
    · show 768 + d.val = 128 * (4 * 1 + r.val / 256) + d.val; omega
  refine (dif_neg h2).trans ?_
  refine (slab arg2 harg2 x0 896 (by omega) _ ⟨r.val - 256 - 256 - 256, by omega⟩ d).trans (congrArg x0 (congrArg₂ ix2 (Fin.ext ?_) (Fin.ext ?_)))
  · show r.val - 256 - 256 - 256 = r.val % 256; omega
  · show 896 + d.val = 128 * (4 * 1 + r.val / 256) + d.val; omega

theorem cleared (y : S2x1024x256.Idx) :
    arg11.view.read (Elt Ideal) (arg11.view.writes (Elt Ideal) arg11.view.junk runSafe.sl.HS3_1) y = 0 := by
  delta runSafe.sl.HS3_1
  refine (View.read_writes_cons_unit_of_mem arg11.view _ _ _ _ y y rfl fun a => ?_).trans ?_
  · match a with
    | 0 => exact (Nat.zero_add _).symm
    | 1 => exact (Nat.zero_add _).symm
    | 2 => exact (Nat.zero_add _).symm
  · pointwise [k0_pay46]

theorem sums0 (r : Fin 1024) (l : Fin 256) :
    runSafe.sl.v55 c i arg2 harg2 arg3 harg3 arg4 harg4 arg5 harg5 arg6 harg6 arg7 harg7 arg8 harg8 arg9 harg9 arg10 harg10 arg11 harg11 x0 x1 x2 x3 (ix3 0 r l)
      = firstSum (runSafe.sl.v25 c arg2 harg2 x0) (runSafe.sl.v30 c arg2 harg2 x0) x1 x2 x3 (tiles i) 0 r l := by
  delta runSafe.sl.v55
  refine (load0 arg11.view _ _ r l).trans ?_
  exact total (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (v20 := runSafe.sl.v20 i) (v25 := runSafe.sl.v25 c arg2 harg2 x0) (v30 := runSafe.sl.v30 c arg2 harg2 x0) (x1 := x1) (x2 := x2) (x3 := x3) (h0 := cleared arg11) (h1 := rfl) (h2 := rfl) (h3 := rfl) (h4 := rfl) (y := ix3 0 r l)

theorem sums1 (r : Fin 1024) (l : Fin 256) :
    runSafe.sl.v72 c i arg2 harg2 arg3 harg3 arg4 harg4 arg5 harg5 arg6 harg6 arg7 harg7 arg8 harg8 arg9 harg9 arg10 harg10 arg11 harg11 x0 x1 x2 x3 (ix3 0 r l)
      = firstSum (runSafe.sl.v25 c arg2 harg2 x0) (runSafe.sl.v30 c arg2 harg2 x0) x1 x2 x3 (tiles i) 1 r l := by
  delta runSafe.sl.v72
  refine (load1 arg11.view _ _ r l).trans ?_
  exact total (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (v20 := runSafe.sl.v20 i) (v25 := runSafe.sl.v25 c arg2 harg2 x0) (v30 := runSafe.sl.v30 c arg2 harg2 x0) (x1 := x1) (x2 := x2) (x3 := x3) (h0 := cleared arg11) (h1 := rfl) (h2 := rfl) (h3 := rfl) (h4 := rfl) (y := ix3 1 r l)

/-- The quotient a head's column block of the output holds. -/
def quot (q0 q1 : FVec Ideal S1024x128 .bf16) (i : grid0.Coords) (a : Fin 256) (h : Fin 8) (d : Fin 128) : EReal :=
  Ideal.div (firstSum q0 q1 x1 x2 x3 (tiles i) ⟨h.val / 4, by omega⟩ ⟨256 * (h.val % 4) + a.val, by omega⟩ ⟨d.val, by omega⟩)
    (firstSum q0 q1 x1 x2 x3 (tiles i) ⟨h.val / 4, by omega⟩ ⟨256 * (h.val % 4) + a.val, by omega⟩ ⟨128 + d.val, by omega⟩)

theorem ratio0 (w : Vec Ideal S1x1024x256 .f32) (r : Fin 1024) (d : Fin 128) :
    k0_pay54 w (ix2 r d) = Ideal.div (w (ix3 0 r ⟨d.val, by omega⟩)) (w (ix3 0 r ⟨128 + d.val, by omega⟩)) := by
  pointwise [k0_pay54]

theorem ratio1 (w : Vec Ideal S1x1024x256 .f32) (r : Fin 1024) (d : Fin 128) :
    k0_pay2 w (ix2 r d) = Ideal.div (w (ix3 0 r ⟨d.val, by omega⟩)) (w (ix3 0 r ⟨128 + d.val, by omega⟩)) :=
  ratio0 w r d

theorem slice0 (w : Vec Ideal S1x1024x256 .f32) (a : Fin 256) (d : Fin 128) :
    k0_pay55 w (ix2 a d) = k0_pay54 w (ix2 ⟨256 * 0 + a.val, by omega⟩ d) := by
  pointwise [k0_pay55]
theorem slice1 (w : Vec Ideal S1x1024x256 .f32) (a : Fin 256) (d : Fin 128) :
    k0_pay56 w (ix2 a d) = k0_pay54 w (ix2 ⟨256 * 1 + a.val, by omega⟩ d) := by
  pointwise [k0_pay56]
theorem slice2 (w : Vec Ideal S1x1024x256 .f32) (a : Fin 256) (d : Fin 128) :
    k0_pay57 w (ix2 a d) = k0_pay54 w (ix2 ⟨256 * 2 + a.val, by omega⟩ d) := by
  pointwise [k0_pay57]
theorem slice3 (w : FVec Ideal S1024x128 .f32) (a : Fin 256) (d : Fin 128) :
    k0_pay1 w (ix2 a d) = w (ix2 ⟨256 * 3 + a.val, by omega⟩ d) := by
  pointwise [k0_pay1]
theorem slice4 (w : Vec Ideal S1x1024x256 .f32) (a : Fin 256) (d : Fin 128) :
    k0_pay3 w (ix2 a d) = k0_pay2 w (ix2 ⟨256 * 0 + a.val, by omega⟩ d) := by
  pointwise [k0_pay3]
theorem slice5 (w : Vec Ideal S1x1024x256 .f32) (a : Fin 256) (d : Fin 128) :
    k0_pay4 w (ix2 a d) = k0_pay2 w (ix2 ⟨256 * 1 + a.val, by omega⟩ d) := by
  pointwise [k0_pay4]
theorem slice6 (w : Vec Ideal S1x1024x256 .f32) (a : Fin 256) (d : Fin 128) :
    k0_pay5 w (ix2 a d) = k0_pay2 w (ix2 ⟨256 * 2 + a.val, by omega⟩ d) := by
  pointwise [k0_pay5]
theorem slice7 (w : Vec Ideal S1x1024x256 .f32) (a : Fin 256) (d : Fin 128) :
    k0_pay6 w (ix2 a d) = k0_pay2 w (ix2 ⟨256 * 3 + a.val, by omega⟩ d) := by
  pointwise [k0_pay6]
theorem safe_block (hc : small arg6 harg6 x4 = 1#1) (a : Fin 256) (h : Fin 8) (d : Fin 128) :
    Run.VO.read (Elt Ideal) (Run.VO.writes (Elt Ideal) Run.VO.junk (runSafe c i arg2 harg2 arg3 harg3 arg4 harg4 arg5 harg5 arg6 harg6 arg7 harg7 arg8 harg8 arg9 harg9 arg10 harg10 arg11 harg11 x0 x1 x2 x3 x4 hc).1) (ix2 a ⟨128 * h.val + d.val, by omega⟩)
      = quot x1 x2 x3 (runSafe.sl.v25 c arg2 harg2 x0) (runSafe.sl.v30 c arg2 harg2 x0) i a h d := by
  unfold runSafe
  dsimp only
  delta runSafe.sl.r_1 runSafe.sl.r_2
  refine (columns Run.VO _ _ _ _ _ _ _ _ _ _ _ _ _ _ _ _ _ a h d).trans ?_
  match h with
  | 0 => exact (slice0 _ a d).trans ((ratio0 _ _ d).trans (congrArg₂ Ideal.div (sums0 ..) (sums0 ..)))
  | 1 => exact (slice1 _ a d).trans ((ratio0 _ _ d).trans (congrArg₂ Ideal.div (sums0 ..) (sums0 ..)))
  | 2 => exact (slice2 _ a d).trans ((ratio0 _ _ d).trans (congrArg₂ Ideal.div (sums0 ..) (sums0 ..)))
  | 3 => exact (slice3 _ a d).trans ((ratio0 _ _ d).trans (congrArg₂ Ideal.div (sums0 ..) (sums0 ..)))
  | 4 => exact (slice4 _ a d).trans ((ratio1 _ _ d).trans (congrArg₂ Ideal.div (sums1 ..) (sums1 ..)))
  | 5 => exact (slice5 _ a d).trans ((ratio1 _ _ d).trans (congrArg₂ Ideal.div (sums1 ..) (sums1 ..)))
  | 6 => exact (slice6 _ a d).trans ((ratio1 _ _ d).trans (congrArg₂ Ideal.div (sums1 ..) (sums1 ..)))
  | 7 => exact (slice7 _ a d).trans ((ratio1 _ _ d).trans (congrArg₂ Ideal.div (sums1 ..) (sums1 ..)))

end Cert.AttnIdeal.Tile

end
-- ==== Proof.AttnRow.lean ====
module

public import Idealize.ShloMosaic.Lib.Pipeline.ValueKit

/- A weighted mean with exponential weights, over the extended reals: taken directly, tile by tile with
   a running maximum, and after a softmax. No logit is `⊤`; a logit of `⊥` is a key masked out. -/

@[expose] public section

noncomputable section

open Idealize.ShloMosaic
open scoped BigOperators

namespace Cert.AttnRow

/-- The factor a maximum of `m` divides the weights by: none at all when nothing has been seen. -/
def down (m : EReal) : EReal := if m = ⊥ then 0 else Ideal.exp (-m)

theorem down_bot : down ⊥ = 0 := if_pos rfl
theorem down_coe (r : ℝ) : down (r : EReal) = ((Real.exp (-r) : ℝ) : EReal) := by
  rw [down, if_neg (EReal.coe_ne_bot r), ← EReal.coe_neg, Ideal.exp_coe]

theorem exp_weight {x : EReal} (hx : x ≠ ⊤) : ∃ w : ℝ, 0 ≤ w ∧ Ideal.exp x = (w : EReal) := by
  induction x with
  | bot => exact ⟨0, le_refl 0, rfl⟩
  | coe r => exact ⟨Real.exp r, (Real.exp_pos r).le, rfl⟩
  | top => exact absurd rfl hx

theorem exp_weight_pos {x : EReal} (hx : x ≠ ⊤) (hb : x ≠ ⊥) : ∃ w : ℝ, 0 < w ∧ Ideal.exp x = (w : EReal) := by
  induction x with
  | bot => exact absurd rfl hb
  | coe r => exact ⟨Real.exp r, Real.exp_pos r, rfl⟩
  | top => exact absurd rfl hx

theorem down_real {m : EReal} (hm : m ≠ ⊤) : ∃ e : ℝ, 0 ≤ e ∧ down m = (e : EReal) := by
  induction m with
  | bot => exact ⟨0, le_refl 0, down_bot⟩
  | coe r => exact ⟨Real.exp (-r), (Real.exp_pos _).le, down_coe r⟩
  | top => exact absurd rfl hm

theorem exp_sub {x m : EReal} (hm : m ≠ ⊤) (h : x ≤ m) : Ideal.exp (x - m) = down m * Ideal.exp x := by
  induction m with
  | bot => rw [le_bot_iff.1 h, down_bot, zero_mul]; rfl
  | top => exact absurd rfl hm
  | coe r =>
    induction x with
    | bot => rw [down_coe, Ideal.exp_bot, mul_zero]; rfl
    | top => exact absurd h (by simp)
    | coe s =>
      rw [down_coe, ← EReal.coe_sub, Ideal.exp_coe, Ideal.exp_coe, ← EReal.coe_mul, ← Real.exp_add]
      congr 3; ring

theorem rescale {m m' A : EReal} (hm' : m' ≠ ⊤) (h : m ≤ m') (hA : m = ⊥ → A = 0) :
    Ideal.exp (m - m') * (down m * A) = down m' * A := by
  induction m with
  | bot => rw [hA rfl]; simp
  | top => exact absurd (top_le_iff.1 h) hm'
  | coe r =>
    rw [exp_sub hm' h, ← mul_assoc, mul_assoc (down m'), down_coe, Ideal.exp_coe, ← EReal.coe_mul, ← Real.exp_add]
    simp

theorem real_mul_sum {ι : Type} (s : Finset ι) (e : ℝ) (he : 0 ≤ e) (f : ι → EReal) :
    (e : EReal) * ∑ i ∈ s, f i = ∑ i ∈ s, (e : EReal) * f i := by
  classical
  induction s using Finset.induction_on with
  | empty => simp
  | insert a s ha ih =>
    rw [Finset.sum_insert ha, Finset.sum_insert ha,
      EReal.left_distrib_of_nonneg_of_ne_top (EReal.coe_nonneg.2 he) (EReal.coe_ne_top e), ih]

theorem sum_real {ι : Type} (s : Finset ι) (f : ι → EReal) (hf : ∀ i ∈ s, ∃ w : ℝ, 0 ≤ w ∧ f i = (w : EReal)) :
    ∃ a : ℝ, 0 ≤ a ∧ ∑ i ∈ s, f i = (a : EReal) := by
  classical
  induction s using Finset.induction_on with
  | empty => exact ⟨0, le_refl 0, by simp⟩
  | insert b s hb ih =>
    obtain ⟨w, hw, ew⟩ := hf b (Finset.mem_insert_self b s)
    obtain ⟨a, ha, ea⟩ := ih fun i hi => hf i (Finset.mem_insert_of_mem hi)
    exact ⟨w + a, add_nonneg hw ha, by rw [Finset.sum_insert hb, ew, ea, EReal.coe_add]⟩

theorem sum_real_pos {ι : Type} (s : Finset ι) (f : ι → EReal) (hf : ∀ i ∈ s, ∃ w : ℝ, 0 ≤ w ∧ f i = (w : EReal))
    (i : ι) (hi : i ∈ s) (hp : ∃ w : ℝ, 0 < w ∧ f i = (w : EReal)) : ∃ a : ℝ, 0 < a ∧ ∑ i ∈ s, f i = (a : EReal) := by
  classical
  obtain ⟨w, hw, ew⟩ := hp
  obtain ⟨a, ha, ea⟩ := sum_real (s.erase i) f fun j hj => hf j (Finset.mem_of_mem_erase hj)
  exact ⟨w + a, add_pos_of_pos_of_nonneg hw ha, by rw [← Finset.add_sum_erase s f hi, ew, ea, EReal.coe_add]⟩

theorem div_cancel {e a : ℝ} (he : 0 < e) (ha : 0 < a) (B : EReal) :
    Ideal.div ((e : EReal) * B) ((e : EReal) * (a : EReal)) = Ideal.div B (a : EReal) := by
  rw [← EReal.coe_mul, Ideal.div_coe (mul_pos he ha).ne', Ideal.div_coe ha.ne', mul_comm (e : EReal) B, mul_assoc,
    ← EReal.coe_mul]
  congr 2
  field_simp

/-! ### The mean -/

variable (X V : ℕ → EReal)

def weights (m : ℕ) : EReal := ∑ n ∈ Finset.range m, Ideal.exp (X n)
def weighted (m : ℕ) : EReal := ∑ n ∈ Finset.range m, Ideal.exp (X n) * V n
/-- The mean of the first values. -/
def mean (m : ℕ) : EReal := Ideal.div (weighted X V m) (weights X m)

theorem weights_more (m N : ℕ) (h : m ≤ N) (hX : ∀ n, m ≤ n → n < N → X n = ⊥) : weights X m = weights X N :=
  Finset.sum_subset (Finset.range_subset_range.2 h) fun n hn hm => by
    rw [hX n (not_lt.1 fun h' => hm (Finset.mem_range.2 h')) (Finset.mem_range.1 hn)]; rfl

theorem weighted_more (m N : ℕ) (h : m ≤ N) (hX : ∀ n, m ≤ n → n < N → X n = ⊥) : weighted X V m = weighted X V N :=
  Finset.sum_subset (Finset.range_subset_range.2 h) fun n hn hm => by
    rw [hX n (not_lt.1 fun h' => hm (Finset.mem_range.2 h')) (Finset.mem_range.1 hn), Ideal.exp_bot, zero_mul]

/-- Keys masked out do not change the mean. -/
theorem mean_more (m N : ℕ) (h : m ≤ N) (hX : ∀ n, m ≤ n → n < N → X n = ⊥) : mean X V m = mean X V N := by
  rw [mean, mean, weights_more X m N h hX, weighted_more X V m N h hX]

/-! ### Tile by tile -/

def stepM (j : ℕ) (M : EReal) : EReal :=
  max M (Finset.fold max (Ideal.ofBits .f32 0xFF800000#32) (fun n : Fin 512 => X (512 * j + n.val)) Finset.univ)
def stepL (j : ℕ) (M L : EReal) : EReal :=
  Ideal.exp (M - stepM X j M) * L + ∑ n : Fin 512, Ideal.exp (X (512 * j + n.val) - stepM X j M)
def stepA (j : ℕ) (M A : EReal) : EReal :=
  Ideal.exp (M - stepM X j M) * A + ∑ n : Fin 512, Ideal.exp (X (512 * j + n.val) - stepM X j M) * V (512 * j + n.val)

def runM : ℕ → EReal
  | 0 => ⊥
  | j + 1 => stepM X j (runM j)
def runL : ℕ → EReal
  | 0 => 0
  | j + 1 => stepL X j (runM X j) (runL j)
def runA : ℕ → EReal
  | 0 => 0
  | j + 1 => stepA X V j (runM X j) (runA j)

variable {X} (hX : ∀ n, X n ≠ ⊤)
include hX

theorem stepM_ne_top (j : ℕ) (M : EReal) (hM : M ≠ ⊤) : stepM X j M ≠ ⊤ := by
  refine ne_of_lt (max_lt (lt_top_iff_ne_top.2 hM) (Finset.fold_max_lt (c := ⊤) |>.2 ⟨?_, fun n _ => lt_top_iff_ne_top.2 (hX _)⟩))
  simp [Ideal.ofBits, Ideal.ieee]

omit hX in
theorem le_stepM (j : ℕ) (M : EReal) (n : Fin 512) : X (512 * j + n.val) ≤ stepM X j M :=
  le_max_of_le_right (Finset.le_fold_max (X (512 * j + n.val)) |>.2 (Or.inr ⟨n, Finset.mem_univ n, le_refl _⟩))

theorem runM_ne_top : ∀ j, runM X j ≠ ⊤
  | 0 => by simp [runM]
  | j + 1 => stepM_ne_top hX j _ (runM_ne_top j)

omit hX in
theorem le_runM (j n : ℕ) (h : n < 512 * j) : X n ≤ runM X j := by
  induction j with
  | zero => omega
  | succ j ih =>
    by_cases hn : n < 512 * j
    · exact (ih hn).trans (le_max_left _ _)
    · have e : 512 * j + (n - 512 * j) = n := by omega
      exact e ▸ le_stepM j (runM X j) ⟨n - 512 * j, by omega⟩

omit hX in
theorem weights_eq_zero (j : ℕ) (h : runM X j = ⊥) : weights X (512 * j) = 0 :=
  Finset.sum_eq_zero fun n hn => by
    have e : X n = ⊥ := le_bot_iff.1 (h ▸ le_runM j n (Finset.mem_range.1 hn))
    rw [e]; rfl

omit hX in
theorem weighted_eq_zero (j : ℕ) (h : runM X j = ⊥) : weighted X V (512 * j) = 0 :=
  Finset.sum_eq_zero fun n hn => by
    have e : X n = ⊥ := le_bot_iff.1 (h ▸ le_runM j n (Finset.mem_range.1 hn))
    rw [e, Ideal.exp_bot, zero_mul]

theorem runL_eq (j : ℕ) : runL X j = down (runM X j) * weights X (512 * j) := by
  induction j with
  | zero => simp [runL, weights]
  | succ j ih =>
    obtain ⟨e, he, ee⟩ := down_real (runM_ne_top hX (j + 1))
    show Ideal.exp (runM X j - runM X (j + 1)) * runL X j + ∑ n : Fin 512, Ideal.exp (X (512 * j + n.val) - runM X (j + 1)) = _
    rw [ih, rescale (runM_ne_top hX (j + 1)) (le_max_left _ _) (weights_eq_zero j),
      show weights X (512 * (j + 1)) = weights X (512 * j) + ∑ n : Fin 512, Ideal.exp (X (512 * j + n.val)) from
        (Finset.sum_range_add _ (512 * j) 512).trans (congrArg (_ + ·) (Finset.sum_range _)),
      ee, EReal.left_distrib_of_nonneg_of_ne_top (EReal.coe_nonneg.2 he) (EReal.coe_ne_top e), real_mul_sum _ e he]
    refine congrArg (HAdd.hAdd _) (Finset.sum_congr rfl fun n _ => ?_)
    rw [exp_sub (runM_ne_top hX (j + 1)) (le_stepM j _ n), ee]

theorem runA_eq (j : ℕ) : runA X V j = down (runM X j) * weighted X V (512 * j) := by
  induction j with
  | zero => simp [runA, weighted]
  | succ j ih =>
    obtain ⟨e, he, ee⟩ := down_real (runM_ne_top hX (j + 1))
    show Ideal.exp (runM X j - runM X (j + 1)) * runA X V j + ∑ n : Fin 512, Ideal.exp (X (512 * j + n.val) - runM X (j + 1)) * V (512 * j + n.val) = _
    rw [ih, rescale (runM_ne_top hX (j + 1)) (le_max_left _ _) (weighted_eq_zero V j),
      show weighted X V (512 * (j + 1)) = weighted X V (512 * j) + ∑ n : Fin 512, Ideal.exp (X (512 * j + n.val)) * V (512 * j + n.val) from
        (Finset.sum_range_add _ (512 * j) 512).trans (congrArg (_ + ·) (Finset.sum_range _)),
      ee, EReal.left_distrib_of_nonneg_of_ne_top (EReal.coe_nonneg.2 he) (EReal.coe_ne_top e), real_mul_sum _ e he]
    refine congrArg (HAdd.hAdd _) (Finset.sum_congr rfl fun n _ => ?_)
    rw [exp_sub (runM_ne_top hX (j + 1)) (le_stepM j _ n), ee, mul_assoc]

theorem weights_pos (m n : ℕ) (hn : n < m) (hb : X n ≠ ⊥) : ∃ a : ℝ, 0 < a ∧ weights X m = (a : EReal) :=
  sum_real_pos _ _ (fun i _ => exp_weight (hX i)) n (Finset.mem_range.2 hn) (exp_weight_pos (hX n) hb)

/-- The quotient the tiles end with is the mean. -/
theorem run_mean (j n : ℕ) (hn : n < 512 * j) (hb : X n ≠ ⊥) : Ideal.div (runA X V j) (runL X j) = mean X V (512 * j) := by
  obtain ⟨a, ha, ea⟩ := weights_pos hX (512 * j) n hn hb
  have hm : runM X j ≠ ⊥ := fun h => hb (le_bot_iff.1 (h ▸ le_runM j n hn))
  have hr : runM X j = ((runM X j).toReal : EReal) := (EReal.coe_toReal (runM_ne_top hX j) hm).symm
  rw [runA_eq V hX, runL_eq hX, mean, ea, hr, down_coe, div_cancel (Real.exp_pos _) ha]

/-- A softmax's weights applied to the values give the mean. -/
theorem softmax_mean (N n : ℕ) (hn : n < N) (hb : X n ≠ ⊥) (M : EReal) (hM : M ≠ ⊤) (hle : ∀ n < N, X n ≤ M) :
    ∑ n : Fin N, Ideal.div (Ideal.exp (X n.val - M)) (∑ n' : Fin N, Ideal.exp (X n'.val - M)) * V n.val = mean X V N := by
  obtain ⟨a, ha, ea⟩ := weights_pos hX N n hn hb
  have hm : M ≠ ⊥ := fun h => hb (le_bot_iff.1 (h ▸ hle n hn))
  obtain ⟨r, rfl⟩ : ∃ r : ℝ, M = (r : EReal) := ⟨M.toReal, (EReal.coe_toReal hM hm).symm⟩
  have hs : ∀ n : Fin N, Ideal.exp (X n.val - (r : EReal)) = ((Real.exp (-r) : ℝ) : EReal) * Ideal.exp (X n.val) := fun n => by
    rw [exp_sub (EReal.coe_ne_top r) (hle n.val n.isLt), down_coe]
  have ht : ∑ n' : Fin N, Ideal.exp (X n'.val - (r : EReal)) = ((Real.exp (-r) : ℝ) : EReal) * (a : EReal) := by
    rw [← ea, weights, Finset.sum_range, real_mul_sum _ _ (Real.exp_pos _).le]
    exact Finset.sum_congr rfl fun n _ => hs n
  rw [ht, mean, ea, Ideal.div_coe ha.ne', weighted, Finset.sum_range, mul_comm (Finset.sum _ _), real_mul_sum _ _ (by positivity)]
  refine Finset.sum_congr rfl fun n _ => ?_
  rw [hs n, div_cancel (Real.exp_pos _) ha, Ideal.div_coe ha.ne', mul_comm (Ideal.exp _), mul_assoc]

end Cert.AttnRow

end
-- ==== Proof.AttnOnline.lean ====
module

public import proofs.«01_k».proof.Proof.AttnSafeOut
public import proofs.«01_k».proof.Proof.AttnRow

/- The attention's running-maximum loop, trip by trip. -/

@[expose] public section

set_option maxRecDepth 16384

noncomputable section

open Idealize.ShloMosaic Idealize.ShloMosaic.TcCoe Idealize.SL.Sem
open scoped BigOperators

namespace Cert.AttnIdeal.Tile

open Cert.AttnIdeal Cert.AttnIdeal.Gen Cert.AttnIdeal.Run Cert.AttnRow

section Pieces

variable (W : ℕ) {sp : Space} (v : View sig .tc sp ⟨3, ![2, 1024, W]⟩ .f32)

/-- The two halves stored, the second over the first, leave the two halves. -/
theorem halves (g : v.ty.Contents (Elt Ideal)) (L : List (View.Piece (Elt Ideal) ⟨3, ![2, 1024, W]⟩ .f32))
    (i1 : ∀ a, (![1, 0, 0] : Fin 3 → ℕ) a + (![1, 1024, W] : Fin 3 → ℕ) a ≤ (![2, 1024, W] : Fin 3 → ℕ) a)
    (i0 : ∀ a, (![0, 0, 0] : Fin 3 → ℕ) a + (![1, 1024, W] : Fin 3 → ℕ) a ≤ (![2, 1024, W] : Fin 3 → ℕ) a)
    (w1 w0 : (⟨3, ![1, 1024, W]⟩ : Shape).Idx → EReal) (A : Fin 2 → Fin 1024 → Fin W → EReal)
    (h1 : ∀ r l, w1 (ix3 0 r l) = A 1 r l) (h0 : ∀ r l, w0 (ix3 0 r l) = A 0 r l) (p : Fin 2) (r : Fin 1024) (l : Fin W) :
    v.read (Elt Ideal) (v.writes (Elt Ideal) g
        ((⟨Rect.unit (s := ⟨3, ![2, 1024, W]⟩) ![1, 0, 0] ![1, 1024, W] i1, w1⟩ : View.Piece (Elt Ideal) ⟨3, ![2, 1024, W]⟩ .f32)
          :: ⟨Rect.unit (s := ⟨3, ![2, 1024, W]⟩) ![0, 0, 0] ![1, 1024, W] i0, w0⟩ :: L)) (ix3 p r l)
      = A p r l := by
  obtain rfl | rfl : p = 0 ∨ p = 1 := by omega
  · refine (View.read_writes_cons_unit_of_not_mem v g i1 w1 _ _ rfl 0 (Or.inl (by show 0 < 1; omega))).trans ?_
    refine (View.read_writes_cons_unit_of_mem v g i0 w0 L _ (ix3 0 r l) rfl fun a => ?_).trans (h0 r l)
    match a with
    | 0 => rfl
    | 1 => show r.val = 0 + r.val; omega
    | 2 => show l.val = 0 + l.val; omega
  · refine (View.read_writes_cons_unit_of_mem v g i1 w1 _ _ (ix3 0 r l) rfl fun a => ?_).trans (h1 r l)
    match a with
    | 0 => rfl
    | 1 => show r.val = 0 + r.val; omega
    | 2 => show l.val = 0 + l.val; omega

theorem half0 (f : v.ty.Contents (Elt Ideal)) (i0 : ∀ a, (![0, 0, 0] : Fin 3 → ℕ) a + (![1, 1024, W] : Fin 3 → ℕ) a ≤ (![2, 1024, W] : Fin 3 → ℕ) a)
    (r : Fin 1024) (l : Fin W) :
    View.readAt (Elt Ideal) v (Rect.unit (s := ⟨3, ![2, 1024, W]⟩) ![0, 0, 0] ![1, 1024, W] i0).toLoadRect f (ix3 0 r l)
      = v.read (Elt Ideal) f (ix3 0 r l) := by
  refine congrArg (v.read (Elt Ideal) f) (funext fun a => Fin.ext ?_)
  match a with
  | 0 => rfl
  | 1 => show 0 + 1 * r.val = r.val; omega
  | 2 => show 0 + 1 * l.val = l.val; omega

theorem half1 (f : v.ty.Contents (Elt Ideal)) (i1 : ∀ a, (![1, 0, 0] : Fin 3 → ℕ) a + (![1, 1024, W] : Fin 3 → ℕ) a ≤ (![2, 1024, W] : Fin 3 → ℕ) a)
    (r : Fin 1024) (l : Fin W) :
    View.readAt (Elt Ideal) v (Rect.unit (s := ⟨3, ![2, 1024, W]⟩) ![1, 0, 0] ![1, 1024, W] i1).toLoadRect f (ix3 0 r l)
      = v.read (Elt Ideal) f (ix3 1 r l) := by
  refine congrArg (v.read (Elt Ideal) f) (funext fun a => Fin.ext ?_)
  match a with
  | 0 => rfl
  | 1 => show 0 + 1 * r.val = r.val; omega
  | 2 => show 0 + 1 * l.val = l.val; omega

theorem whole (g : v.ty.Contents (Elt Ideal)) (L : List (View.Piece (Elt Ideal) ⟨3, ![2, 1024, W]⟩ .f32))
    (ii : ∀ a, (![0, 0, 0] : Fin 3 → ℕ) a + (![2, 1024, W] : Fin 3 → ℕ) a ≤ (![2, 1024, W] : Fin 3 → ℕ) a)
    (w : (⟨3, ![2, 1024, W]⟩ : Shape).Idx → EReal) (y : (⟨3, ![2, 1024, W]⟩ : Shape).Idx) :
    v.read (Elt Ideal) (v.writes (Elt Ideal) g
        ((⟨Rect.unit (s := ⟨3, ![2, 1024, W]⟩) ![0, 0, 0] ![2, 1024, W] ii, w⟩ : View.Piece (Elt Ideal) ⟨3, ![2, 1024, W]⟩ .f32) :: L)) y = w y := by
  refine View.read_writes_cons_unit_of_mem v g ii w L y y rfl fun a => ?_
  match a with
  | 0 => exact (Nat.zero_add _).symm
  | 1 => exact (Nat.zero_add _).symm
  | 2 => exact (Nat.zero_add _).symm

end Pieces

/-! ### One tile -/

/-- The named scale. -/
abbrev scaleN : EReal := (Named.named (F := Ideal) κ "scale" (0x3DB504F3#32 : BitVec (FTy.bits .f32)) : Ideal .f32)

/-- A stacked row's logit at a key. -/
def logit (cc : Fin 2) (q : FVec Ideal S1024x128 .bf16) (x1 : Vec Ideal S8192x256 .bf16) (x3 : Vec Ideal S1x2x16x128x512 .bf16)
    (r : Fin 1024) (n : ℕ) : EReal := score cc q x1 r n * scaleN + bias x3 r n

/-- A key's value. -/
def value (cc : Fin 2) (x2 : Vec Ideal S8192x256 .bf16) (d : Fin 128) (n : ℕ) : EReal :=
  x2 (ix2 ⟨n % 8192, Nat.mod_lt _ (by decide)⟩ ⟨128 * cc.val + d.val, by omega⟩)

theorem bias58 (b0 b1 : Vec Ideal S1x1x1x128x512 .bf16) (y : S1024x512.Idx) :
    k0_pay58 b0 b1 y = rowBias b0 b1 (y 0) (y 1) := bias_apply b0 b1 y

theorem logits (cc : Fin 2) (q : FVec Ideal S1024x128 .bf16) (x1 : Vec Ideal S8192x256 .bf16) (x3 : Vec Ideal S1x2x16x128x512 .bf16)
    (arg3 : Memref sig .tc .vmem S8192x256 .bf16) (harg3 : arg3.IsWhole)
    (arg5 : Memref sig .tc .vmem S1x2x16x128x512 .bf16) (harg5 : arg5.IsWhole) (j : ℕ) (hj : j < 16)
    (o0 o1 : Fin 5 → ℕ) (ok : Fin 2 → ℕ) (i0 : ∀ a, o0 a + S1x1x1x128x512.size a ≤ S1x2x16x128x512.size a)
    (i1 : ∀ a, o1 a + S1x1x1x128x512.size a ≤ S1x2x16x128x512.size a) (ik : ∀ a, ok a + S512x128.size a ≤ S8192x256.size a)
    (h0 : o0 = ![0, 0, j, 0, 0]) (h1 : o1 = ![0, 1, j, 0, 0]) (hk : ok = ![512 * j, 128 * cc.val]) (r : Fin 1024) (n : Fin 512) :
    k0_pay59 q
        (View.readAt (Elt Ideal) arg5.view (Rect.unit (s := S1x2x16x128x512) o0 S1x1x1x128x512.size i0).toLoadRect (harg5.unread x3))
        (View.readAt (Elt Ideal) arg5.view (Rect.unit (s := S1x2x16x128x512) o1 S1x1x1x128x512.size i1).toLoadRect (harg5.unread x3))
        (View.readAt (Elt Ideal) arg3.view (Rect.unit (s := S8192x256) ok S512x128.size ik).toLoadRect (harg3.unread x1)) (ix2 r n)
      = logit cc q x1 x3 r (512 * j + n.val) := by
  subst h0 h1 hk
  pointwise [k0_pay59, bias58, rowBias]
  have e0 := emb_bias j hj 0 ⟨r.val % 128, Nat.mod_lt _ (by decide)⟩ n i0
  have e1 := emb_bias j hj 1 ⟨r.val % 128, Nat.mod_lt _ (by decide)⟩ n i1
  have eb : (if r.val % 256 < 128 then
        x3 ((Rect.unit (s := S1x2x16x128x512) ![0, 0, j, 0, 0] S1x1x1x128x512.size i0).emb (ix5 0 0 0 ⟨r.val % 128, Nat.mod_lt _ (by decide)⟩ n))
      else x3 ((Rect.unit (s := S1x2x16x128x512) ![0, 1, j, 0, 0] S1x1x1x128x512.size i1).emb (ix5 0 0 0 ⟨r.val % 128, Nat.mod_lt _ (by decide)⟩ n)))
      = bias x3 r (512 * j + n.val) := by
    unfold bias
    split_ifs with h
    · refine (congrArg x3 e0).trans (congrArg x3 ?_)
      rw [show (⟨r.val % 256 / 128, by omega⟩ : Fin 2) = 0 from Fin.ext (by show _ / 128 = 0; omega)]
    · refine (congrArg x3 e1).trans (congrArg x3 ?_)
      rw [show (⟨r.val % 256 / 128, by omega⟩ : Fin 2) = 1 from Fin.ext (by show _ / 128 = 1; omega)]
  simp only [readAt_unread]
  refine congrArg₂ (· + ·) (congrArg (· * scaleN) ?_) eb
  exact Finset.sum_congr rfl fun d _ => congrArg (q (ix2 r d) * ·) (congrArg x1 (emb_rows j hj cc n d ik))

theorem values (cc : Fin 2) (x2 : Vec Ideal S8192x256 .bf16) (arg4 : Memref sig .tc .vmem S8192x256 .bf16) (harg4 : arg4.IsWhole)
    (j : ℕ) (hj : j < 16) (ok : Fin 2 → ℕ) (ik : ∀ a, ok a + S512x128.size a ≤ S8192x256.size a) (hk : ok = ![512 * j, 128 * cc.val])
    (n : Fin 512) (d : Fin 128) :
    View.readAt (Elt Ideal) arg4.view (Rect.unit (s := S8192x256) ok S512x128.size ik).toLoadRect (harg4.unread x2) (ix2 n d)
      = value cc x2 d (512 * j + n.val) := by
  subst hk
  exact (readAt_unread arg4 harg4 x2 _ _).trans (congrArg x2 (emb_rows j hj cc n d ik))

section Steps

variable (q : FVec Ideal S1024x128 .bf16) (b0 b1 : Vec Ideal S1x1x1x128x512 .bf16) (k v : Vec Ideal S512x128 .bf16)
  (m l : Vec Ideal S1x1024x1 .f32) (a : Vec Ideal S1x1024x128 .f32) (X V : ℕ → EReal) (j : ℕ) (r : Fin 1024)
  (hx : ∀ n : Fin 512, k0_pay59 q b0 b1 k (ix2 r n) = X (512 * j + n.val))
include hx

theorem max_apply : k0_pay61 q b0 b1 k m (ix2 r 0) = stepM X j (m (ix3 0 r 0)) := by
  pointwise [k0_pay61, k0_pay60]
  rw [stepM]
  congr 2
  exact funext hx

theorem m_apply : k0_pay67 (k0_pay61 q b0 b1 k m) (ix3 0 r 0) = stepM X j (m (ix3 0 r 0)) := by
  pointwise [k0_pay67]
  exact max_apply q b0 b1 k m X j r hx

theorem l_apply : k0_pay65 (k0_pay64 q b0 b1 k m l) (ix3 0 r 0) = stepL X j (m (ix3 0 r 0)) (l (ix3 0 r 0)) := by
  pointwise [k0_pay65, k0_pay64, k0_pay62, k0_pay63, k0_pay60]
  simp only [hx, max_apply q b0 b1 k m X j r hx]
  rfl

theorem a_apply (d : Fin 128) (hv : ∀ n : Fin 512, v (ix2 n d) = V (512 * j + n.val)) :
    k0_pay66 v (k0_pay62 q b0 b1 k m) (k0_pay63 q b0 b1 k m) a (ix3 0 r d) = stepA X V j (m (ix3 0 r 0)) (a (ix3 0 r d)) := by
  pointwise [k0_pay66, k0_pay62, k0_pay63, k0_pay60]
  simp only [hx, hv, max_apply q b0 b1 k m X j r hx]
  rfl

end Steps

section Trips

variable (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole) (x0 : Vec Ideal S256x1024 .bf16)
variable (v20 : BitVec 32) (v25 v30 : FVec Ideal S1024x128 .bf16) (v49 : BitVec 32) (x1 x2 : Vec Ideal S8192x256 .bf16) (x3 : Vec Ideal S1x2x16x128x512 .bf16) (x4 : Vec Ideal S1 .f32)

/-- The logits of a row of one of the two stacks. -/
abbrev XX (p : Fin 2) (r : Fin 1024) : ℕ → EReal := logit p (![v25, v30] p) x1 x3 r

section One

variable (k : Fin (k0_t5_loop i).trips) (f8 : BufTy.Contents (Elt Ideal) arg8.view.ty) (f9 : BufTy.Contents (Elt Ideal) arg9.view.ty) (f10 : BufTy.Contents (Elt Ideal) arg10.view.ty)

theorem trip5_m (p : Fin 2) (r : Fin 1024) :
    arg8.view.read (Elt Ideal) (arg8.view.writes (Elt Ideal) f8 (tripL_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) k f8 f9 f10).1) (ix3 p r 0)
      = stepM (XX v25 v30 x1 x3 p r) k.val (arg8.view.read (Elt Ideal) f8 (ix3 p r 0)) := by
  have hj : k.val < 16 := lt_of_lt_of_le (lt_of_lt_of_eq k.isLt (trips5 i)) (tiles_le i)
  unfold tripL_k0_t5 trip_k0_t5
  dsimp only
  delta trip_k0_t5.sl.r trip_k0_t5.sl.r_2 trip_k0_t5.sl.r_7 trip_k0_t5.sl.v150
  refine halves 1 arg8.view f8 _ _ _ _ _ (fun p r _ => stepM (XX v25 v30 x1 x3 p r) k.val (arg8.view.read (Elt Ideal) f8 (ix3 p r 0))) (fun r l => ?_) (fun r l => ?_) p r 0
  · obtain rfl : l = 0 := Subsingleton.elim _ _
    exact (m_apply v30 _ _ _ _ _ k.val r (logits 1 v30 x1 x3 arg3 harg3 arg5 harg5 k.val hj _ _ _ _ _ _ (off17 i k) (off18 i k) (off20 i k) r)).trans (congrArg _ (half1 1 arg8.view f8 _ r 0))
  · obtain rfl : l = 0 := Subsingleton.elim _ _
    exact (m_apply v25 _ _ _ _ _ k.val r (logits 0 v25 x1 x3 arg3 harg3 arg5 harg5 k.val hj _ _ _ _ _ _ (off17 i k) (off18 i k) (off19 i k) r)).trans (congrArg _ (half0 1 arg8.view f8 _ r 0))

theorem trip5_l (p : Fin 2) (r : Fin 1024) :
    arg9.view.read (Elt Ideal) (arg9.view.writes (Elt Ideal) f9 (tripL_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) k f8 f9 f10).2.1) (ix3 p r 0)
      = stepL (XX v25 v30 x1 x3 p r) k.val (arg8.view.read (Elt Ideal) f8 (ix3 p r 0)) (arg9.view.read (Elt Ideal) f9 (ix3 p r 0)) := by
  have hj : k.val < 16 := lt_of_lt_of_le (lt_of_lt_of_eq k.isLt (trips5 i)) (tiles_le i)
  unfold tripL_k0_t5 trip_k0_t5
  dsimp only
  delta trip_k0_t5.sl.r trip_k0_t5.sl.r_5 trip_k0_t5.sl.r_8 trip_k0_t5.sl.r_9 trip_k0_t5.sl.r_10 trip_k0_t5.sl.v150 trip_k0_t5.sl.v160
  refine halves 1 arg9.view f9 _ _ _ _ _ (fun p r _ => stepL (XX v25 v30 x1 x3 p r) k.val (arg8.view.read (Elt Ideal) f8 (ix3 p r 0)) (arg9.view.read (Elt Ideal) f9 (ix3 p r 0))) (fun r l => ?_) (fun r l => ?_) p r 0
  · obtain rfl : l = 0 := Subsingleton.elim _ _
    exact (l_apply v30 _ _ _ _ _ _ k.val r (logits 1 v30 x1 x3 arg3 harg3 arg5 harg5 k.val hj _ _ _ _ _ _ (off17 i k) (off18 i k) (off20 i k) r)).trans (congrArg₂ _ (half1 1 arg8.view f8 _ r 0) (half1 1 arg9.view f9 _ r 0))
  · obtain rfl : l = 0 := Subsingleton.elim _ _
    exact (l_apply v25 _ _ _ _ _ _ k.val r (logits 0 v25 x1 x3 arg3 harg3 arg5 harg5 k.val hj _ _ _ _ _ _ (off17 i k) (off18 i k) (off19 i k) r)).trans (congrArg₂ _ (half0 1 arg8.view f8 _ r 0) (half0 1 arg9.view f9 _ r 0))

theorem trip5_a (p : Fin 2) (r : Fin 1024) (d : Fin 128) :
    arg10.view.read (Elt Ideal) (arg10.view.writes (Elt Ideal) f10 (tripL_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) k f8 f9 f10).2.2) (ix3 p r d)
      = stepA (XX v25 v30 x1 x3 p r) (value p x2 d) k.val (arg8.view.read (Elt Ideal) f8 (ix3 p r 0)) (arg10.view.read (Elt Ideal) f10 (ix3 p r d)) := by
  have hj : k.val < 16 := lt_of_lt_of_le (lt_of_lt_of_eq k.isLt (trips5 i)) (tiles_le i)
  unfold tripL_k0_t5 trip_k0_t5
  dsimp only
  delta trip_k0_t5.sl.r trip_k0_t5.sl.r_1 trip_k0_t5.sl.r_3 trip_k0_t5.sl.r_4 trip_k0_t5.sl.r_6 trip_k0_t5.sl.r_8 trip_k0_t5.sl.r_9 trip_k0_t5.sl.v150 trip_k0_t5.sl.v169
  refine halves 128 arg10.view f10 _ _ _ _ _ (fun p r d => stepA (XX v25 v30 x1 x3 p r) (value p x2 d) k.val (arg8.view.read (Elt Ideal) f8 (ix3 p r 0)) (arg10.view.read (Elt Ideal) f10 (ix3 p r d))) (fun r d => ?_) (fun r d => ?_) p r d
  · exact (a_apply v30 _ _ _ _ _ _ _ _ k.val r (logits 1 v30 x1 x3 arg3 harg3 arg5 harg5 k.val hj _ _ _ _ _ _ (off17 i k) (off18 i k) (off20 i k) r) d
      (values 1 x2 arg4 harg4 k.val hj _ _ (off20 i k) · d)).trans (congrArg₂ _ (half1 1 arg8.view f8 _ r 0) (half1 128 arg10.view f10 _ r d))
  · exact (a_apply v25 _ _ _ _ _ _ _ _ k.val r (logits 0 v25 x1 x3 arg3 harg3 arg5 harg5 k.val hj _ _ _ _ _ _ (off17 i k) (off18 i k) (off19 i k) r) d
      (values 0 x2 arg4 harg4 k.val hj _ _ (off19 i k) · d)).trans (congrArg₂ _ (half0 1 arg8.view f8 _ r 0) (half0 128 arg10.view f10 _ r d))

end One

theorem loop5 (G8 : BufTy.Contents (Elt Ideal) arg8.view.ty) (G9 : BufTy.Contents (Elt Ideal) arg9.view.ty) (G10 : BufTy.Contents (Elt Ideal) arg10.view.ty)
    (h8 : ∀ y, arg8.view.read (Elt Ideal) G8 y = ⊥) (h9 : ∀ y, arg9.view.read (Elt Ideal) G9 y = 0) (h10 : ∀ y, arg10.view.read (Elt Ideal) G10 y = 0)
    (n : ℕ) (hn : n ≤ (k0_t5_loop i).trips) (p : Fin 2) (r : Fin 1024) :
    (arg8.view.read (Elt Ideal) (arg8.view.writes (Elt Ideal) G8 (pb_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) G8 G9 G10 n).1) (ix3 p r 0) = runM (XX v25 v30 x1 x3 p r) n)
    ∧ (arg9.view.read (Elt Ideal) (arg9.view.writes (Elt Ideal) G9 (pb_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) G8 G9 G10 n).2.1) (ix3 p r 0) = runL (XX v25 v30 x1 x3 p r) n)
    ∧ ∀ d, arg10.view.read (Elt Ideal) (arg10.view.writes (Elt Ideal) G10 (pb_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) G8 G9 G10 n).2.2) (ix3 p r d) = runA (XX v25 v30 x1 x3 p r) (value p x2 d) n := by
  induction n with
  | zero => exact ⟨h8 _, h9 _, fun d => h10 _⟩
  | succ n ih =>
    obtain ⟨e8, e9, e10⟩ := ih (Nat.le_of_succ_le hn)
    have e := pb_k0_t5_succ (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) G8 G9 G10 ⟨n, hn⟩
    rw [show n + 1 = (⟨n, hn⟩ : Fin (k0_t5_loop i).trips).val + 1 from rfl, e]
    dsimp only
    refine ⟨?_, ?_, fun d => ?_⟩
    · rw [View.writes_append, trip5_m, e8]; rfl
    · rw [View.writes_append, trip5_l, e8, e9]; rfl
    · rw [View.writes_append, trip5_a, e8, e10]; rfl

theorem loop6 (G8 : BufTy.Contents (Elt Ideal) arg8.view.ty) (G9 : BufTy.Contents (Elt Ideal) arg9.view.ty) (G10 : BufTy.Contents (Elt Ideal) arg10.view.ty) (w : BitVec 32) :
    pb_k0_t6 (F := Ideal) Variants.none c none i arg2 harg2 arg3 harg3 arg4 harg4 arg5 harg5 arg6 harg6 arg7 harg7 arg8 harg8 arg9 harg9 arg10 harg10 arg11 harg11 v20 v25 v30 w (harg3.unread x1) (harg4.unread x2) (harg5.unread x3) G8 G9 G10 (k0_t6_loop i).trips = ([], [], []) := by
  rw [trips6]
  rfl

/-- Both loops of the running-maximum form, from the first maximum and cleared sums. -/
theorem totals (L8 : List (View.Piece (Elt Ideal) S2x1024x1 .f32)) (L9 : List (View.Piece (Elt Ideal) S2x1024x1 .f32)) (L10 : List (View.Piece (Elt Ideal) S2x1024x128 .f32)) (w : BitVec 32)
    (G8 : BufTy.Contents (Elt Ideal) arg8.view.ty) (G9 : BufTy.Contents (Elt Ideal) arg9.view.ty) (G10 : BufTy.Contents (Elt Ideal) arg10.view.ty)
    (h8 : ∀ y, arg8.view.read (Elt Ideal) (arg8.view.writes (Elt Ideal) arg8.view.junk L8) y = ⊥)
    (h9 : ∀ y, arg9.view.read (Elt Ideal) (arg9.view.writes (Elt Ideal) arg9.view.junk L9) y = 0)
    (h10 : ∀ y, arg10.view.read (Elt Ideal) (arg10.view.writes (Elt Ideal) arg10.view.junk L10) y = 0)
    (M9 : List (View.Piece (Elt Ideal) S2x1024x1 .f32)) (M10 : List (View.Piece (Elt Ideal) S2x1024x128 .f32))
    (hM9 : M9 = (pb_k0_t6 (F := Ideal) Variants.none c none i arg2 harg2 arg3 harg3 arg4 harg4 arg5 harg5 arg6 harg6 arg7 harg7 arg8 harg8 arg9 harg9 arg10 harg10 arg11 harg11 v20 v25 v30 w (harg3.unread x1) (harg4.unread x2) (harg5.unread x3) G8 G9 G10 (k0_t6_loop i).trips).2.1 ++ ((pb_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) (arg8.view.writes (Elt Ideal) arg8.view.junk L8) (arg9.view.writes (Elt Ideal) arg9.view.junk L9) (arg10.view.writes (Elt Ideal) arg10.view.junk L10) (k0_t5_loop i).trips).2.1 ++ L9))
    (hM10 : M10 = (pb_k0_t6 (F := Ideal) Variants.none c none i arg2 harg2 arg3 harg3 arg4 harg4 arg5 harg5 arg6 harg6 arg7 harg7 arg8 harg8 arg9 harg9 arg10 harg10 arg11 harg11 v20 v25 v30 w (harg3.unread x1) (harg4.unread x2) (harg5.unread x3) G8 G9 G10 (k0_t6_loop i).trips).2.2 ++ ((pb_k0_t5 (F := Ideal) Variants.none c none i arg2 harg2 arg3 harg3 arg4 harg4 arg5 harg5 arg6 harg6 arg7 harg7 arg8 harg8 arg9 harg9 arg10 harg10 arg11 harg11 v20 v25 v30 (harg3.unread x1) (harg4.unread x2) (harg5.unread x3) (arg8.view.writes (Elt Ideal) arg8.view.junk L8) (arg9.view.writes (Elt Ideal) arg9.view.junk L9) (arg10.view.writes (Elt Ideal) arg10.view.junk L10) (k0_t5_loop i).trips).2.2 ++ L10))
    (p : Fin 2) (r : Fin 1024) :
    (arg9.view.read (Elt Ideal) (arg9.view.writes (Elt Ideal) arg9.view.junk M9) (ix3 p r 0) = runL (XX v25 v30 x1 x3 p r) (tiles i))
    ∧ ∀ d, arg10.view.read (Elt Ideal) (arg10.view.writes (Elt Ideal) arg10.view.junk M10) (ix3 p r d) = runA (XX v25 v30 x1 x3 p r) (value p x2 d) (tiles i) := by
  obtain ⟨-, e9, e10⟩ := loop5 (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (v20 := v20) (v25 := v25) (v30 := v30) (x1 := x1) (x2 := x2) (x3 := x3) (h8 := h8) (h9 := h9) (h10 := h10) (n := (k0_t5_loop i).trips) (hn := le_refl _) (p := p) (r := r)
  constructor
  · rw [hM9, loop6, List.nil_append, View.writes_append]
    exact e9.trans (congrArg (runL _) (trips5 i))
  · intro d
    rw [hM10, loop6, List.nil_append, View.writes_append]
    exact (e10 d).trans (congrArg (runA _ _) (trips5 i))

theorem start8 (y : S2x1024x1.Idx) : arg8.view.read (Elt Ideal) (arg8.view.writes (Elt Ideal) arg8.view.junk runOnline.sl.HS0_1) y = ⊥ := by
  delta runOnline.sl.HS0_1
  refine (whole 1 arg8.view _ _ _ _ y).trans ?_
  pointwise [k0_pay90]
  exact IdealRules.named_const.ideal_named_scalar _ _ _ _ rfl

theorem start9 (y : S2x1024x1.Idx) : arg9.view.read (Elt Ideal) (arg9.view.writes (Elt Ideal) arg9.view.junk runOnline.sl.HS1_1) y = 0 := by
  delta runOnline.sl.HS1_1
  refine (whole 1 arg9.view _ _ _ _ y).trans ?_
  pointwise [k0_pay91]

theorem start10 (y : S2x1024x128.Idx) : arg10.view.read (Elt Ideal) (arg10.view.writes (Elt Ideal) arg10.view.junk runOnline.sl.HS2_1) y = 0 := by
  delta runOnline.sl.HS2_1
  refine (whole 128 arg10.view _ _ _ _ y).trans ?_
  pointwise [k0_pay92]

/-- The quotient a head's column block of the output holds. -/
def quotM (q0 q1 : FVec Ideal S1024x128 .bf16) (i : grid0.Coords) (a : Fin 256) (h : Fin 8) (d : Fin 128) : EReal :=
  Ideal.div (runA (XX q0 q1 x1 x3 ⟨h.val / 4, by omega⟩ ⟨256 * (h.val % 4) + a.val, by omega⟩) (value ⟨h.val / 4, by omega⟩ x2 d) (tiles i))
    (runL (XX q0 q1 x1 x3 ⟨h.val / 4, by omega⟩ ⟨256 * (h.val % 4) + a.val, by omega⟩) (tiles i))

theorem wsum0 (r : Fin 1024) (d : Fin 128) :
    runOnline.sl.v55 c i arg2 harg2 arg3 harg3 arg4 harg4 arg5 harg5 arg6 harg6 arg7 harg7 arg8 harg8 arg9 harg9 arg10 harg10 arg11 harg11 x0 x1 x2 x3 (ix3 0 r d) = runA (XX (runSafe.sl.v25 c arg2 harg2 x0) (runSafe.sl.v30 c arg2 harg2 x0) x1 x3 0 r) (value 0 x2 d) (tiles i) := by
  delta runOnline.sl.v55
  refine (half0 128 arg10.view _ _ r d).trans ?_
  exact (totals (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (v20 := runOnline.sl.v20 i) (v25 := runOnline.sl.v25 c arg2 harg2 x0) (v30 := runOnline.sl.v30 c arg2 harg2 x0) (x1 := x1) (x2 := x2) (x3 := x3) (h8 := start8 arg8) (h9 := start9 arg9) (h10 := start10 arg10) (hM9 := rfl) (hM10 := rfl) (p := 0) (r := r)).2 d

theorem lsum0 (r : Fin 1024) :
    runOnline.sl.v57 c i arg2 harg2 arg3 harg3 arg4 harg4 arg5 harg5 arg6 harg6 arg7 harg7 arg8 harg8 arg9 harg9 arg10 harg10 arg11 harg11 x0 x1 x2 x3 (ix3 0 r 0) = runL (XX (runSafe.sl.v25 c arg2 harg2 x0) (runSafe.sl.v30 c arg2 harg2 x0) x1 x3 0 r) (tiles i) := by
  delta runOnline.sl.v57
  refine (half0 1 arg9.view _ _ r 0).trans ?_
  exact (totals (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (v20 := runOnline.sl.v20 i) (v25 := runOnline.sl.v25 c arg2 harg2 x0) (v30 := runOnline.sl.v30 c arg2 harg2 x0) (x1 := x1) (x2 := x2) (x3 := x3) (h8 := start8 arg8) (h9 := start9 arg9) (h10 := start10 arg10) (hM9 := rfl) (hM10 := rfl) (p := 0) (r := r)).1

theorem wsum1 (r : Fin 1024) (d : Fin 128) :
    runOnline.sl.v73 c i arg2 harg2 arg3 harg3 arg4 harg4 arg5 harg5 arg6 harg6 arg7 harg7 arg8 harg8 arg9 harg9 arg10 harg10 arg11 harg11 x0 x1 x2 x3 (ix3 0 r d) = runA (XX (runSafe.sl.v25 c arg2 harg2 x0) (runSafe.sl.v30 c arg2 harg2 x0) x1 x3 1 r) (value 1 x2 d) (tiles i) := by
  delta runOnline.sl.v73
  refine (half1 128 arg10.view _ _ r d).trans ?_
  exact (totals (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (v20 := runOnline.sl.v20 i) (v25 := runOnline.sl.v25 c arg2 harg2 x0) (v30 := runOnline.sl.v30 c arg2 harg2 x0) (x1 := x1) (x2 := x2) (x3 := x3) (h8 := start8 arg8) (h9 := start9 arg9) (h10 := start10 arg10) (hM9 := rfl) (hM10 := rfl) (p := 1) (r := r)).2 d

theorem lsum1 (r : Fin 1024) :
    runOnline.sl.v75 c i arg2 harg2 arg3 harg3 arg4 harg4 arg5 harg5 arg6 harg6 arg7 harg7 arg8 harg8 arg9 harg9 arg10 harg10 arg11 harg11 x0 x1 x2 x3 (ix3 0 r 0) = runL (XX (runSafe.sl.v25 c arg2 harg2 x0) (runSafe.sl.v30 c arg2 harg2 x0) x1 x3 1 r) (tiles i) := by
  delta runOnline.sl.v75
  refine (half1 1 arg9.view _ _ r 0).trans ?_
  exact (totals (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (v20 := runOnline.sl.v20 i) (v25 := runOnline.sl.v25 c arg2 harg2 x0) (v30 := runOnline.sl.v30 c arg2 harg2 x0) (x1 := x1) (x2 := x2) (x3 := x3) (h8 := start8 arg8) (h9 := start9 arg9) (h10 := start10 arg10) (hM9 := rfl) (hM10 := rfl) (p := 1) (r := r)).1

theorem ratioM0 (w : Vec Ideal S1x1024x128 .f32) (u : Vec Ideal S1x1024x1 .f32) (r : Fin 1024) (d : Fin 128) :
    k0_pay99 w u (ix2 r d) = Ideal.div (w (ix3 0 r d)) (u (ix3 0 r 0)) := by
  pointwise [k0_pay99]
theorem ratioM1 (w : Vec Ideal S1x1024x128 .f32) (u : Vec Ideal S1x1024x1 .f32) (r : Fin 1024) (d : Fin 128) :
    k0_pay9 w u (ix2 r d) = Ideal.div (w (ix3 0 r d)) (u (ix3 0 r 0)) :=
  ratioM0 w u r d
theorem sliceM0 (w : Vec Ideal S1x1024x128 .f32) (u : Vec Ideal S1x1024x1 .f32) (a : Fin 256) (d : Fin 128) :
    k0_pay100 w u (ix2 a d) = k0_pay99 w u (ix2 ⟨256 * 0 + a.val, by omega⟩ d) := by
  pointwise [k0_pay100]
theorem sliceM1 (w : Vec Ideal S1x1024x128 .f32) (u : Vec Ideal S1x1024x1 .f32) (a : Fin 256) (d : Fin 128) :
    k0_pay101 w u (ix2 a d) = k0_pay99 w u (ix2 ⟨256 * 1 + a.val, by omega⟩ d) := by
  pointwise [k0_pay101]
theorem sliceM2 (w : FVec Ideal S1024x128 .f32) (a : Fin 256) (d : Fin 128) :
    k0_pay7 w (ix2 a d) = w (ix2 ⟨256 * 2 + a.val, by omega⟩ d) := by
  pointwise [k0_pay7]
theorem sliceM3 (w : FVec Ideal S1024x128 .f32) (a : Fin 256) (d : Fin 128) :
    k0_pay8 w (ix2 a d) = w (ix2 ⟨256 * 3 + a.val, by omega⟩ d) := by
  pointwise [k0_pay8]
theorem sliceM4 (w : Vec Ideal S1x1024x128 .f32) (u : Vec Ideal S1x1024x1 .f32) (a : Fin 256) (d : Fin 128) :
    k0_pay10 w u (ix2 a d) = k0_pay9 w u (ix2 ⟨256 * 0 + a.val, by omega⟩ d) := by
  pointwise [k0_pay10]
theorem sliceM5 (w : Vec Ideal S1x1024x128 .f32) (u : Vec Ideal S1x1024x1 .f32) (a : Fin 256) (d : Fin 128) :
    k0_pay11 w u (ix2 a d) = k0_pay9 w u (ix2 ⟨256 * 1 + a.val, by omega⟩ d) := by
  pointwise [k0_pay11]
theorem sliceM6 (w : Vec Ideal S1x1024x128 .f32) (u : Vec Ideal S1x1024x1 .f32) (a : Fin 256) (d : Fin 128) :
    k0_pay12 w u (ix2 a d) = k0_pay9 w u (ix2 ⟨256 * 2 + a.val, by omega⟩ d) := by
  pointwise [k0_pay12]
theorem sliceM7 (w : Vec Ideal S1x1024x128 .f32) (u : Vec Ideal S1x1024x1 .f32) (a : Fin 256) (d : Fin 128) :
    k0_pay13 w u (ix2 a d) = k0_pay9 w u (ix2 ⟨256 * 3 + a.val, by omega⟩ d) := by
  pointwise [k0_pay13]
theorem online_block (hc : ¬ small arg6 harg6 x4 = 1#1) (a : Fin 256) (h : Fin 8) (d : Fin 128) :
    Run.VO.read (Elt Ideal) (Run.VO.writes (Elt Ideal) Run.VO.junk (runOnline c i arg2 harg2 arg3 harg3 arg4 harg4 arg5 harg5 arg6 harg6 arg7 harg7 arg8 harg8 arg9 harg9 arg10 harg10 arg11 harg11 x0 x1 x2 x3 x4 hc).1) (ix2 a ⟨128 * h.val + d.val, by omega⟩)
      = quotM x1 x2 x3 (runSafe.sl.v25 c arg2 harg2 x0) (runSafe.sl.v30 c arg2 harg2 x0) i a h d := by
  unfold runOnline
  dsimp only
  delta runOnline.sl.r_1 runOnline.sl.r_2
  refine (columns Run.VO _ _ _ _ _ _ _ _ _ _ _ _ _ _ _ _ _ a h d).trans ?_
  match h with
  | 0 => exact (sliceM0 _ _ a d).trans ((ratioM0 _ _ _ d).trans (congrArg₂ Ideal.div (wsum0 ..) (lsum0 ..)))
  | 1 => exact (sliceM1 _ _ a d).trans ((ratioM0 _ _ _ d).trans (congrArg₂ Ideal.div (wsum0 ..) (lsum0 ..)))
  | 2 => exact (sliceM2 _ a d).trans ((ratioM0 _ _ _ d).trans (congrArg₂ Ideal.div (wsum0 ..) (lsum0 ..)))
  | 3 => exact (sliceM3 _ a d).trans ((ratioM0 _ _ _ d).trans (congrArg₂ Ideal.div (wsum0 ..) (lsum0 ..)))
  | 4 => exact (sliceM4 _ _ a d).trans ((ratioM1 _ _ _ d).trans (congrArg₂ Ideal.div (wsum1 ..) (lsum1 ..)))
  | 5 => exact (sliceM5 _ _ a d).trans ((ratioM1 _ _ _ d).trans (congrArg₂ Ideal.div (wsum1 ..) (lsum1 ..)))
  | 6 => exact (sliceM6 _ _ a d).trans ((ratioM1 _ _ _ d).trans (congrArg₂ Ideal.div (wsum1 ..) (lsum1 ..)))
  | 7 => exact (sliceM7 _ _ a d).trans ((ratioM1 _ _ _ d).trans (congrArg₂ Ideal.div (wsum1 ..) (lsum1 ..)))

end Trips

end Cert.AttnIdeal.Tile

end
-- ==== Proof.AttnMark.lean ====
module

public import proofs.«01_k».proof.Proof.AttnRow
public import Idealize.ShloMosaic.Lib.Pipeline.ValueKit
public import Idealize.ShloMosaic.Lib.WordCmp

/- When a query keeps a key, as words and as a proposition; the values of four literals. -/

@[expose] public section

noncomputable section

open Idealize.ShloMosaic

namespace Cert.AttnMark

/-- A query at position `s` keeps a key at position `n` marked by `x`: the mark is set and the key is no later. -/
abbrev Kept (x : BitVec 32) (s n : ℕ) : Prop := x ≠ 0#32 ∧ n ≤ s

theorem mark_iff (x : BitVec 32) (s n : ℕ) (hs : s < 8192) (hn : n < 8192) :
    IntOp.andi (IntOp.cmpi .ne x 0#32) (IntOp.cmpi .sle (BitVec.ofNat 32 n) (BitVec.ofNat 32 s)) = 1#1 ↔ Kept x s n := by
  rw [WordCmp.cmpi_ne_eq, WordCmp.cmpi_sle_ofNat (by omega) (by omega)]
  by_cases h1 : x ≠ 0#32 <;> by_cases h2 : n ≤ s <;> simp [IntOp.andi, Kept, h1, h2]

theorem select_kept {α : Type} (x : BitVec 32) (s n : ℕ) (hs : s < 8192) (hn : n < 8192) (u v : α) :
    Scalar.select (IntOp.andi (IntOp.cmpi .ne x 0#32) (IntOp.cmpi .sle (BitVec.ofNat 32 n) (BitVec.ofNat 32 s))) u v
      = if Kept x s n then u else v := by
  unfold Scalar.select
  exact if_congr (mark_iff x s n hs hn) rfl rfl

theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_width : Ideal.ofBits .f32 0x43000000#32 = ((128 : ℝ) : EReal) := by
  simp [Ideal.ofBits, Ideal.ieee, -EReal.coe_mul]
  norm_num

end Cert.AttnMark

end
-- ==== Proof.AttnSpec.lean ====
module

public import proofs.«01_k».proof.Proof.AttnMark

/- The attention of the layer as a function of its arrays: each query's mean of its kept keys' values, weighted by the
exponentials of the scaled scores. -/

@[expose] public section

noncomputable section

open Idealize.ShloMosaic
open scoped BigOperators

namespace Cert.AttnSpec

open Cert.AttnMark Cert.AttnRow

abbrev SQ : Shape := ⟨2, ![32768, 1024]⟩
abbrev SK : Shape := ⟨2, ![32768, 256]⟩
abbrev SM : Shape := ⟨3, ![4, 8192, 8192]⟩

/-- Query `s` of batch `b` against key `n`, in head `h`. -/
def dot (q : SQ.Idx → EReal) (k : SK.Idx → EReal) (b : Fin 4) (s : Fin 8192) (h : Fin 8) (n : ℕ) : EReal :=
  ∑ d : Fin 128, q (ix2 ⟨8192 * b.val + s.val, by omega⟩ ⟨128 * h.val + d.val, by omega⟩)
    * k (ix2 ⟨8192 * b.val + n % 8192, by omega⟩ ⟨128 * (h.val / 4) + d.val, by omega⟩)

/-- The scaled score of a kept key, and minus infinity for the others. -/
def logit (q : SQ.Idx → EReal) (k : SK.Idx → EReal) (keep : SM.Idx → BitVec 32) (b : Fin 4) (s : Fin 8192) (h : Fin 8) (n : ℕ) : EReal :=
  dot q k b s h n * (((Real.sqrt 128)⁻¹ : ℝ) : EReal)
    + if Kept (keep (ix3 b s ⟨n % 8192, Nat.mod_lt _ (by decide)⟩)) s.val (n % 8192) then 0 else ⊥

/-- The value of key `n` in head `h`, column `d`. -/
def value (v : SK.Idx → EReal) (b : Fin 4) (h : Fin 8) (d : Fin 128) (n : ℕ) : EReal :=
  v (ix2 ⟨8192 * b.val + n % 8192, by omega⟩ ⟨128 * (h.val / 4) + d.val, by omega⟩)

/-- The attention's result. -/
def result (q : SQ.Idx → EReal) (k v : SK.Idx → EReal) (keep : SM.Idx → BitVec 32) (y : SQ.Idx) : EReal :=
  mean (logit q k keep ⟨(y 0).val / 8192, Nat.div_lt_of_lt_mul (y 0).isLt⟩ ⟨(y 0).val % 8192, Nat.mod_lt _ (by decide)⟩ ⟨(y 1).val / 128, Nat.div_lt_of_lt_mul (y 1).isLt⟩)
    (value v ⟨(y 0).val / 8192, Nat.div_lt_of_lt_mul (y 0).isLt⟩ ⟨(y 1).val / 128, Nat.div_lt_of_lt_mul (y 1).isLt⟩ ⟨(y 1).val % 128, Nat.mod_lt _ (by decide)⟩) 8192

theorem result_at (q : SQ.Idx → EReal) (k v : SK.Idx → EReal) (keep : SM.Idx → BitVec 32) (b : Fin 4) (s : Fin 8192) (h : Fin 8) (d : Fin 128) (y : SQ.Idx)
    (h0 : (y 0).val = 8192 * b.val + s.val) (h1 : (y 1).val = 128 * h.val + d.val) :
    result q k v keep y = mean (logit q k keep b s h) (value v b h d) 8192 := by
  unfold result
  have e1 : (⟨(y 0).val / 8192, Nat.div_lt_of_lt_mul (y 0).isLt⟩ : Fin 4) = b := Fin.ext (by show (y 0).val / 8192 = _; omega)
  have e2 : (⟨(y 0).val % 8192, Nat.mod_lt _ (by decide)⟩ : Fin 8192) = s := Fin.ext (by show (y 0).val % 8192 = _; omega)
  have e3 : (⟨(y 1).val / 128, Nat.div_lt_of_lt_mul (y 1).isLt⟩ : Fin 8) = h := Fin.ext (by show (y 1).val / 128 = _; omega)
  have e4 : (⟨(y 1).val % 128, Nat.mod_lt _ (by decide)⟩ : Fin 128) = d := Fin.ext (by show (y 1).val % 128 = _; omega)
  rw [e1, e2, e3, e4]

/-- The arrays the equality is about: finite queries and keys, and for every query a key it keeps. -/
structure Meaningful (q : SQ.Idx → EReal) (k : SK.Idx → EReal) (keep : SM.Idx → BitVec 32) : Prop where
  q_real : ∀ y, ∃ r : ℝ, q y = (r : EReal)
  k_real : ∀ y, ∃ r : ℝ, k y = (r : EReal)
  kept : ∀ (b : Fin 4) (s : Fin 8192), ∃ n : Fin 8192, Kept (keep (ix3 b s n)) s.val n.val

theorem sum_of_reals {ι : Type} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal)) (fun _ _ ⟨a, ha⟩ ⟨b, hb⟩ => ⟨a + b, by rw [ha, hb, EReal.coe_add]⟩)
    ⟨0, EReal.coe_zero.symm⟩ hf

theorem prod_of_reals {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

section

variable {q : SQ.Idx → EReal} {k : SK.Idx → EReal} {keep : SM.Idx → BitVec 32} (H : Meaningful q k keep)
include H

theorem dot_real (b : Fin 4) (s : Fin 8192) (h : Fin 8) (n : ℕ) : ∃ r : ℝ, dot q k b s h n = (r : EReal) :=
  sum_of_reals _ _ fun _ _ => prod_of_reals (H.q_real _) (H.k_real _)

theorem logit_ne_top (b : Fin 4) (s : Fin 8192) (h : Fin 8) (n : ℕ) : logit q k keep b s h n ≠ ⊤ := by
  obtain ⟨r, e⟩ := dot_real H b s h n
  rw [logit, e]
  split_ifs
  · rw [add_zero, ← EReal.coe_mul]; exact EReal.coe_ne_top _
  · rw [EReal.add_bot]; exact bot_ne_top

theorem logit_ne_bot (b : Fin 4) (s : Fin 8192) (h : Fin 8) (n : Fin 8192) (hn : Kept (keep (ix3 b s n)) s.val n.val) :
    logit q k keep b s h n.val ≠ ⊥ := by
  obtain ⟨r, e⟩ := dot_real H b s h n.val
  have em : n.val % 8192 = n.val := Nat.mod_eq_of_lt n.isLt
  have ef : (⟨n.val % 8192, Nat.mod_lt _ (by decide)⟩ : Fin 8192) = n := Fin.ext em
  rw [logit, e, ef, em, if_pos hn, add_zero, ← EReal.coe_mul]
  exact EReal.coe_ne_bot _

end

end Cert.AttnSpec

end
-- ==== Proof.AttnMean.lean ====
module

public import proofs.«01_k».proof.Proof.AttnOnline
public import proofs.«01_k».proof.Proof.AttnIdealFrame
public import proofs.«01_k».proof.Proof.AttnSpec

/- Both branches of the attention's kernel leave the same block: each row's mean of the values, weighted by the
exponentials of its masked logits. -/

@[expose] public section

set_option maxRecDepth 16384

noncomputable section

open Idealize.ShloMosaic Idealize.ShloMosaic.TcCoe Idealize.SL.Sem
open scoped BigOperators

namespace Cert.AttnIdeal.Tile

open Cert.AttnIdeal Cert.AttnIdeal.Gen Cert.AttnIdeal.Run Cert.AttnRow

/-- One over the square root of a head's width. -/
abbrev scale : ℝ := (Real.sqrt 128)⁻¹

theorem scaleN_eq : scaleN = (scale : EReal) := IdealRules.named_const.ideal_named_scalar _ _ _ _ rfl
theorem scaleLog2e_eq : scaleLog2e = ((scale * (Real.log 2)⁻¹ : ℝ) : EReal) := IdealRules.named_const.ideal_named_scalar _ _ _ _ rfl

/-- A power of two of the rescaled logit is the exponential of the logit. -/
theorem exp2_exp (s : ℝ) (b : EReal) (hb : b = 0 ∨ b = ⊥) :
    Ideal.exp2 ((s : EReal) * scaleLog2e + b) = Ideal.exp ((s : EReal) * scaleN + b) := by
  rcases hb with rfl | rfl
  · rw [scaleN_eq, scaleLog2e_eq, add_zero, add_zero, ← EReal.coe_mul, ← EReal.coe_mul, Ideal.exp2_coe, Ideal.exp_coe]
    congr 1
    show (2 : ℝ) ^ (_ : ℝ) = _
    rw [Real.rpow_def_of_pos two_pos]
    have : Real.log 2 ≠ 0 := (Real.log_pos one_lt_two).ne'
    congr 1
    field_simp
  · rw [EReal.add_bot, EReal.add_bot]; rfl

/-- A query row of the block against a key, in head `h`. -/
def dotq (x0 : Vec Ideal S256x1024 .bf16) (x1 : Vec Ideal S8192x256 .bf16) (a : Fin 256) (h : Fin 8) (n : ℕ) : EReal :=
  ∑ d : Fin 128, x0 (ix2 a ⟨128 * h.val + d.val, by omega⟩) * x1 (ix2 ⟨n % 8192, Nat.mod_lt _ (by decide)⟩ ⟨128 * (h.val / 4) + d.val, by omega⟩)

/-- The bias of a query row at a key. -/
def biasq (x3 : Vec Ideal S1x2x16x128x512 .bf16) (a : Fin 256) (n : ℕ) : EReal :=
  x3 (ix5 0 ⟨a.val / 128, by omega⟩ ⟨n / 512 % 16, by omega⟩ ⟨a.val % 128, by omega⟩ ⟨n % 512, by omega⟩)

/-- A row's masked logit at a key. -/
def masked (x0 : Vec Ideal S256x1024 .bf16) (x1 : Vec Ideal S8192x256 .bf16) (x3 : Vec Ideal S1x2x16x128x512 .bf16)
    (a : Fin 256) (h : Fin 8) (n : ℕ) : EReal := dotq x0 x1 a h n * (scale : EReal) + biasq x3 a n

/-- A head's value at a key. -/
def valueq (x2 : Vec Ideal S8192x256 .bf16) (h : Fin 8) (d : Fin 128) (n : ℕ) : EReal :=
  x2 (ix2 ⟨n % 8192, Nat.mod_lt _ (by decide)⟩ ⟨128 * (h.val / 4) + d.val, by omega⟩)

theorem dotq_real (x0 : Vec Ideal S256x1024 .bf16) (x1 : Vec Ideal S8192x256 .bf16)
    (h0 : ∀ y, ∃ r : ℝ, x0 y = (r : EReal)) (h1 : ∀ y, ∃ r : ℝ, x1 y = (r : EReal)) (a : Fin 256) (h : Fin 8) (n : ℕ) :
    ∃ r : ℝ, dotq x0 x1 a h n = (r : EReal) := by
  refine Cert.AttnSpec.sum_of_reals Finset.univ _ fun d _ => ?_
  obtain ⟨r0, e0⟩ := h0 (ix2 a ⟨128 * h.val + d.val, by omega⟩)
  obtain ⟨r1, e1⟩ := h1 (ix2 ⟨n % 8192, Nat.mod_lt _ (by decide)⟩ ⟨128 * (h.val / 4) + d.val, by omega⟩)
  exact ⟨r0 * r1, by rw [e0, e1, EReal.coe_mul]⟩

theorem masked_ne_top (x0 : Vec Ideal S256x1024 .bf16) (x1 : Vec Ideal S8192x256 .bf16) (x3 : Vec Ideal S1x2x16x128x512 .bf16)
    (h0 : ∀ y, ∃ r : ℝ, x0 y = (r : EReal)) (h1 : ∀ y, ∃ r : ℝ, x1 y = (r : EReal))
    (a : Fin 256) (h : Fin 8) (hb : ∀ n, biasq x3 a n = 0 ∨ biasq x3 a n = ⊥) (n : ℕ) : masked x0 x1 x3 a h n ≠ ⊤ := by
  obtain ⟨r, e⟩ := dotq_real x0 x1 h0 h1 a h n
  rw [masked, e]
  rcases hb n with e' | e' <;> rw [e']
  · rw [add_zero, ← EReal.coe_mul]; exact EReal.coe_ne_top _
  · rw [EReal.add_bot]; exact bot_ne_top

section Stacked

variable (x0 : Vec Ideal S256x1024 .bf16) (x1 x2 : Vec Ideal S8192x256 .bf16) (x3 : Vec Ideal S1x2x16x128x512 .bf16)
  (q0 q1 : FVec Ideal S1024x128 .bf16)

theorem score_stacked (hq : ∀ (cc : Fin 2) (r : Fin 1024) (d : Fin 128), (![q0, q1] cc : FVec Ideal S1024x128 .bf16) (ix2 r d) = stacked x0 cc r d)
    (a : Fin 256) (h : Fin 8) (n : ℕ) :
    score ⟨h.val / 4, by omega⟩ (![q0, q1] ⟨h.val / 4, by omega⟩) x1 ⟨256 * (h.val % 4) + a.val, by omega⟩ n = dotq x0 x1 a h n := by
  refine Finset.sum_congr rfl fun d _ => congrArg₂ (· * ·) ((hq _ _ d).trans (congrArg x0 (congrArg₂ ix2 (Fin.ext ?_) (Fin.ext ?_)))) rfl
  · show (256 * (h.val % 4) + a.val) % 256 = a.val
    omega
  · show 128 * (4 * (h.val / 4) + (256 * (h.val % 4) + a.val) / 256) + d.val = 128 * h.val + d.val
    omega

theorem bias_stacked (a : Fin 256) (h : Fin 8) (n : ℕ) : bias x3 ⟨256 * (h.val % 4) + a.val, by omega⟩ n = biasq x3 a n := by
  refine congrArg x3 ?_
  have e1 : (256 * (h.val % 4) + a.val) % 256 / 128 = a.val / 128 := by omega
  have e2 : (256 * (h.val % 4) + a.val) % 128 = a.val % 128 := by omega
  exact congrArg₂ (fun u v => ix5 0 u ⟨n / 512 % 16, by omega⟩ v ⟨n % 512, by omega⟩) (Fin.ext e1) (Fin.ext e2)

variable (hq : ∀ (cc : Fin 2) (r : Fin 1024) (d : Fin 128), (![q0, q1] cc : FVec Ideal S1024x128 .bf16) (ix2 r d) = stacked x0 cc r d)
  (h0 : ∀ y, ∃ r : ℝ, x0 y = (r : EReal)) (h1 : ∀ y, ∃ r : ℝ, x1 y = (r : EReal))
  (i : grid0.Coords) (a : Fin 256) (h : Fin 8) (d : Fin 128) (hb : ∀ n, biasq x3 a n = 0 ∨ biasq x3 a n = ⊥)
include hq

theorem logit_masked (n : ℕ) : logit ⟨h.val / 4, by omega⟩ (![q0, q1] ⟨h.val / 4, by omega⟩) x1 x3 ⟨256 * (h.val % 4) + a.val, by omega⟩ n = masked x0 x1 x3 a h n := by
  rw [logit, score_stacked x0 x1 q0 q1 hq a h n, bias_stacked x3 a h n, scaleN_eq, masked]

include h0 h1 hb

theorem term_weighted (l : Fin 256) (n : ℕ) :
    term ⟨h.val / 4, by omega⟩ (![q0, q1] ⟨h.val / 4, by omega⟩) x1 x2 x3 ⟨256 * (h.val % 4) + a.val, by omega⟩ l n
      = Ideal.exp (masked x0 x1 x3 a h n) * valueOrOne ⟨h.val / 4, by omega⟩ x2 l n := by
  unfold term
  rw [score_stacked x0 x1 q0 q1 hq a h n, bias_stacked x3 a h n]
  obtain ⟨r, e⟩ := dotq_real x0 x1 h0 h1 a h n
  refine congrArg (· * _) ?_
  rw [masked, e, ← scaleN_eq]
  exact exp2_exp r _ (hb n)

/-- The plain branch's quotient is the mean. -/
theorem quot_mean : quot x1 x2 x3 q0 q1 i a h d = mean (masked x0 x1 x3 a h) (valueq x2 h d) (512 * tiles i) := by
  unfold quot firstSum mean weights weighted
  refine congrArg₂ Ideal.div (Finset.sum_congr rfl fun n _ => ?_) (Finset.sum_congr rfl fun n _ => ?_)
  · rw [term_weighted x0 x1 x2 x3 q0 q1 hq h0 h1 a h hb]
    refine congrArg _ (dif_pos ?_)
    exact d.isLt
  · rw [term_weighted x0 x1 x2 x3 q0 q1 hq h0 h1 a h hb]
    refine (congrArg _ (dif_neg ?_)).trans (mul_one _)
    show ¬ 128 + d.val < 128
    omega

/-- The running branch's quotient is the mean. -/
theorem quotM_mean (n0 : ℕ) (hn : n0 < 512 * tiles i) (hk : biasq x3 a n0 = 0) :
    quotM x1 x2 x3 q0 q1 i a h d = mean (masked x0 x1 x3 a h) (valueq x2 h d) (512 * tiles i) := by
  unfold quotM
  have e : XX q0 q1 x1 x3 ⟨h.val / 4, by omega⟩ ⟨256 * (h.val % 4) + a.val, by omega⟩ = masked x0 x1 x3 a h :=
    funext fun n => logit_masked x0 x1 x3 q0 q1 hq a h n
  rw [e]
  refine run_mean (valueq x2 h d) (masked_ne_top x0 x1 x3 h0 h1 a h hb) (tiles i) n0 hn ?_
  obtain ⟨r, e⟩ := dotq_real x0 x1 h0 h1 a h n0
  rw [masked, e, hk, add_zero, ← EReal.coe_mul]
  exact EReal.coe_ne_bot _

end Stacked

/-- What a point leaves in the result's block: the mean over all keys, when the keys past the visited tiles are masked. -/
theorem out5_mean (c : Dev nD) (i : grid0.Coords) (arg2 : Memref sig .tc .vmem S256x1024 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S1x2x16x128x512 .bf16) (harg5 : arg5.IsWhole) (arg6 : Memref sig .tc .smem S1 .f32) (harg6 : arg6.IsWhole) (arg7 : Memref sig .tc .vmem S256x1024 .bf16) (harg7 : arg7.IsWhole) (arg8 : Memref sig .tc .vmem S2x1024x1 .f32) (harg8 : arg8.IsWhole) (arg9 : Memref sig .tc .vmem S2x1024x1 .f32) (harg9 : arg9.IsWhole) (arg10 : Memref sig .tc .vmem S2x1024x128 .f32) (harg10 : arg10.IsWhole) (arg11 : Memref sig .tc .vmem S2x1024x256 .f32) (harg11 : arg11.IsWhole)
    (x0 : Vec Ideal S256x1024 .bf16) (x1 x2 : Vec Ideal S8192x256 .bf16) (x3 : Vec Ideal S1x2x16x128x512 .bf16) (x4 : Vec Ideal S1 .f32)
    (h0 : ∀ y, ∃ r : ℝ, x0 y = (r : EReal)) (h1 : ∀ y, ∃ r : ℝ, x1 y = (r : EReal)) (a : Fin 256) (h : Fin 8) (d : Fin 128)
    (hb : ∀ n, biasq x3 a n = 0 ∨ biasq x3 a n = ⊥) (n0 : ℕ) (hn : n0 < 512 * tiles i) (hk : biasq x3 a n0 = 0)
    (hm : ∀ n, 512 * tiles i ≤ n → n < 8192 → biasq x3 a n = ⊥) :
    out5 c i arg2 harg2 arg3 harg3 arg4 harg4 arg5 harg5 arg6 harg6 arg7 harg7 arg8 harg8 arg9 harg9 arg10 harg10 arg11 harg11 x0 x1 x2 x3 x4 (ix2 a ⟨128 * h.val + d.val, by omega⟩)
      = mean (masked x0 x1 x3 a h) (valueq x2 h d) 8192 := by
  have hq : ∀ (cc : Fin 2) (r : Fin 1024) (d : Fin 128), (![runSafe.sl.v25 c arg2 harg2 x0, runSafe.sl.v30 c arg2 harg2 x0] cc : FVec Ideal S1024x128 .bf16) (ix2 r d) = stacked x0 cc r d := by
    intro cc r d
    match cc with
    | 0 => exact stacked0 c arg2 harg2 x0 r d
    | 1 => exact stacked1 c arg2 harg2 x0 r d
  have hmore := mean_more (masked x0 x1 x3 a h) (valueq x2 h d) (512 * tiles i) 8192 (by have := tiles_le i; omega) fun n h1 h2 => by
    rw [masked, hm n h1 h2, EReal.add_bot]
  refine Eq.trans ?_ hmore
  unfold out5
  by_cases hc : small arg6 harg6 x4 = 1#1
  · rw [dif_pos hc]
    exact (safe_block c i arg2 harg2 arg3 harg3 arg4 harg4 arg5 harg5 arg6 harg6 arg7 harg7 arg8 harg8 arg9 harg9 arg10 harg10 arg11 harg11 x0 x1 x2 x3 x4 hc a h d).trans
      (quot_mean x0 x1 x2 x3 _ _ hq h0 h1 i a h d hb)
  · rw [dif_neg hc]
    exact (online_block c i arg2 harg2 arg3 harg3 arg4 harg4 arg5 harg5 arg6 harg6 arg7 harg7 arg8 harg8 arg9 harg9 arg10 harg10 arg11 harg11 x0 x1 x2 x3 x4 hc a h d).trans
      (quotM_mean x0 x1 x2 x3 _ _ hq h0 h1 i a h d hb n0 hn hk)

end Cert.AttnIdeal.Tile

end
-- ==== Proof.AttnBlocks.lean ====
module

public import proofs.«01_k».proof.Proof.AttnMean
public import proofs.«01_k».proof.Proof.AttnMark

/- What the attention's windows hold at a grid point. -/

@[expose] public section

set_option maxRecDepth 16384

noncomputable section

open Idealize.ShloMosaic Idealize.ShloMosaic.TcCoe Idealize.SL.Sem

namespace Cert.AttnIdeal.Point

open Cert.AttnIdeal Cert.AttnIdeal.Gen Cert.AttnMark

/-- Which block of its array each window holds at a grid point. -/
theorem idx : ∀ t : Fin cfg0.N, win0_0.index t = ![t.val, 0]
    ∧ win0_1.index t = ![t.val / 32, 0]
    ∧ win0_2.index t = ![t.val / 32, 0]
    ∧ win0_3.index t = ![t.val / 32, t.val % 32, 0, 0, 0]
    ∧ win0_5.index t = ![t.val, 0] :=
  (by decide +kernel : ∀ t : Fin grid0.N, _)

theorem coord1 : ∀ t : Fin cfg0.N, ((grid0.coords t) 1).val = t.val % 32 :=
  (by decide +kernel : ∀ t : Fin grid0.N, _)

variable (m : (ℓ : Loc nD τ sig) → Buf (Elt Ideal) ℓ) (c : Dev nD)

abbrev qa : S32768x1024.Idx → EReal := m ((c : Thread nD τ).loc main_arg0)
abbrev ka : S32768x256.Idx → EReal := m ((c : Thread nD τ).loc main_arg1)
abbrev va : S32768x256.Idx → EReal := m ((c : Thread nD τ).loc main_arg2)
abbrev keep : S4x8192x8192.Idx → BitVec 32 := m ((c : Thread nD τ).loc main_arg3)

theorem lt (t : Fin cfg0.N) : t.val < 128 := lt_of_lt_of_eq t.isLt N_0

theorem blk_q (t : Fin cfg0.N) (a : Fin 256) (d : Fin 1024) :
    iblk m c 0 t (ix2 a d) = qa m c (ix2 ⟨256 * t.val + a.val, by have := lt t; omega⟩ d) := by
  blk_point [iblk, V, idx t]

theorem blk_k (t : Fin cfg0.N) (n : Fin 8192) (d : Fin 256) :
    iblk m c 1 t (ix2 n d) = ka m c (ix2 ⟨8192 * (t.val / 32) + n.val, by have := lt t; omega⟩ d) := by
  blk_point [iblk, V, idx t]

theorem blk_v (t : Fin cfg0.N) (n : Fin 8192) (d : Fin 256) :
    iblk m c 2 t (ix2 n d) = va m c (ix2 ⟨8192 * (t.val / 32) + n.val, by have := lt t; omega⟩ d) := by
  blk_point [iblk, V, idx t]

/-- The bias the host lays out from the marks. -/
def biasArr (k : IVec S4x8192x8192 32) : FVec Ideal S4x64x16x128x512 .bf16 :=
  transpose S4x64x16x128x512 [0, 1, 3, 2, 4] (shapeCast S4x64x128x16x512 (truncf .bf16 (select
    (andi (cmpi .ne k (broadcastInDim S4x8192x8192 ![] bcast_S_S4x8192x8192 (constantI S_ 32 0#32)))
      (broadcastInDim S4x8192x8192 ![0, 1, 2] bcast_S1x8192x8192_S4x8192x8192_0_1_2 (broadcastInDim S1x8192x8192 ![1, 2] bcast_S8192x8192_S1x8192x8192_1_2
        (cmpi .sle (broadcastInDim S8192x8192 ![0, 1] bcast_S1x8192_S8192x8192_0_1 (broadcastInDim S1x8192 ![1] bcast_S8192_S1x8192_1 (iotaInDim S8192 32 0)))
          (broadcastInDim S8192x8192 ![0, 1] bcast_S8192x1_S8192x8192_0_1 (broadcastInDim S8192x1 ![0] bcast_S8192_S8192x1_0 (iotaInDim S8192 32 0)))))))
    (broadcastInDim S4x8192x8192 ![] bcast_S_S4x8192x8192 (constant S_ .f32 0x00000000#32) : FVec Ideal S4x8192x8192 .f32)
    (broadcastInDim S4x8192x8192 ![] bcast_S_S4x8192x8192 (constant S_ .f32 0xFF800000#32))) bitsLt_bf16_f32) shapeCasts_S4x8192x8192_S4x64x128x16x512)
    transposes_S4x64x128x16x512_S4x64x16x128x512_0_1_3_2_4

theorem bias_array : V m c main_v14 = biasArr (keep m c) := by
  show StableHlo.after [_, _, _, _, _, _, _, _, _, _, _, _, _, _, _, _, _, _, _, _] _ _ = _
  simp only [StableHlo.TRef.ternary, StableHlo.TRef.unary, StableHlo.TRef.toBuf, StableHlo.TRef.ofBuf, cast_eq]
  after_results_simp
  rfl

theorem bias_point (k : IVec S4x8192x8192 32) (b : Fin 4) (u : Fin 64) (j : Fin 16) (r : Fin 128) (n : Fin 512) :
    biasArr k (ix5 b u j r n)
      = (if Kept (k (ix3 b ⟨128 * u.val + r.val, by omega⟩ ⟨512 * j.val + n.val, by omega⟩)) (128 * u.val + r.val) (512 * j.val + n.val) then 0 else ⊥ : EReal) := by
  have e : biasArr k (ix5 b u j r n) = Scalar.select
      (IntOp.andi (IntOp.cmpi CmpIPredicate.ne (k (ix3 b ⟨128 * u.val + r.val, by omega⟩ ⟨512 * j.val + n.val, by omega⟩)) 0#32)
        (IntOp.cmpi CmpIPredicate.sle (BitVec.ofNat 32 (512 * j.val + n.val)) (BitVec.ofNat 32 (128 * u.val + r.val)))) 0 (Ideal.ofBits FTy.f32 0xFF800000#32) := by
    pointwise [biasArr]
    simp only [Nat.mul_comm]
  rw [e, select_kept _ _ _ (by omega) (by omega), lit_bot]

theorem blk_bias (t : Fin cfg0.N) (p : Fin 2) (j : Fin 16) (r : Fin 128) (n : Fin 512) :
    iblk m c 3 t (ix5 0 p j r n) = biasArr (keep m c) (ix5 ⟨t.val / 32, by have := lt t; omega⟩ ⟨t.val % 32 * 2 + p.val, by omega⟩ j r n) := by
  show V m c main_v14 (((cfg0.win 3).blk t).view.emb _) = _
  rw [bias_array]
  blk_point [iblk, V, idx t]

end Cert.AttnIdeal.Point

end
-- ==== Proof.AttnFinal.lean ====
module

public import proofs.«01_k».proof.Proof.AttnBlocks

/- The attention's result array after the run. -/

@[expose] public section

set_option maxRecDepth 16384

noncomputable section

open Idealize.ShloMosaic Idealize.ShloMosaic.TcCoe Idealize.SL.Sem
open scoped BigOperators

namespace Cert.AttnIdeal.Point

open Cert.AttnIdeal Cert.AttnIdeal.Gen Cert.AttnIdeal.Tile Cert.AttnMark Cert.AttnRow
open Cert.AttnSpec (Meaningful)

variable (m : (ℓ : Loc nD τ sig) → Buf (Elt Ideal) ℓ) (c : Dev nD) (t : Fin cfg0.N) (a : Fin 256) (h : Fin 8)

/-- A grid point's batch. -/
def batch : Fin 4 := ⟨t.val / 32, by have := lt t; omega⟩

/-- The position of a row of a grid point's query block. -/
def pos : Fin 8192 := ⟨256 * (t.val % 32) + a.val, by omega⟩

theorem dot_at (n : ℕ) : dotq (iblk m c 0 t) (iblk m c 1 t) a h n = Cert.AttnSpec.dot (qa m c) (ka m c) (batch t) (pos t a) h n := by
  refine Finset.sum_congr rfl fun d _ => congrArg₂ (· * ·) ?_ ?_
  · refine (blk_q m c t a _).trans (congrArg (qa m c) (congrArg₂ ix2 (Fin.ext ?_) rfl))
    show 256 * t.val + a.val = 8192 * (t.val / 32) + (256 * (t.val % 32) + a.val)
    omega
  · exact blk_k m c t _ _

theorem bias_at (n : ℕ) : biasq (iblk m c 3 t) a n
    = if Kept (keep m c (ix3 (batch t) (pos t a) ⟨n % 8192, Nat.mod_lt _ (by decide)⟩)) (pos t a).val (n % 8192) then 0 else ⊥ := by
  refine (blk_bias m c t _ _ _ _).trans ((bias_point _ _ _ _ _ _).trans ?_)
  have e1 : 128 * (t.val % 32 * 2 + a.val / 128) + a.val % 128 = 256 * (t.val % 32) + a.val := by omega
  have e2 : 512 * (n / 512 % 16) + n % 512 = n % 8192 := by omega
  have e3 : (ix3 (batch t) ⟨128 * (t.val % 32 * 2 + a.val / 128) + a.val % 128, by omega⟩ ⟨512 * (n / 512 % 16) + n % 512, by omega⟩ : S4x8192x8192.Idx)
      = ix3 (batch t) (pos t a) ⟨n % 8192, Nat.mod_lt _ (by decide)⟩ := congrArg₂ (ix3 (batch t)) (Fin.ext e1) (Fin.ext e2)
  refine if_congr ?_ rfl rfl
  show Kept (keep m c (ix3 (batch t) ⟨128 * (t.val % 32 * 2 + a.val / 128) + a.val % 128, by omega⟩ ⟨512 * (n / 512 % 16) + n % 512, by omega⟩))
    (128 * (t.val % 32 * 2 + a.val / 128) + a.val % 128) (512 * (n / 512 % 16) + n % 512) ↔ _
  rw [e3, e1, e2]
  exact Iff.rfl

theorem masked_at : masked (iblk m c 0 t) (iblk m c 1 t) (iblk m c 3 t) a h
    = Cert.AttnSpec.logit (qa m c) (ka m c) (keep m c) (batch t) (pos t a) h := by
  funext n
  unfold masked Cert.AttnSpec.logit
  rw [dot_at, bias_at]

theorem value_at (d : Fin 128) : valueq (iblk m c 2 t) h d = Cert.AttnSpec.value (va m c) (batch t) h d := by
  funext n
  exact blk_v m c t _ _

theorem tiles_at : 512 * tiles (grid0.coords t) = 512 * ((t.val % 32 + 2) / 2) := by rw [tiles, coord1]

variable (H : Meaningful (qa m c) (ka m c) (keep m c))
include H

/-- What a grid point stores. -/
theorem stored (d : Fin 128) : Run.outAt m c t (ix2 a ⟨128 * h.val + d.val, by omega⟩)
    = mean (Cert.AttnSpec.logit (qa m c) (ka m c) (keep m c) (batch t) (pos t a) h) (Cert.AttnSpec.value (va m c) (batch t) h d) 8192 := by
  obtain ⟨n0, hn0⟩ := H.kept (batch t) (pos t a)
  have hl : n0.val ≤ 256 * (t.val % 32) + a.val := hn0.2
  have e0 : (⟨n0.val % 8192, Nat.mod_lt _ (by decide)⟩ : Fin 8192) = n0 := Fin.ext (Nat.mod_eq_of_lt n0.isLt)
  have e1 : n0.val % 8192 = n0.val := Nat.mod_eq_of_lt n0.isLt
  rw [← masked_at, ← value_at]
  refine out5_mean c (grid0.coords t) _ _ _ _ _ _ _ _ _ _ _ _ _ _ _ _ _ _ _ _ (iblk m c 0 t) (iblk m c 1 t) (iblk m c 2 t) (iblk m c 3 t) (iblk m c 4 t)
    (fun y => ?_) (fun y => ?_) a h d (fun n => ?_) n0.val ?_ ?_ (fun n hn hn' => ?_)
  · obtain ⟨r, hr⟩ := H.q_real (ix2 ⟨256 * t.val + (y 0).val, by have := lt t; have : (y 0).val < 256 := (y 0).isLt; omega⟩ (y 1))
    exact ⟨r, (congrArg (iblk m c 0 t) (ix2_eta y).symm).trans ((blk_q m c t _ _).trans hr)⟩
  · obtain ⟨r, hr⟩ := H.k_real (ix2 ⟨8192 * (t.val / 32) + (y 0).val, by have := lt t; have : (y 0).val < 8192 := (y 0).isLt; omega⟩ (y 1))
    exact ⟨r, (congrArg (iblk m c 1 t) (ix2_eta y).symm).trans ((blk_k m c t _ _).trans hr)⟩
  · rw [bias_at]
    split_ifs
    · exact Or.inl rfl
    · exact Or.inr rfl
  · rw [tiles_at]; omega
  · rw [bias_at, e0, e1, if_pos hn0]
  · rw [tiles_at] at hn
    rw [bias_at, if_neg]
    rintro ⟨-, hle⟩
    have : n % 8192 ≤ 256 * (t.val % 32) + a.val := hle
    rw [Nat.mod_eq_of_lt hn'] at this
    omega

/-- The result array after the run. -/
theorem final : (Run.dats m 0 c).arrAt 5 (cfgs 0).N = Cert.AttnSpec.result (qa m c) (ka m c) (va m c) (keep m c) := by
  refine (Run.dats m 0 c).arrAt_eq_of_covers 5 _ (by decide +kernel) fun t hf y => ?_
  blk_simp
  rw [Run.after0_5]
  have hy0 : (y 0).val < 256 := (y 0).isLt
  have hy1 : (y 1).val < 1024 := (y 1).isLt
  have ey : y = ix2 (⟨(y 0).val, hy0⟩ : Fin 256) (⟨128 * ((y 1).val / 128) + (y 1).val % 128, by omega⟩ : Fin 1024) :=
    funext fun k => match k with
      | 0 => rfl
      | 1 => Fin.ext (by show (y 1).val = 128 * ((y 1).val / 128) + (y 1).val % 128; omega)
  refine ((congrArg (Run.outAt m c t) ey).trans (stored m c t ⟨(y 0).val, hy0⟩ ⟨(y 1).val / 128, by omega⟩ H ⟨(y 1).val % 128, by omega⟩)).trans ?_
  refine (Cert.AttnSpec.result_at _ _ _ _ _ _ _ _ _ ?_ ?_).symm
  · show win0_5.index t 0 * 256 + 1 * (y 0).val = 8192 * (t.val / 32) + (256 * (t.val % 32) + (y 0).val)
    rw [(idx t).2.2.2.2]
    show t.val * 256 + 1 * (y 0).val = _
    omega
  · show win0_5.index t 1 * 1024 + 1 * (y 1).val = 128 * ((y 1).val / 128) + (y 1).val % 128
    rw [(idx t).2.2.2.2]
    show 0 * 1024 + 1 * (y 1).val = _
    omega

end Cert.AttnIdeal.Point

end
-- ==== Proof.AttnRefPoint.lean ====
module

public import proofs.«01_k».proof.Proof.AttnSpec
public import proofs.«01_k».proof.Proof.Gen.AttnRefIdeal.Run
public import Idealize.ShloMosaic.Lib.Pipeline.ValueKit

/- The attention's reference, entry by entry. -/

@[expose] public section

set_option maxRecDepth 16384

noncomputable section

open Idealize.ShloMosaic Idealize.ShloMosaic.TcCoe Idealize.SL.Sem
open scoped BigOperators

namespace Cert.AttnRefIdeal.Point

open Cert.AttnRefIdeal Cert.AttnRefIdeal.Gen Cert.AttnMark Cert.AttnRow
open Cert.AttnSpec (Meaningful)

/-- Which keys each query keeps. -/
def marks (keep : IVec S4x8192x8192 32) : IVec S4x8192x8192 1 :=
  andi (cmpi .ne keep (broadcastInDim S4x8192x8192 ![] bcast_S_S4x8192x8192 (constantI S_ 32 0#32)))
    (broadcastInDim S4x8192x8192 ![0, 1, 2] bcast_S1x8192x8192_S4x8192x8192_0_1_2 (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))

/-- The scores, divided by a scalar. -/
def scores (q : FVec Ideal S32768x1024 .bf16) (k : FVec Ideal S32768x256 .bf16) (w : FVec Ideal S_ .f32) : FVec Ideal S4x8192x2x4x8192 .f32 :=
  Host.divf (transpose S4x8192x2x4x8192 [0, 3, 1, 4, 2] (Host.dotGeneral dot_S4x8192x2x128_S4x8192x2x4x128_S4x2x8192x8192x4_3_4_1_13_02_02 none
      (shapeCast _ (extf .f32 k bitsLt_bf16_f32) shapeCasts_S32768x256_S4x8192x2x128)
      (shapeCast _ (extf .f32 q bitsLt_bf16_f32) shapeCasts_S32768x1024_S4x8192x2x4x128)) transposes_S4x2x8192x8192x4_S4x8192x2x4x8192_0_3_1_4_2)
    (broadcastInDim S4x8192x2x4x8192 ![] bcast_S_S4x8192x2x4x8192 w)

/-- The scores where a key is kept, a scalar elsewhere. -/
def kept (c : IVec S4x8192x8192 1) (x : FVec Ideal S4x8192x2x4x8192 .f32) (z : FVec Ideal S_ .f32) : FVec Ideal S4x8192x2x4x8192 .f32 :=
  select (broadcastInDim S4x8192x2x4x8192 ![0, 1, 2, 3, 4] bcast_S4x8192x1x1x8192_S4x8192x2x4x8192_0_1_2_3_4
    (broadcastInDim S4x8192x1x1x8192 ![0, 1, 4] bcast_S4x8192x8192_S4x8192x1x1x8192_0_1_4 c)) x (broadcastInDim S4x8192x2x4x8192 ![] bcast_S_S4x8192x2x4x8192 (id z))

/-- Each row's largest entry, against a scalar. -/
def rowMax (x : FVec Ideal S4x8192x2x4x8192 .f32) (z : FVec Ideal S_ .f32) : FVec Ideal S4x8192x2x4 .f32 :=
  Host.reduce FloatOps.maximumf x z reducesTo_S4x8192x2x4x8192_S4x8192x2x4_d4 h_S_

/-- The exponentials of a row less its largest entry. -/
def exps (x : FVec Ideal S4x8192x2x4x8192 .f32) (M : FVec Ideal S4x8192x2x4 .f32) : FVec Ideal S4x8192x2x4x8192 .f32 :=
  Host.exp (subf x (broadcastInDim S4x8192x2x4x8192 ![0, 1, 2, 3, 4] bcast_S4x8192x2x4x1_S4x8192x2x4x8192_0_1_2_3_4
    (broadcastInDim S4x8192x2x4x1 ![0, 1, 2, 3] bcast_S4x8192x2x4_S4x8192x2x4x1_0_1_2_3 M)))

/-- A row over its sum. -/
def shares (e : FVec Ideal S4x8192x2x4x8192 .f32) : FVec Ideal S4x8192x2x4x8192 .f32 :=
  Host.divf e (broadcastInDim S4x8192x2x4x8192 ![0, 1, 2, 3, 4] bcast_S4x8192x2x4x1_S4x8192x2x4x8192_0_1_2_3_4
    (broadcastInDim S4x8192x2x4x1 ![0, 1, 2, 3] bcast_S4x8192x2x4_S4x8192x2x4x1_0_1_2_3
      (Host.reduceAdd e (constant S_ .f32 0x00000000#32) reducesTo_S4x8192x2x4x8192_S4x8192x2x4_d4 h_S_)))

/-- The values, each by its share. -/
def mixed (v : FVec Ideal S32768x256 .bf16) (p : FVec Ideal S4x8192x2x4x8192 .f32) : FVec Ideal S32768x1024 .bf16 :=
  truncf .bf16 (shapeCast _ (transpose S4x8192x2x4x128 [0, 3, 1, 4, 2] (Host.dotGeneral dot_S4x8192x2x128_S4x8192x2x4x8192_S4x2x128x8192x4_1_4_3_13_02_02 none
    (shapeCast _ (extf .f32 v bitsLt_bf16_f32) shapeCasts_S32768x256_S4x8192x2x128) p) transposes_S4x2x128x8192x4_S4x8192x2x4x128_0_3_1_4_2)
    shapeCasts_S4x8192x2x4x128_S32768x1024) bitsLt_bf16_f32

theorem marks_point (keep : IVec S4x8192x8192 32) (b : Fin 4) (s n : Fin 8192) :
    marks keep (ix3 b s n) = IntOp.andi (IntOp.cmpi .ne (keep (ix3 b s n)) 0#32) (IntOp.cmpi .sle (BitVec.ofNat 32 n.val) (BitVec.ofNat 32 s.val)) := by
  pointwise [marks]

theorem scores_point (q : FVec Ideal S32768x1024 .bf16) (k : FVec Ideal S32768x256 .bf16) (w : EReal)
    (b : Fin 4) (s : Fin 8192) (cc : Fin 2) (g : Fin 4) (n : Fin 8192) :
    scores q k (fun _ => w) (ix5 b s cc g n) = Ideal.div (∑ d : Fin 128, k (ix2 ⟨b.val * 8192 + n.val, by omega⟩ ⟨cc.val * 128 + d.val, by omega⟩)
      * q (ix2 ⟨b.val * 8192 + s.val, by omega⟩ ⟨cc.val * 512 + g.val * 128 + d.val, by omega⟩)) w := by
  pointwise [scores]

theorem kept_point (c : IVec S4x8192x8192 1) (x : FVec Ideal S4x8192x2x4x8192 .f32) (z : EReal)
    (b : Fin 4) (s : Fin 8192) (cc : Fin 2) (g : Fin 4) (n : Fin 8192) :
    kept c x (fun _ => z) (ix5 b s cc g n) = Scalar.select (c (ix3 b s n)) (x (ix5 b s cc g n)) z := by
  pointwise [kept]
  rfl

theorem rowMax_point (x : FVec Ideal S4x8192x2x4x8192 .f32) (z : FVec Ideal S_ .f32) (b : Fin 4) (s : Fin 8192) (cc : Fin 2) (g : Fin 4) :
    rowMax x z (ix4 b s cc g) = Finset.fold max (z (Shape.Idx.first h_S_)) (fun n : Fin 8192 => x (ix5 b s cc g n)) Finset.univ := by
  pointwise [rowMax]

theorem exps_point (x : FVec Ideal S4x8192x2x4x8192 .f32) (M : FVec Ideal S4x8192x2x4 .f32)
    (b : Fin 4) (s : Fin 8192) (cc : Fin 2) (g : Fin 4) (n : Fin 8192) :
    exps x M (ix5 b s cc g n) = Ideal.exp ((x (ix5 b s cc g n) : EReal) - M (ix4 b s cc g)) := by
  pointwise [exps]

theorem shares_point (e : FVec Ideal S4x8192x2x4x8192 .f32) (b : Fin 4) (s : Fin 8192) (cc : Fin 2) (g : Fin 4) (n : Fin 8192) :
    shares e (ix5 b s cc g n) = Ideal.div (e (ix5 b s cc g n)) (∑ n' : Fin 8192, e (ix5 b s cc g n')) := by
  pointwise [shares]

theorem mixed_point (v : FVec Ideal S32768x256 .bf16) (p : FVec Ideal S4x8192x2x4x8192 .f32)
    (b : Fin 4) (s : Fin 8192) (cc : Fin 2) (g : Fin 4) (d : Fin 128) :
    mixed v p (ix2 ⟨b.val * 8192 + s.val, by omega⟩ ⟨cc.val * 512 + g.val * 128 + d.val, by omega⟩)
      = ∑ n : Fin 8192, v (ix2 ⟨b.val * 8192 + n.val, by omega⟩ ⟨cc.val * 128 + d.val, by omega⟩) * p (ix5 b s cc g n) := by
  pointwise [mixed]

variable (m : (ℓ : Loc nD τ sig) → Buf (Elt Ideal) ℓ) (c : Dev nD)

abbrev qa : S32768x1024.Idx → EReal := m ((c : Thread nD τ).loc main_arg0)
abbrev ka : S32768x256.Idx → EReal := m ((c : Thread nD τ).loc main_arg1)
abbrev va : S32768x256.Idx → EReal := m ((c : Thread nD τ).loc main_arg2)
abbrev keep : S4x8192x8192.Idx → BitVec 32 := m ((c : Thread nD τ).loc main_arg3)

abbrev lowest : FVec Ideal S_ .f32 := constant S_ .f32 0xFF800000#32

/-- The masked scores. -/
def logits : FVec Ideal S4x8192x2x4x8192 .f32 :=
  kept (marks (keep m c)) (scores (qa m c) (ka m c) (Host.sqrt (constant S_ .f32 0x43000000#32))) lowest

/-- The largest score of each row. -/
def top : FVec Ideal S4x8192x2x4 .f32 := maximumf (broadcastInDim S4x8192x2x4 ![] bcast_S_S4x8192x2x4 lowest) (rowMax (logits m c) lowest)

theorem result_eq : Value.res_main_v38 m c = mixed (va m c) (shares (exps (logits m c) (top m c))) := rfl

end Cert.AttnRefIdeal.Point

end
-- ==== Proof.AttnRefFinal.lean ====
module

public import proofs.«01_k».proof.Proof.AttnRefPoint

/- The attention's reference leaves each query's mean of its kept keys' values. -/

@[expose] public section

set_option maxRecDepth 16384

noncomputable section

open Idealize.ShloMosaic Idealize.ShloMosaic.TcCoe Idealize.SL.Sem
open scoped BigOperators

namespace Cert.AttnRefIdeal.Point

open Cert.AttnRefIdeal Cert.AttnRefIdeal.Gen Cert.AttnMark Cert.AttnRow
open Cert.AttnSpec (Meaningful)

theorem width_root : (Host.sqrt (constant S_ .f32 0x43000000#32) : FVec Ideal S_ .f32) = fun _ => ((Real.sqrt 128 : ℝ) : EReal) := by
  funext _
  show Ideal.sqrt (Ideal.ofBits .f32 0x43000000#32) = _
  rw [lit_width, Ideal.sqrt_coe, if_neg (by norm_num)]

theorem lowest_eq : lowest = fun _ => (⊥ : EReal) := by
  funext _
  exact lit_bot

variable (m : (ℓ : Loc nD τ sig) → Buf (Elt Ideal) ℓ) (c : Dev nD)
  (b : Fin 4) (s : Fin 8192) (h : Fin 8)

theorem logits_at (n : Fin 8192) (H : Meaningful (qa m c) (ka m c) (keep m c)) :
    logits m c (ix5 b s (⟨h.val / 4, by omega⟩ : Fin 2) (⟨h.val % 4, by omega⟩ : Fin 4) n)
      = Cert.AttnSpec.logit (qa m c) (ka m c) (keep m c) b s h n.val := by
  have em : n.val % 8192 = n.val := Nat.mod_eq_of_lt n.isLt
  have ef : (⟨n.val % 8192, Nat.mod_lt _ (by decide)⟩ : Fin 8192) = n := Fin.ext em
  have hr : Real.sqrt 128 ≠ 0 := (Real.sqrt_pos.2 (by norm_num)).ne'
  unfold logits Cert.AttnSpec.logit
  rw [lowest_eq, width_root, kept_point, marks_point, select_kept _ _ _ s.isLt n.isLt, scores_point, Ideal.div_coe hr, one_div, ef, em]
  have ed : (∑ d : Fin 128, (ka m c) (ix2 ⟨b.val * 8192 + n.val, by omega⟩ ⟨h.val / 4 * 128 + d.val, by omega⟩)
      * (qa m c) (ix2 ⟨b.val * 8192 + s.val, by omega⟩ ⟨h.val / 4 * 512 + h.val % 4 * 128 + d.val, by omega⟩))
      = Cert.AttnSpec.dot (qa m c) (ka m c) b s h n.val := by
    refine Finset.sum_congr rfl fun d _ => (mul_comm _ _).trans (congrArg₂ (· * ·) (congrArg (qa m c) (congrArg₂ ix2 (Fin.ext ?_) (Fin.ext ?_)))
      (congrArg (ka m c) (congrArg₂ ix2 (Fin.ext ?_) (Fin.ext ?_))))
    · show b.val * 8192 + s.val = 8192 * b.val + s.val; omega
    · show h.val / 4 * 512 + h.val % 4 * 128 + d.val = 128 * h.val + d.val; omega
    · show b.val * 8192 + n.val = 8192 * b.val + n.val % 8192; omega
    · show h.val / 4 * 128 + d.val = 128 * (h.val / 4) + d.val; omega
  refine Eq.trans (if_congr Iff.rfl (congrArg (· * _) ed) rfl) ?_
  obtain ⟨r, e⟩ := Cert.AttnSpec.dot_real H b s h n.val
  rw [e]
  split_ifs
  · rw [add_zero]
  · rw [EReal.add_bot]

omit m c b s h in
theorem larger_point (z : FVec Ideal S_ .f32) (x : FVec Ideal S4x8192x2x4 .f32) (b : Fin 4) (s : Fin 8192) (cc : Fin 2) (g : Fin 4) :
    (maximumf (broadcastInDim S4x8192x2x4 ![] bcast_S_S4x8192x2x4 z) x) (ix4 b s cc g) = max (z ix0) (x (ix4 b s cc g)) := by
  pointwise

omit m c b s h in
theorem larger_max (x : FVec Ideal S4x8192x2x4x8192 .f32) (b : Fin 4) (s : Fin 8192) (cc : Fin 2) (g : Fin 4) :
    (maximumf (broadcastInDim S4x8192x2x4 ![] bcast_S_S4x8192x2x4 lowest) (rowMax x lowest)) (ix4 b s cc g)
      = max ⊥ (Finset.fold max ⊥ (fun n : Fin 8192 => x (ix5 b s cc g n)) Finset.univ) :=
  (larger_point lowest _ b s cc g).trans (congrArg₂ max (congrFun lowest_eq ix0)
    ((rowMax_point x lowest b s cc g).trans (congrArg (fun t => Finset.fold max t (fun n : Fin 8192 => x (ix5 b s cc g n)) Finset.univ)
      (congrFun lowest_eq (Shape.Idx.first h_S_)))))

theorem top_at (cc : Fin 2) (g : Fin 4) : top m c (ix4 b s cc g)
    = max ⊥ (Finset.fold max ⊥ (fun n : Fin 8192 => logits m c (ix5 b s cc g n)) Finset.univ) :=
  larger_max (logits m c) b s cc g

variable (H : Meaningful (qa m c) (ka m c) (keep m c))
include H

theorem entry (d : Fin 128) :
    mixed (va m c) (shares (exps (logits m c) (top m c))) (ix2 ⟨b.val * 8192 + s.val, by omega⟩ ⟨h.val / 4 * 512 + h.val % 4 * 128 + d.val, by omega⟩)
      = mean (Cert.AttnSpec.logit (qa m c) (ka m c) (keep m c) b s h) (Cert.AttnSpec.value (va m c) b h d) 8192 := by
  obtain ⟨n0, hn0⟩ := H.kept b s
  have hl : ∀ n : Fin 8192, logits m c (ix5 b s (⟨h.val / 4, by omega⟩ : Fin 2) (⟨h.val % 4, by omega⟩ : Fin 4) n)
      = Cert.AttnSpec.logit (qa m c) (ka m c) (keep m c) b s h n.val := fun n => logits_at m c b s h n H
  have ht := top_at m c b s (⟨h.val / 4, by omega⟩ : Fin 2) (⟨h.val % 4, by omega⟩ : Fin 4)
  have hM : (top m c (ix4 b s (⟨h.val / 4, by omega⟩ : Fin 2) (⟨h.val % 4, by omega⟩ : Fin 4)) : EReal) ≠ ⊤ := by
    rw [ht]
    refine ne_of_lt (max_lt bot_lt_top ((Finset.fold_max_lt (⊤ : EReal)).2 ⟨bot_lt_top, fun n _ => ?_⟩))
    rw [hl]
    exact lt_top_iff_ne_top.2 (Cert.AttnSpec.logit_ne_top H b s h n.val)
  have hle : ∀ n < 8192, Cert.AttnSpec.logit (qa m c) (ka m c) (keep m c) b s h n
      ≤ top m c (ix4 b s (⟨h.val / 4, by omega⟩ : Fin 2) (⟨h.val % 4, by omega⟩ : Fin 4)) := fun n hn => by
    rw [ht, ← hl ⟨n, hn⟩]
    exact le_max_of_le_right ((Finset.le_fold_max _).2 (Or.inr ⟨⟨n, hn⟩, Finset.mem_univ _, le_refl _⟩))
  rw [← softmax_mean (Cert.AttnSpec.value (va m c) b h d) (Cert.AttnSpec.logit_ne_top H b s h) 8192 n0.val n0.isLt
    (Cert.AttnSpec.logit_ne_bot H b s h n0 hn0) _ hM hle]
  refine (mixed_point (va m c) _ b s ⟨h.val / 4, by omega⟩ ⟨h.val % 4, by omega⟩ d).trans (Finset.sum_congr rfl fun n _ => ?_)
  rw [shares_point, mul_comm]
  refine congrArg₂ (· * ·) (congrArg₂ Ideal.div ?_ (Finset.sum_congr rfl fun n' _ => ?_)) (congrArg (va m c) (congrArg₂ ix2 (Fin.ext ?_) (Fin.ext ?_)))
  · rw [exps_point, hl]
  · rw [exps_point, hl]
  · show b.val * 8192 + n.val = 8192 * b.val + n.val % 8192; omega
  · show h.val / 4 * 128 + d.val = 128 * (h.val / 4) + d.val; omega

omit b s h in
/-- The reference's result. -/
theorem final : Value.res_main_v38 m c = Cert.AttnSpec.result (qa m c) (ka m c) (va m c) (keep m c) := by
  rw [result_eq]
  funext y
  have hy0 : (y 0).val < 32768 := (y 0).isLt
  have hy1 : (y 1).val < 1024 := (y 1).isLt
  have ey : y = ix2 (⟨(y 0).val / 8192 * 8192 + (y 0).val % 8192, by omega⟩ : Fin 32768)
      (⟨(y 1).val / 128 / 4 * 512 + (y 1).val / 128 % 4 * 128 + (y 1).val % 128, by omega⟩ : Fin 1024) :=
    funext fun k => match k with
      | 0 => Fin.ext (by show (y 0).val = (y 0).val / 8192 * 8192 + (y 0).val % 8192; omega)
      | 1 => Fin.ext (by show (y 1).val = (y 1).val / 128 / 4 * 512 + (y 1).val / 128 % 4 * 128 + (y 1).val % 128; omega)
  refine (congrArg (mixed (va m c) (shares (exps (logits m c) (top m c)))) ey).trans
    ((entry m c ⟨(y 0).val / 8192, by omega⟩ ⟨(y 0).val % 8192, by omega⟩ ⟨(y 1).val / 128, by omega⟩ H ⟨(y 1).val % 128, by omega⟩).trans
      (Cert.AttnSpec.result_at _ _ _ _ _ _ _ _ y ?_ ?_).symm)
  · show (y 0).val = 8192 * ((y 0).val / 8192) + (y 0).val % 8192; omega
  · show (y 1).val = 128 * ((y 1).val / 128) + (y 1).val % 128; omega

end Cert.AttnRefIdeal.Point

end
-- ==== Proof.AttnPre.lean ====
module

public import proofs.«01_k».proof.Proof.AttnMark
public import proofs.«01_k».proof.Pre_attention_pre
public import Idealize.ShloMosaic.Lib.Pipeline.ValueKit

/- What the attention's precondition says: finite queries and keys, and a kept key for every query. -/

@[expose] public section

set_option maxRecDepth 16384

noncomputable section

open Idealize.ShloMosaic

namespace Cert.AttnPre

open Cert.Pre_attention_pre Cert.AttnMark

variable [Cert.Pre_attention_pre.Facts]

open Facts

/-- The largest magnitude of each row. -/
def maxQ (q : FVec Ideal S32768x1024 .bf16) (z : FVec Ideal S_ .f32) : FVec Ideal S32768 .f32 :=
  Host.reduce FloatOps.maximumf (Host.absf (extf .f32 q bitsLt_bf16_f32)) z reducesTo_S32768x1024_S32768_d1 h_S_

def maxK (k : FVec Ideal S32768x256 .bf16) (z : FVec Ideal S_ .f32) : FVec Ideal S32768 .f32 :=
  Host.reduce FloatOps.maximumf (Host.absf (extf .f32 k bitsLt_bf16_f32)) z reducesTo_S32768x256_S32768_d1 h_S_

/-- Where an array lies below a scalar. -/
def below (x : FVec Ideal S32768 .f32) (z : FVec Ideal S_ .f32) : IVec S32768 1 := cmpf .olt x (broadcastInDim S32768 ![] bcast_S_S32768 z)

/-- Which keys each query keeps. -/
def marks (keep : IVec S4x8192x8192 32) : IVec S4x8192x8192 1 :=
  andi (cmpi .ne keep (broadcastInDim S4x8192x8192 ![] bcast_S_S4x8192x8192 (constantI S_ 32 0#32)))
    (broadcastInDim S4x8192x8192 ![0, 1, 2] bcast_S1x8192x8192_S4x8192x8192_0_1_2 (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))

/-- Whether each query keeps a key. -/
def someKept (x : IVec S4x8192x8192 1) : IVec S4x8192 1 :=
  Host.reduce IntOp.ori x (constantI S_ 1 0#1) reducesTo_S4x8192x8192_S4x8192_d2 h_S_

theorem fn_eq (q : FVec Ideal S32768x1024 .bf16) (k v : FVec Ideal S32768x256 .bf16) (keep : IVec S4x8192x8192 32) (u : FVec Ideal S1 .f32) :
    fn q k v keep u = andi (andi (below (maxQ q (constant S_ .f32 0xFF800000#32)) (constant S_ .f32 0x7F800000#32))
      (below (maxK k (constant S_ .f32 0xFF800000#32)) (constant S_ .f32 0x7F800000#32))) (shapeCast S32768 (someKept (marks keep)) shapeCasts_S4x8192_S32768) := rfl

theorem maxQ_point (q : FVec Ideal S32768x1024 .bf16) (z : FVec Ideal S_ .f32) (t : Fin 32768) :
    maxQ q z (ix1 t) = Finset.fold max (z (Shape.Idx.first h_S_)) (fun x : Fin 1024 => FloatOps.absf (F := Ideal) (φ := .f32) (q (ix2 t x))) Finset.univ := by
  pointwise [maxQ]

theorem maxK_point (k : FVec Ideal S32768x256 .bf16) (z : FVec Ideal S_ .f32) (t : Fin 32768) :
    maxK k z (ix1 t) = Finset.fold max (z (Shape.Idx.first h_S_)) (fun x : Fin 256 => FloatOps.absf (F := Ideal) (φ := .f32) (k (ix2 t x))) Finset.univ := by
  pointwise [maxK]

theorem below_point (x : FVec Ideal S32768 .f32) (v : EReal) (t : Fin 32768) (h : below x (fun _ => v) (ix1 t) = 1#1) : (x (ix1 t) : EReal) < v := by
  by_contra hn
  have : below x (fun _ => v) (ix1 t) = BitVec.ofBool (decide ((x (ix1 t) : EReal) < v)) := rfl
  rw [this, decide_eq_false hn] at h
  exact absurd h (by decide)

theorem someKept_point (x : IVec S4x8192x8192 1) (b : Fin 4) (s : Fin 8192) :
    someKept x (ix2 b s) = Finset.fold IntOp.ori 0#1 (fun n : Fin 8192 => x (ix3 b s n)) Finset.univ := by
  pointwise [someKept]

theorem cast_point (x : IVec S4x8192 1) (b : Fin 4) (s : Fin 8192) :
    shapeCast S32768 x shapeCasts_S4x8192_S32768 (ix1 ⟨8192 * b.val + s.val, by omega⟩) = x (ix2 b s) := by
  pointwise

theorem marks_point (keep : IVec S4x8192x8192 32) (b : Fin 4) (s n : Fin 8192) :
    marks keep (ix3 b s n) = IntOp.andi (IntOp.cmpi .ne (keep (ix3 b s n)) 0#32) (IntOp.cmpi .sle (BitVec.ofNat 32 n.val) (BitVec.ofNat 32 s.val)) := by
  pointwise [marks]

theorem both {x y : BitVec 1} (h : IntOp.andi x y = 1#1) : x = 1#1 ∧ y = 1#1 := by
  revert h; revert x y; decide

theorem fold_or {ι : Type} (s : Finset ι) (f : ι → BitVec 1) (h : Finset.fold IntOp.ori 0#1 f s = 1#1) : ∃ i ∈ s, f i = 1#1 := by
  classical
  induction s using Finset.induction_on with
  | empty => exact absurd (show (0#1 : BitVec 1) = 1#1 from h) (by decide)
  | insert i s hi ih =>
    rw [Finset.fold_insert hi] at h
    by_cases e : f i = 1#1
    · exact ⟨i, Finset.mem_insert_self i s, e⟩
    · have : ∀ x y : BitVec 1, IntOp.ori x y = 1#1 → ¬ x = 1#1 → y = 1#1 := by decide
      obtain ⟨k, hk, ek⟩ := ih (this _ _ h e)
      exact ⟨k, Finset.mem_insert_of_mem hk, ek⟩

theorem real_of_abs {ι : Type} [Fintype ι] (z : EReal) (f : ι → EReal) (h : Finset.fold max z (fun x => FloatOps.absf (F := Ideal) (φ := .f32) (f x)) Finset.univ < ⊤)
    (x : ι) : ∃ r : ℝ, f x = (r : EReal) := by
  have h1 : FloatOps.absf (F := Ideal) (φ := .f32) (f x) < (⊤ : EReal) := ((Finset.fold_max_lt (⊤ : EReal)).1 h).2 x (Finset.mem_univ x)
  generalize f x = y at h1
  induction y with
  | bot => exact absurd h1 (lt_irrefl (⊤ : EReal))
  | coe r => exact ⟨r, rfl⟩
  | top => exact absurd h1 (lt_irrefl (⊤ : EReal))

theorem parts (q : FVec Ideal S32768x1024 .bf16) (k v : FVec Ideal S32768x256 .bf16) (keep : IVec S4x8192x8192 32) (u : FVec Ideal S1 .f32)
    (h : fn q k v keep u = fun _ => 1#1) (b : Fin 4) (s : Fin 8192) :
    (∀ d : Fin 1024, ∃ r : ℝ, q (ix2 ⟨8192 * b.val + s.val, by omega⟩ d) = (r : EReal))
      ∧ (∀ d : Fin 256, ∃ r : ℝ, k (ix2 ⟨8192 * b.val + s.val, by omega⟩ d) = (r : EReal))
      ∧ ∃ n : Fin 8192, Kept (keep (ix3 b s n)) s.val n.val := by
  have h1 := congrFun ((fn_eq q k v keep u).symm.trans h) (ix1 ⟨8192 * b.val + s.val, by omega⟩)
  obtain ⟨hf, hk⟩ := both h1
  obtain ⟨hq, hk'⟩ := both hf
  have e2 := below_point _ _ _ hq
  have e3 := below_point _ _ _ hk'
  rw [maxQ_point] at e2
  rw [maxK_point] at e3
  have et : (Ideal.ofBits .f32 0x7F800000#32 : EReal) = ⊤ := lit_top
  refine ⟨real_of_abs _ _ (lt_of_lt_of_eq e2 et), real_of_abs _ _ (lt_of_lt_of_eq e3 et), ?_⟩
  rw [cast_point, someKept_point] at hk
  obtain ⟨n, -, hn⟩ := fold_or _ _ hk
  rw [marks_point] at hn
  exact ⟨n, (mark_iff _ _ _ s.isLt n.isLt).1 hn⟩

end Cert.AttnPre

end
-- ==== Proof.AttnMeans.lean ====
module

public import proofs.«01_k».proof.Proof.AttnPre
public import proofs.«01_k».proof.Proof.AttnSpec

/- The attention's precondition, read: the arrays it allows are those the equality is about. -/

@[expose] public section

noncomputable section

open Idealize.ShloMosaic

namespace Cert.AttnPre

open Cert.Pre_attention_pre

/-- The precondition's shape relations. -/
instance facts : Cert.Pre_attention_pre.Facts where
  bitsLt_bf16_f32 := by decide
  reducesTo_S32768x1024_S32768_d1 := by decide
  h_S_ := by decide
  bcast_S_S32768 := by decide
  reducesTo_S32768x256_S32768_d1 := by decide
  bcast_S_S4x8192x8192 := by decide
  bcast_S8192_S1x8192_1 := by decide
  bcast_S8192_S8192x1_0 := by decide
  bcast_S1x8192_S8192x8192_0_1 := by decide
  bcast_S8192x1_S8192x8192_0_1 := by decide
  bcast_S8192x8192_S1x8192x8192_1_2 := by decide
  bcast_S1x8192x8192_S4x8192x8192_0_1_2 := by decide
  reducesTo_S4x8192x8192_S4x8192_d2 := by decide
  shapeCasts_S4x8192_S32768 := by decide

theorem row_split (y0 : Fin 32768) : (⟨8192 * (y0.val / 8192) + y0.val % 8192, by omega⟩ : Fin 32768) = y0 :=
  Fin.ext (Nat.div_add_mod _ _)

theorem meaningful (q : FVec Ideal S32768x1024 .bf16) (k v : FVec Ideal S32768x256 .bf16) (keep : IVec S4x8192x8192 32) (u : FVec Ideal S1 .f32)
    (h : fn (F := Ideal) q k v keep u = fun _ => 1#1) : Cert.AttnSpec.Meaningful q k keep where
  q_real y := by
    obtain ⟨r, e⟩ := (parts q k v keep u h ⟨(y 0).val / 8192, Nat.div_lt_of_lt_mul (y 0).isLt⟩ ⟨(y 0).val % 8192, Nat.mod_lt _ (by decide)⟩).1 (y 1)
    refine ⟨r, (congrArg q ?_).trans e⟩
    exact funext fun i => match i with
      | 0 => (row_split (y 0)).symm
      | 1 => rfl
  k_real y := by
    obtain ⟨r, e⟩ := (parts q k v keep u h ⟨(y 0).val / 8192, Nat.div_lt_of_lt_mul (y 0).isLt⟩ ⟨(y 0).val % 8192, Nat.mod_lt _ (by decide)⟩).2.1 (y 1)
    refine ⟨r, (congrArg k ?_).trans e⟩
    exact funext fun i => match i with
      | 0 => (row_split (y 0)).symm
      | 1 => rfl
  kept b s := (parts q k v keep u h b s).2.2

end Cert.AttnPre

end
-- ==== Proof.PrepRow.lean ====
module

public import Idealize.ShloMosaic.Lib.Pipeline.ValueKit

/- A row normed by its mean square, and a row turned by the rotary embedding, over the extended reals. -/

@[expose] public section

noncomputable section

open Idealize.ShloMosaic
open scoped BigOperators

namespace Cert.PrepRow

/-- A row of 128 over the root of its mean square plus a small number, times weights. -/
def normed (x g : Fin 128 → EReal) (k : Fin 128) : EReal :=
  x k * Ideal.rsqrt (Ideal.div (∑ j : Fin 128, x j * x j) (Ideal.ofBits .f32 0x43000000#32) + Ideal.ofBits .f32 0x358637BD#32) * g k

/-- A row whose first `2 * h` entries are turned: entry `l` with entry `l + h`, by the angle whose cosine and sine are given. -/
def turned (n h : ℕ) (hn : 2 * h ≤ n) (y : Fin n → EReal) (cos sin : Fin h → EReal) (l : Fin n) : EReal :=
  if a : l.val < h then y l * cos ⟨l.val, a⟩ - y ⟨l.val + h, by omega⟩ * sin ⟨l.val, a⟩
  else if b : l.val < 2 * h then y l * cos ⟨l.val - h, by omega⟩ + y ⟨l.val - h, by omega⟩ * sin ⟨l.val - h, by omega⟩
  else y l

/-- The queries: eight heads of 128, from column 4096 on, normed and turned. -/
def queries (a : Fin 32768 → Fin 8192 → EReal) (g : Fin 128 → EReal) (cos sin : Fin 8192 → Fin 16 → EReal) (r : Fin 32768) (k : Fin 1024) : EReal :=
  turned 128 16 (by omega) (normed (fun j => a r ⟨4096 + (k.val / 128 * 128 + j.val), by omega⟩) g)
    (cos ⟨r.val % 8192, by omega⟩) (sin ⟨r.val % 8192, by omega⟩) ⟨k.val % 128, by omega⟩

/-- The keys: two heads of 128, from column 5120 on, normed and turned. -/
def keys (a : Fin 32768 → Fin 8192 → EReal) (g : Fin 128 → EReal) (cos sin : Fin 8192 → Fin 16 → EReal) (r : Fin 32768) (k : Fin 256) : EReal :=
  turned 128 16 (by omega) (normed (fun j => a r ⟨5120 + (k.val / 128 * 128 + j.val), by omega⟩) g)
    (cos ⟨r.val % 8192, by omega⟩) (sin ⟨r.val % 8192, by omega⟩) ⟨k.val % 128, by omega⟩

/-- The values: 256 columns from column 5376 on. -/
def values (a : Fin 32768 → Fin 8192 → EReal) (r : Fin 32768) (k : Fin 256) : EReal := a r ⟨5376 + k.val, by omega⟩

/-- The indexer's queries: eight heads of 64, from column 5632 on, turned. -/
def indexQueries (a : Fin 32768 → Fin 8192 → EReal) (cos sin : Fin 8192 → Fin 8 → EReal) (r : Fin 32768) (k : Fin 512) : EReal :=
  turned 64 8 (by omega) (fun j => a r ⟨5632 + (k.val / 64 * 64 + j.val), by omega⟩)
    (cos ⟨r.val % 8192, by omega⟩) (sin ⟨r.val % 8192, by omega⟩) ⟨k.val % 64, by omega⟩

/-- The indexer's keys: 64 of the small projections from column 16 on, turned. -/
def indexKeys (s : Fin 32768 → Fin 128 → EReal) (cos sin : Fin 8192 → Fin 8 → EReal) (r : Fin 32768) (k : Fin 64) : EReal :=
  turned 64 8 (by omega) (fun j => s r ⟨j.val + 16, by omega⟩) (cos ⟨r.val % 8192, by omega⟩) (sin ⟨r.val % 8192, by omega⟩) k

end Cert.PrepRow

end
-- ==== Proof.PrepPay.lean ====
module

public import proofs.«01_k».proof.Proof.PrepRow
public import proofs.«01_k».proof.Proof.Gen.PrepIdeal.Value
public import Idealize.ShloMosaic.Lib.Pipeline.ValueKit

/- The operations of one grid point of the call, entry by entry. -/

@[expose] public section

set_option maxRecDepth 16384

noncomputable section

open Idealize.ShloMosaic Idealize.ShloMosaic.TcCoe Idealize.SL.Sem
open scoped BigOperators

namespace Cert.PrepIdeal.Point

open Cert.PrepIdeal Cert.PrepIdeal.Gen Cert.PrepRow

/-- A head normed and weighted. -/
def head (x : FVec Ideal S512x128 .bf16) (g : FVec Ideal S1x128 .f32) : FVec Ideal S512x128 .f32 :=
  mulf (mulf (extf .f32 x bitsLt_bf16_f32) (broadcastTo S512x128 (rsqrt (addf (divf (shapeCast S512x1 (multiReduction .add [1] S512
    (mulf (extf .f32 x bitsLt_bf16_f32) (extf .f32 x bitsLt_bf16_f32)) 0x00000000#32 reduces_S512x128_S512 (.inl rfl) rfl) shapeCasts_S512_S512x1)
    (broadcast S512x1 (Scalar.ofBits (F := Ideal) .f32 0x43000000#32))) (broadcast S512x1 (Scalar.ofBits (F := Ideal) .f32 0x358637BD#32)))) broadcasts_S512x1_S512x128))
    (broadcastTo S512x128 g broadcasts_S1x128_S512x128)

/-- Three products, of an array and its two rotations by 16 lanes. -/
def wide (y A B C : FVec Ideal S512x128 .f32) : FVec Ideal S512x128 .f32 :=
  addf (addf (mulf y A) (mulf (dynamicRotate 1 112#32 none y rotates_S512x128_d1) B)) (mulf (dynamicRotate 1 16#32 none y rotates_S512x128_d1) C)

/-- Three products, of an array and its two rotations by 8 lanes. -/
def narrow (y A B C : FVec Ideal S512x128 .f32) : FVec Ideal S512x128 .f32 :=
  addf (addf (mulf y A) (mulf (dynamicRotate 1 120#32 none y rotates_S512x128_d1) B)) (mulf (dynamicRotate 1 8#32 none y rotates_S512x128_d1) C)

theorem head_point (x : FVec Ideal S512x128 .bf16) (g : FVec Ideal S1x128 .f32) (r : Fin 512) (l : Fin 128) :
    head x g (ix2 r l) = normed (fun k => x (ix2 r k)) (fun k => g (ix2 0 k)) l := by
  pointwise [head, normed]

theorem wide_point (y A B C : FVec Ideal S512x128 .f32) (r : Fin 512) (l : Fin 128) :
    wide y A B C (ix2 r l) = y (ix2 r l) * A (ix2 r l) + y (ix2 r ⟨(l.val + 16) % 128, by omega⟩) * B (ix2 r l)
      + y (ix2 r ⟨(l.val + 112) % 128, by omega⟩) * C (ix2 r l) := by
  pointwise [wide]
  simp only [show l.val + 128 - 112 = l.val + 16 by omega, show l.val + 128 - 16 = l.val + 112 by omega]

theorem narrow_point (y A B C : FVec Ideal S512x128 .f32) (r : Fin 512) (l : Fin 128) :
    narrow y A B C (ix2 r l) = y (ix2 r l) * A (ix2 r l) + y (ix2 r ⟨(l.val + 8) % 128, by omega⟩) * B (ix2 r l)
      + y (ix2 r ⟨(l.val + 120) % 128, by omega⟩) * C (ix2 r l) := by
  pointwise [narrow]
  simp only [show l.val + 128 - 120 = l.val + 8 by omega, show l.val + 128 - 8 = l.val + 120 by omega]

/-! ### Which lanes each condition holds on -/

theorem below_32 : ∀ l : Fin 128, IntOp.cmpi .slt (BitVec.ofNat 32 l.val) 32#32 = if l.val < 32 then 1#1 else 0#1 := by decide +kernel
theorem below_16 : ∀ l : Fin 128, IntOp.cmpi .slt (BitVec.ofNat 32 l.val) 16#32 = if l.val < 16 then 1#1 else 0#1 := by decide +kernel
theorem below_64 : ∀ l : Fin 128, IntOp.cmpi .slt (BitVec.ofNat 32 l.val) 64#32 = if l.val < 64 then 1#1 else 0#1 := by decide +kernel
theorem from_16_to_32 : ∀ l : Fin 128, IntOp.andi (IntOp.cmpi .sge (BitVec.ofNat 32 l.val) 16#32) (IntOp.cmpi .slt (BitVec.ofNat 32 l.val) 32#32)
    = if 16 ≤ l.val ∧ l.val < 32 then 1#1 else 0#1 := by decide +kernel
theorem from_16_to_24 : ∀ l : Fin 128, IntOp.andi (IntOp.cmpi .sge (BitVec.ofNat 32 l.val) 16#32) (IntOp.cmpi .slt (BitVec.ofNat 32 l.val) 24#32)
    = if 16 ≤ l.val ∧ l.val < 24 then 1#1 else 0#1 := by decide +kernel
theorem from_24_to_32 : ∀ l : Fin 128, IntOp.andi (IntOp.cmpi .sge (BitVec.ofNat 32 l.val) 24#32) (IntOp.cmpi .slt (BitVec.ofNat 32 l.val) 32#32)
    = if 24 ≤ l.val ∧ l.val < 32 then 1#1 else 0#1 := by decide +kernel
theorem half_below_16 : ∀ l : Fin 128, IntOp.cmpi .slt (IntOp.andi (BitVec.ofNat 32 l.val) 63#32) 16#32 = if l.val % 64 < 16 then 1#1 else 0#1 := by decide +kernel
theorem half_below_8 : ∀ l : Fin 128, IntOp.cmpi .slt (IntOp.andi (BitVec.ofNat 32 l.val) 63#32) 8#32 = if l.val % 64 < 8 then 1#1 else 0#1 := by decide +kernel
theorem half_from_8_to_16 : ∀ l : Fin 128, IntOp.andi (IntOp.cmpi .sge (IntOp.andi (BitVec.ofNat 32 l.val) 63#32) 8#32)
    (IntOp.cmpi .slt (IntOp.andi (BitVec.ofNat 32 l.val) 63#32) 16#32) = if 8 ≤ l.val % 64 ∧ l.val % 64 < 16 then 1#1 else 0#1 := by decide +kernel

theorem select_of {p : Prop} [Decidable p] (a b : EReal) : Scalar.select (if p then 1#1 else 0#1) a b = if p then a else b := by
  split_ifs <;> rfl

/-! ### The tables of a grid point, lane by lane -/

theorem wideA (v : FVec Ideal S512x128 .f32) (r : Fin 512) (l : Fin 128) :
    k0_pay4 v (ix2 r l) = if l.val < 32 then v (ix2 r l) else 1 := by
  pointwise [k0_pay4, k0_pay3]
  rw [below_32, select_of]
theorem wideB (v : FVec Ideal S512x128 .f32) (r : Fin 512) (l : Fin 128) :
    k0_pay6 v (ix2 r l) = if l.val < 16 then v (ix2 r ⟨(l.val + 32) % 128, by omega⟩) else 0 := by
  pointwise [k0_pay6, k0_pay5, k0_pay3]
  rw [below_16, select_of]
  simp only [show l.val + 128 - 96 = l.val + 32 by omega]
theorem wideC (v : FVec Ideal S512x128 .f32) (r : Fin 512) (l : Fin 128) :
    k0_pay7 v (ix2 r l) = if 16 ≤ l.val ∧ l.val < 32 then v (ix2 r ⟨(l.val + 32) % 128, by omega⟩) else 0 := by
  pointwise [k0_pay7, k0_pay5, k0_pay3]
  rw [from_16_to_32, select_of]
  simp only [show l.val + 128 - 96 = l.val + 32 by omega]
theorem halfA (v : FVec Ideal S512x128 .f32) (r : Fin 512) (l : Fin 128) :
    k0_pay10 v (ix2 r l) = if l.val % 64 < 16 then v (ix2 r ⟨l.val % 64 + 64, by omega⟩) else 1 := by
  pointwise [k0_pay10, k0_pay9, k0_pay8, k0_pay3]
  rw [half_below_16, below_64, select_of, select_of]
  split_ifs
  · exact congrArg (fun k => v (ix2 r k)) (Fin.ext (by simp only []; omega))
  · exact congrArg (fun k => v (ix2 r k)) (Fin.ext (by simp only []; omega))
  · rfl
theorem half_sin (v : FVec Ideal S512x128 .f32) (r : Fin 512) (l : Fin 128) (h : l.val % 64 < 16) :
    k0_pay11 v (ix2 r l) = v (ix2 r ⟨l.val % 64 + 80, by omega⟩) := by
  pointwise [k0_pay11, k0_pay9, k0_pay3]
  rw [below_64, select_of]
  split_ifs
  · exact congrArg (fun k => v (ix2 r k)) (Fin.ext (by simp only []; omega))
  · exact congrArg (fun k => v (ix2 r k)) (Fin.ext (by simp only []; omega))
theorem halfB (v : FVec Ideal S512x128 .f32) (r : Fin 512) (l : Fin 128) :
    k0_pay12 v (ix2 r l) = if h : l.val % 64 < 8 then v (ix2 r ⟨l.val % 64 + 80, by omega⟩) else 0 := by
  pointwise [k0_pay12, k0_pay8]
  rw [half_below_8, select_of]
  split_ifs with h
  · exact half_sin v r l (by omega)
  · rfl
theorem halfC (v : FVec Ideal S512x128 .f32) (r : Fin 512) (l : Fin 128) :
    k0_pay14 k0_pay8 (k0_pay11 v) k0_pay13 (ix2 r l) = if h : 8 ≤ l.val % 64 ∧ l.val % 64 < 16 then v (ix2 r ⟨l.val % 64 + 80, by omega⟩) else 0 := by
  pointwise [k0_pay14, k0_pay8, k0_pay13]
  rw [half_from_8_to_16, select_of]
  split_ifs with h
  · exact half_sin v r l h.2
  · rfl
/-- The lane's own number. -/
abbrev lanes : IVec S512x128 32 := iota .tc S512x128 32 [1] iota_S512x128_d1_w32
theorem keyA (v : FVec Ideal S512x128 .f32) (r : Fin 512) (l : Fin 128) :
    k0_pay15 (k0_pay3 v) lanes (ix2 r l) = if 16 ≤ l.val ∧ l.val < 32 then v (ix2 r ⟨(l.val + 48) % 128, by omega⟩) else 1 := by
  pointwise [k0_pay15, k0_pay3]
  rw [from_16_to_32, select_of]
  simp only [show l.val + 128 - 80 = l.val + 48 by omega]
theorem keyB (v : FVec Ideal S512x128 .f32) (r : Fin 512) (l : Fin 128) :
    k0_pay17 (k0_pay3 v) lanes (ix2 r l) = if 16 ≤ l.val ∧ l.val < 24 then v (ix2 r ⟨(l.val + 64) % 128, by omega⟩) else 0 := by
  pointwise [k0_pay17, k0_pay16, k0_pay3]
  rw [from_16_to_24, select_of]
  simp only [show l.val + 128 - 64 = l.val + 64 by omega]
theorem keyC (v : FVec Ideal S512x128 .f32) (r : Fin 512) (l : Fin 128) :
    k0_pay18 (k0_pay3 v) lanes (ix2 r l) = if 24 ≤ l.val ∧ l.val < 32 then v (ix2 r ⟨(l.val + 64) % 128, by omega⟩) else 0 := by
  pointwise [k0_pay18, k0_pay16, k0_pay3]
  rw [from_24_to_32, select_of]
  simp only [show l.val + 128 - 64 = l.val + 64 by omega]

/-! ### The products are the turned row -/

theorem wide_turned (y v : FVec Ideal S512x128 .f32) (cos sin : Fin 16 → EReal) (r : Fin 512)
    (c1 : ∀ j : Fin 16, v (ix2 r ⟨j.val, by omega⟩) = cos j) (c2 : ∀ j : Fin 16, v (ix2 r ⟨j.val + 16, by omega⟩) = cos j)
    (s1 : ∀ j : Fin 16, v (ix2 r ⟨j.val + 32, by omega⟩) = -sin j) (s2 : ∀ j : Fin 16, v (ix2 r ⟨j.val + 48, by omega⟩) = sin j) (l : Fin 128) :
    wide y (k0_pay4 v) (k0_pay6 v) (k0_pay7 v) (ix2 r l) = turned 128 16 (by omega) (fun k => y (ix2 r k)) cos sin l := by
  rw [wide_point, wideA, wideB, wideC, turned]
  by_cases a : l.val < 16
  · rw [if_pos (by omega), if_pos a, if_neg (by omega), dif_pos a, mul_zero, add_zero, sub_eq_add_neg, ← mul_neg, ← s1 ⟨l.val, a⟩, ← c1 ⟨l.val, a⟩]
    simp only [Nat.mod_eq_of_lt (show l.val + 16 < 128 by omega), Nat.mod_eq_of_lt (show l.val + 32 < 128 by omega)]
  · by_cases b : l.val < 32
    · rw [if_pos b, if_neg a, if_pos (by omega), dif_neg a, dif_pos (by omega), mul_zero, add_zero, ← s2 ⟨l.val - 16, by omega⟩, ← c2 ⟨l.val - 16, by omega⟩]
      simp only [show (l.val + 112) % 128 = l.val - 16 by omega, show (l.val + 32) % 128 = l.val - 16 + 48 by omega, show l.val - 16 + 16 = l.val by omega]
    · rw [if_neg b, if_neg a, if_neg (by omega), dif_neg a, dif_neg (by omega), mul_zero, mul_zero, add_zero, add_zero, mul_one]

theorem half_turned (y v : FVec Ideal S512x128 .f32) (cos sin : Fin 8 → EReal) (r : Fin 512)
    (c1 : ∀ j : Fin 8, v (ix2 r ⟨j.val + 64, by omega⟩) = cos j) (c2 : ∀ j : Fin 8, v (ix2 r ⟨j.val + 72, by omega⟩) = cos j)
    (s1 : ∀ j : Fin 8, v (ix2 r ⟨j.val + 80, by omega⟩) = -sin j) (s2 : ∀ j : Fin 8, v (ix2 r ⟨j.val + 88, by omega⟩) = sin j) (l : Fin 128) :
    narrow y (k0_pay10 v) (k0_pay12 v) (k0_pay14 k0_pay8 (k0_pay11 v) k0_pay13) (ix2 r l)
      = turned 64 8 (by omega) (fun k => y (ix2 r ⟨l.val / 64 * 64 + k.val, by omega⟩)) cos sin ⟨l.val % 64, by omega⟩ := by
  rw [narrow_point, halfA, halfB, halfC, turned]
  simp only []
  by_cases a : l.val % 64 < 8
  · rw [if_pos (by omega), dif_pos a, dif_neg (by omega), dif_pos a, mul_zero, add_zero, sub_eq_add_neg, ← mul_neg, ← s1 ⟨l.val % 64, a⟩, ← c1 ⟨l.val % 64, a⟩]
    simp only [show (l.val + 8) % 128 = l.val / 64 * 64 + (l.val % 64 + 8) by omega, show l.val / 64 * 64 + l.val % 64 = l.val by omega]
  · by_cases b : l.val % 64 < 16
    · rw [if_pos b, dif_neg a, dif_pos (by omega), dif_neg a, dif_pos (by omega), mul_zero, add_zero, ← s2 ⟨l.val % 64 - 8, by omega⟩, ← c2 ⟨l.val % 64 - 8, by omega⟩]
      simp only [show (l.val + 120) % 128 = l.val / 64 * 64 + (l.val % 64 - 8) by omega, show l.val % 64 - 8 + 88 = l.val % 64 + 80 by omega,
        show l.val % 64 - 8 + 72 = l.val % 64 + 64 by omega, show l.val / 64 * 64 + l.val % 64 = l.val by omega]
    · rw [if_neg b, dif_neg a, dif_neg (by omega), dif_neg a, dif_neg (by omega), mul_zero, mul_zero, add_zero, add_zero, mul_one]
      simp only [show l.val / 64 * 64 + l.val % 64 = l.val by omega]

theorem key_turned (y v : FVec Ideal S512x128 .f32) (cos sin : Fin 8 → EReal) (r : Fin 512)
    (c1 : ∀ j : Fin 8, v (ix2 r ⟨j.val + 64, by omega⟩) = cos j) (c2 : ∀ j : Fin 8, v (ix2 r ⟨j.val + 72, by omega⟩) = cos j)
    (s1 : ∀ j : Fin 8, v (ix2 r ⟨j.val + 80, by omega⟩) = -sin j) (s2 : ∀ j : Fin 8, v (ix2 r ⟨j.val + 88, by omega⟩) = sin j) (l : Fin 64) :
    narrow y (k0_pay15 (k0_pay3 v) lanes) (k0_pay17 (k0_pay3 v) lanes) (k0_pay18 (k0_pay3 v) lanes) (ix2 r ⟨l.val + 16, by omega⟩)
      = turned 64 8 (by omega) (fun k => y (ix2 r ⟨k.val + 16, by omega⟩)) cos sin l := by
  rw [narrow_point, keyA, keyB, keyC, turned]
  simp only []
  by_cases a : l.val < 8
  · rw [if_pos (by omega), if_pos (by omega), if_neg (by omega), dif_pos a, mul_zero, add_zero, sub_eq_add_neg, ← mul_neg, ← s1 ⟨l.val, a⟩, ← c1 ⟨l.val, a⟩]
    simp only [show (l.val + 16 + 8) % 128 = l.val + 8 + 16 by omega, show (l.val + 16 + 48) % 128 = l.val + 64 by omega, show (l.val + 16 + 64) % 128 = l.val + 80 by omega]
  · by_cases b : l.val < 16
    · rw [if_pos (by omega), if_neg (by omega), if_pos (by omega), dif_neg a, dif_pos (by omega), mul_zero, add_zero, ← s2 ⟨l.val - 8, by omega⟩, ← c2 ⟨l.val - 8, by omega⟩]
      simp only [show (l.val + 16 + 120) % 128 = l.val - 8 + 16 by omega, show (l.val + 16 + 48) % 128 = l.val - 8 + 72 by omega, show (l.val + 16 + 64) % 128 = l.val - 8 + 88 by omega]
    · rw [if_neg (by omega), if_neg (by omega), if_neg (by omega), dif_neg a, dif_neg (by omega), mul_zero, mul_zero, add_zero, add_zero, mul_one]

end Cert.PrepIdeal.Point

end
-- ==== Proof.PrepTable.lean ====
module

public import proofs.«01_k».proof.Proof.PrepPay

/- The blocks that a grid point of the call reads, at coordinates. -/

@[expose] public section

set_option maxRecDepth 16384

noncomputable section

open Idealize.ShloMosaic Idealize.ShloMosaic.TcCoe Idealize.SL.Sem
open scoped BigOperators

namespace Cert.PrepIdeal.Point

open Cert.PrepIdeal Cert.PrepIdeal.Gen Cert.PrepRow

variable (m : (ℓ : Loc nD τ sig) → Buf (Elt Ideal) ℓ)

abbrev arg0 (c : Dev nD) : FVec Ideal S32768x8192 .bf16 := m ((c : Thread nD τ).loc main_arg0)
abbrev arg1 (c : Dev nD) : FVec Ideal S32768x128 .f32 := m ((c : Thread nD τ).loc main_arg1)
abbrev cosA (c : Dev nD) : FVec Ideal S8192x16 .f32 := m ((c : Thread nD τ).loc main_arg2)
abbrev sinA (c : Dev nD) : FVec Ideal S8192x16 .f32 := m ((c : Thread nD τ).loc main_arg3)
abbrev cosI (c : Dev nD) : FVec Ideal S8192x8 .f32 := m ((c : Thread nD τ).loc main_arg4)
abbrev sinI (c : Dev nD) : FVec Ideal S8192x8 .f32 := m ((c : Thread nD τ).loc main_arg5)
abbrev arg6 (c : Dev nD) : FVec Ideal S1x128 .f32 := m ((c : Thread nD τ).loc main_arg6)
abbrev arg7 (c : Dev nD) : FVec Ideal S1x128 .f32 := m ((c : Thread nD τ).loc main_arg7)

/-! ### The table of cosines and sines -/

/-- The table as the host lays it out. -/
def table (ca sa : FVec Ideal S8192x16 .f32) (ci si : FVec Ideal S8192x8 .f32) (z : FVec Ideal S8192x32 .f32) : FVec Ideal S8192x128 .f32 :=
  concatenate S8192x128 1 [⟨S8192x16, ca⟩, ⟨S8192x16, ca⟩, ⟨S8192x16, Host.negf sa⟩, ⟨S8192x16, sa⟩, ⟨S8192x8, ci⟩, ⟨S8192x8, ci⟩, ⟨S8192x8, Host.negf si⟩, ⟨S8192x8, si⟩, ⟨S8192x32, z⟩]
    concatenates_S8192x16_S8192x16_S8192x16_S8192x16_S8192x8_S8192x8_S8192x8_S8192x8_S8192x32_S8192x128_d1

theorem entry_table (c : Dev nD) : V m c main_v3 = table (cosA m c) (sinA m c) (cosI m c) (sinI m c)
    (broadcastInDim S8192x32 ![] bcast_S_S8192x32 (constant S_ .f32 0x00000000#32)) := by
  unfold V
  after_results
  rfl

section
variable (ca sa : FVec Ideal S8192x16 .f32) (ci si : FVec Ideal S8192x8 .f32) (z : FVec Ideal S8192x32 .f32) (s : Fin 8192)

theorem table_0 (j : Fin 16) : table ca sa ci si z (ix2 s ⟨j.val, by omega⟩) = ca (ix2 s j) := by
  pointwise [table]
theorem table_16 (j : Fin 16) : table ca sa ci si z (ix2 s ⟨j.val + 16, by omega⟩) = ca (ix2 s j) := by
  pointwise [table]
  rw [dif_neg (by omega), dif_pos (by omega)]
  exact congrArg (fun k => ca (ix2 s k)) (Fin.ext (by simp only []; omega))
theorem table_32 (j : Fin 16) : table ca sa ci si z (ix2 s ⟨j.val + 32, by omega⟩) = -sa (ix2 s j) := by
  pointwise [table]
  rw [dif_neg (by omega), dif_neg (by omega), dif_pos (by omega)]
  exact congrArg (fun k => -sa (ix2 s k)) (Fin.ext (by simp only []; omega))
theorem table_48 (j : Fin 16) : table ca sa ci si z (ix2 s ⟨j.val + 48, by omega⟩) = sa (ix2 s j) := by
  pointwise [table]
  rw [dif_neg (by omega), dif_neg (by omega), dif_neg (by omega), dif_pos (by omega)]
  exact congrArg (fun k => sa (ix2 s k)) (Fin.ext (by simp only []; omega))
theorem table_64 (j : Fin 8) : table ca sa ci si z (ix2 s ⟨j.val + 64, by omega⟩) = ci (ix2 s j) := by
  pointwise [table]
  rw [dif_neg (by omega), dif_neg (by omega), dif_neg (by omega), dif_neg (by omega), dif_pos (by omega)]
  exact congrArg (fun k => ci (ix2 s k)) (Fin.ext (by simp only []; omega))
theorem table_72 (j : Fin 8) : table ca sa ci si z (ix2 s ⟨j.val + 72, by omega⟩) = ci (ix2 s j) := by
  pointwise [table]
  rw [dif_neg (by omega), dif_neg (by omega), dif_neg (by omega), dif_neg (by omega), dif_neg (by omega), dif_pos (by omega)]
  exact congrArg (fun k => ci (ix2 s k)) (Fin.ext (by simp only []; omega))
theorem table_80 (j : Fin 8) : table ca sa ci si z (ix2 s ⟨j.val + 80, by omega⟩) = -si (ix2 s j) := by
  pointwise [table]
  rw [dif_neg (by omega), dif_neg (by omega), dif_neg (by omega), dif_neg (by omega), dif_neg (by omega), dif_neg (by omega), dif_pos (by omega)]
  exact congrArg (fun k => -si (ix2 s k)) (Fin.ext (by simp only []; omega))
theorem table_88 (j : Fin 8) : table ca sa ci si z (ix2 s ⟨j.val + 88, by omega⟩) = si (ix2 s j) := by
  pointwise [table]
  rw [dif_neg (by omega), dif_neg (by omega), dif_neg (by omega), dif_neg (by omega), dif_neg (by omega), dif_neg (by omega), dif_neg (by omega), dif_pos (by omega)]
  exact congrArg (fun k => si (ix2 s k)) (Fin.ext (by simp only []; omega))
end

/-! ### The blocks -/

/-- Which block of its array each window holds at a grid point. -/
theorem idx : ∀ t : Fin cfg0.N, win0_0.index t = ![t.val, 4]
    ∧ win0_1.index t = ![t.val, 10]
    ∧ win0_2.index t = ![t.val, 11]
    ∧ win0_3.index t = ![t.val, 0]
    ∧ win0_4.index t = ![t.val % 16, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val / 16, t.val % 16, 0, 0]
    ∧ win0_12.index t = ![t.val, 0] :=
  (by decide +kernel : ∀ t : Fin grid0.N, _)

theorem lt (t : Fin cfg0.N) : t.val < 64 := t.isLt

/-- The array's row that a row of a grid point's block is. -/
abbrev row (t : Fin cfg0.N) (r : Fin 512) : Fin 32768 := ⟨t.val * 512 + r.val, by have := lt t; omega⟩

variable (c : Dev nD) (t : Fin cfg0.N) (r : Fin 512)

theorem blk_q (k : Fin 1024) : iblk m c 0 t (ix2 r k) = arg0 m c (ix2 (row t r) ⟨4096 + k.val, by omega⟩) := by
  blk_point [iblk, V, idx t]
theorem blk_kv (k : Fin 512) : iblk m c 1 t (ix2 r k) = arg0 m c (ix2 (row t r) ⟨5120 + k.val, by omega⟩) := by
  blk_point [iblk, V, idx t]
theorem blk_iq (k : Fin 512) : iblk m c 2 t (ix2 r k) = arg0 m c (ix2 (row t r) ⟨5632 + k.val, by omega⟩) := by
  blk_point [iblk, V, idx t]
theorem blk_small (k : Fin 128) : iblk m c 3 t (ix2 r k) = arg1 m c (ix2 (row t r) k) := by
  blk_point [iblk, V, idx t]
theorem blk_gq (k : Fin 128) : iblk m c 5 t (ix2 0 k) = arg6 m c (ix2 0 k) := by
  blk_point [iblk, V, idx t]
theorem blk_gk (k : Fin 128) : iblk m c 6 t (ix2 0 k) = arg7 m c (ix2 0 k) := by
  blk_point [iblk, V, idx t]
theorem blk_table (k : Fin 128) : iblk m c 4 t (ix2 r k) = V m c main_v3 (ix2 ⟨(row t r).val % 8192, by omega⟩ k) := by
  blk_point [iblk, idx t]

end Cert.PrepIdeal.Point

end
-- ==== Proof.PrepFinal.lean ====
module

public import proofs.«01_k».proof.Proof.PrepTable

/- What the call leaves in its six results. -/

@[expose] public section

set_option maxRecDepth 16384

noncomputable section

open Idealize.ShloMosaic Idealize.ShloMosaic.TcCoe Idealize.SL.Sem
open scoped BigOperators

namespace Cert.PrepIdeal.Point

open Cert.PrepIdeal Cert.PrepIdeal.Gen Cert.PrepRow

variable (m : (ℓ : Loc nD τ sig) → Buf (Elt Ideal) ℓ) (c : Dev nD) (t : Fin cfg0.N)

/-- The grid point's rows of the table. -/
abbrev tab : FVec Ideal S512x128 .f32 := iblk m c 4 t

theorem head_piece (x : FVec Ideal S512x128 .bf16) (g : FVec Ideal S1x128 .f32) (v : FVec Ideal S512x128 .f32) (hv : v = tab m c t) (r : Fin 512) (l : Fin 128) :
    truncf .bf16 (wide (head x g) (k0_pay4 v) (k0_pay6 v) (k0_pay7 v)) bitsLt_bf16_f32 (ix2 r l)
      = turned 128 16 (by omega) (normed (fun k => x (ix2 r k)) (fun k => g (ix2 0 k)))
        (fun j => cosA m c (ix2 ⟨(row t r).val % 8192, by omega⟩ j)) (fun j => sinA m c (ix2 ⟨(row t r).val % 8192, by omega⟩ j)) l := by
  subst hv
  refine (wide_turned (head x g) (tab m c t) (fun j => cosA m c (ix2 ⟨(row t r).val % 8192, by omega⟩ j)) (fun j => sinA m c (ix2 ⟨(row t r).val % 8192, by omega⟩ j))
    r (fun j => ?_) (fun j => ?_) (fun j => ?_) (fun j => ?_) l).trans ?_
  · exact (blk_table m c t r _).trans ((congrFun (entry_table m c) _).trans (table_0 _ _ _ _ _ _ j))
  · exact (blk_table m c t r _).trans ((congrFun (entry_table m c) _).trans (table_16 _ _ _ _ _ _ j))
  · exact (blk_table m c t r _).trans ((congrFun (entry_table m c) _).trans (table_32 _ _ _ _ _ _ j))
  · exact (blk_table m c t r _).trans ((congrFun (entry_table m c) _).trans (table_48 _ _ _ _ _ _ j))
  · exact congrArg (fun y => turned 128 16 _ y _ _ l) (funext fun k => head_point x g r k)

theorem half_piece (x : FVec Ideal S512x128 .bf16) (v : FVec Ideal S512x128 .f32) (hv : v = tab m c t) (r : Fin 512) (l : Fin 128) :
    truncf .bf16 (narrow (extf .f32 x bitsLt_bf16_f32) (k0_pay10 v) (k0_pay12 v) (k0_pay14 k0_pay8 (k0_pay11 v) k0_pay13)) bitsLt_bf16_f32 (ix2 r l)
      = turned 64 8 (by omega) (fun k => x (ix2 r ⟨l.val / 64 * 64 + k.val, by omega⟩))
        (fun j => cosI m c (ix2 ⟨(row t r).val % 8192, by omega⟩ j)) (fun j => sinI m c (ix2 ⟨(row t r).val % 8192, by omega⟩ j)) ⟨l.val % 64, by omega⟩ := by
  subst hv
  refine half_turned (extf .f32 x bitsLt_bf16_f32) (tab m c t) (fun j => cosI m c (ix2 ⟨(row t r).val % 8192, by omega⟩ j)) (fun j => sinI m c (ix2 ⟨(row t r).val % 8192, by omega⟩ j))
    r (fun j => ?_) (fun j => ?_) (fun j => ?_) (fun j => ?_) l
  · exact (blk_table m c t r _).trans ((congrFun (entry_table m c) _).trans (table_64 _ _ _ _ _ _ j))
  · exact (blk_table m c t r _).trans ((congrFun (entry_table m c) _).trans (table_72 _ _ _ _ _ _ j))
  · exact (blk_table m c t r _).trans ((congrFun (entry_table m c) _).trans (table_80 _ _ _ _ _ _ j))
  · exact (blk_table m c t r _).trans ((congrFun (entry_table m c) _).trans (table_88 _ _ _ _ _ _ j))

theorem key_piece (x v : FVec Ideal S512x128 .f32) (hv : v = tab m c t) (r : Fin 512) (l : Fin 64) :
    k0_pay1 (F := Ideal) (k0_pay46 (F := Ideal) (k0_pay15 (k0_pay3 v) lanes) (k0_pay17 (k0_pay3 v) lanes) (k0_pay18 (k0_pay3 v) lanes) x) (ix4 0 0 l r)
      = turned 64 8 (by omega) (fun k => x (ix2 r ⟨k.val + 16, by omega⟩))
        (fun j => cosI m c (ix2 ⟨(row t r).val % 8192, by omega⟩ j)) (fun j => sinI m c (ix2 ⟨(row t r).val % 8192, by omega⟩ j)) l := by
  subst hv
  refine Eq.trans ?_ (key_turned x (tab m c t) (fun j => cosI m c (ix2 ⟨(row t r).val % 8192, by omega⟩ j)) (fun j => sinI m c (ix2 ⟨(row t r).val % 8192, by omega⟩ j))
    r (fun j => ?_) (fun j => ?_) (fun j => ?_) (fun j => ?_) l)
  · generalize k0_pay15 (k0_pay3 (F := Ideal) (tab m c t)) lanes = A
    generalize k0_pay17 (k0_pay3 (F := Ideal) (tab m c t)) lanes = B
    generalize k0_pay18 (k0_pay3 (F := Ideal) (tab m c t)) lanes = C
    pointwise [k0_pay1, k0_pay46, narrow]
    simp only [Nat.add_comm 16]
  · exact (blk_table m c t r _).trans ((congrFun (entry_table m c) _).trans (table_64 _ _ _ _ _ _ j))
  · exact (blk_table m c t r _).trans ((congrFun (entry_table m c) _).trans (table_72 _ _ _ _ _ _ j))
  · exact (blk_table m c t r _).trans ((congrFun (entry_table m c) _).trans (table_80 _ _ _ _ _ _ j))
  · exact (blk_table m c t r _).trans ((congrFun (entry_table m c) _).trans (table_88 _ _ _ _ _ _ j))

/-- A head of the queries. -/
theorem query_piece (h : Fin 8) (x : FVec Ideal S512x128 .bf16) (g : FVec Ideal S1x128 .f32) (v : FVec Ideal S512x128 .f32) (hv : v = tab m c t) (hg : g = iblk m c 5 t)
    (hx : ∀ (r : Fin 512) (k : Fin 128), x (ix2 r k) = iblk m c 0 t (ix2 r ⟨h.val * 128 + k.val, by omega⟩))
    (z : S512x128.Idx) (i : Fin 32768) (j : Fin 1024) (hi : i.val = t.val * 512 + (z 0).val) (hj : j.val = h.val * 128 + (z 1).val) :
    truncf .bf16 (wide (head x g) (k0_pay4 v) (k0_pay6 v) (k0_pay7 v)) bitsLt_bf16_f32 z
      = queries (fun r k => arg0 m c (ix2 r k)) (fun k => arg6 m c (ix2 0 k)) (fun s j => cosA m c (ix2 s j)) (fun s j => sinA m c (ix2 s j)) i j := by
  have hz : (z 1).val < 128 := (z 1).isLt
  obtain rfl : i = row t (z 0) := Fin.ext hi
  rw [ValueIdx.eq_ix2 z]
  refine (head_piece m c t x g v hv (z 0) (z 1)).trans ?_
  subst hg
  unfold queries
  congr 1
  · refine congrArg₂ normed (funext fun k => ?_) (funext fun k => blk_gq m c t k)
    refine (hx _ k).trans ((blk_q m c t _ _).trans (congrArg (fun n => arg0 m c (ix2 (row t (z 0)) n)) (Fin.ext ?_)))
    simp only []
    omega
  · exact Fin.ext (by simp only []; omega)

/-- A head of the keys. -/
theorem keys_piece (h : Fin 2) (x : FVec Ideal S512x128 .bf16) (g : FVec Ideal S1x128 .f32) (v : FVec Ideal S512x128 .f32) (hv : v = tab m c t) (hg : g = iblk m c 6 t)
    (hx : ∀ (r : Fin 512) (k : Fin 128), x (ix2 r k) = iblk m c 1 t (ix2 r ⟨h.val * 128 + k.val, by omega⟩))
    (z : S512x128.Idx) (i : Fin 32768) (j : Fin 256) (hi : i.val = t.val * 512 + (z 0).val) (hj : j.val = h.val * 128 + (z 1).val) :
    truncf .bf16 (wide (head x g) (k0_pay4 v) (k0_pay6 v) (k0_pay7 v)) bitsLt_bf16_f32 z
      = keys (fun r k => arg0 m c (ix2 r k)) (fun k => arg7 m c (ix2 0 k)) (fun s j => cosA m c (ix2 s j)) (fun s j => sinA m c (ix2 s j)) i j := by
  have hz : (z 1).val < 128 := (z 1).isLt
  obtain rfl : i = row t (z 0) := Fin.ext hi
  rw [ValueIdx.eq_ix2 z]
  refine (head_piece m c t x g v hv (z 0) (z 1)).trans ?_
  subst hg
  unfold keys
  congr 1
  · refine congrArg₂ normed (funext fun k => ?_) (funext fun k => blk_gk m c t k)
    refine (hx _ k).trans ((blk_kv m c t _ _).trans (congrArg (fun n => arg0 m c (ix2 (row t (z 0)) n)) (Fin.ext ?_)))
    simp only []
    omega
  · exact Fin.ext (by simp only []; omega)

/-- Two heads of the indexer's queries. -/
theorem index_piece (h : Fin 4) (x : FVec Ideal S512x128 .bf16) (v : FVec Ideal S512x128 .f32) (hv : v = tab m c t)
    (hx : ∀ (r : Fin 512) (k : Fin 128), x (ix2 r k) = iblk m c 2 t (ix2 r ⟨h.val * 128 + k.val, by omega⟩))
    (z : S512x128.Idx) (i : Fin 32768) (j : Fin 512) (hi : i.val = t.val * 512 + (z 0).val) (hj : j.val = h.val * 128 + (z 1).val) :
    truncf .bf16 (narrow (extf .f32 x bitsLt_bf16_f32) (k0_pay10 v) (k0_pay12 v) (k0_pay14 k0_pay8 (k0_pay11 v) k0_pay13)) bitsLt_bf16_f32 z
      = indexQueries (fun r k => arg0 m c (ix2 r k)) (fun s j => cosI m c (ix2 s j)) (fun s j => sinI m c (ix2 s j)) i j := by
  have hz : (z 1).val < 128 := (z 1).isLt
  obtain rfl : i = row t (z 0) := Fin.ext hi
  rw [ValueIdx.eq_ix2 z]
  refine (half_piece m c t x v hv (z 0) (z 1)).trans ?_
  unfold indexQueries
  congr 1
  · refine funext fun k => (hx _ _).trans ((blk_iq m c t _ _).trans (congrArg (fun n => arg0 m c (ix2 (row t (z 0)) n)) (Fin.ext ?_)))
    simp only [ix2_1]
    omega
  · exact Fin.ext (by simp only [ix2_1]; omega)

/-- The indexer's keys. -/
theorem key_tile (x v : FVec Ideal S512x128 .f32) (hv : v = tab m c t) (hx : x = iblk m c 3 t)
    (z : S1x1x64x512.Idx) (i : Fin 32768) (j : Fin 64) (hi : i.val = t.val * 512 + (z 3).val) (hj : j.val = (z 2).val) :
    k0_pay1 (F := Ideal) (k0_pay46 (F := Ideal) (k0_pay15 (k0_pay3 v) lanes) (k0_pay17 (k0_pay3 v) lanes) (k0_pay18 (k0_pay3 v) lanes) x) z
      = indexKeys (fun r k => arg1 m c (ix2 r k)) (fun s j => cosI m c (ix2 s j)) (fun s j => sinI m c (ix2 s j)) i j := by
  have hz0 : (z 0).val < 1 := (z 0).isLt
  have hz1 : (z 1).val < 1 := (z 1).isLt
  obtain rfl : i = row t (z 3) := Fin.ext hi
  obtain rfl : j = z 2 := Fin.ext hj
  have ez : z = ix4 (0 : Fin 1) (0 : Fin 1) (z 2) (z 3) :=
    (ValueIdx.eq_ix4 z).trans (congrArg₂ (fun a b => ix4 a b (z 2) (z 3)) (Fin.ext (by simp only [Fin.val_zero]; omega)) (Fin.ext (by simp only [Fin.val_zero]; omega)))
  refine (congrArg _ ez).trans ((key_piece m c t x v hv (z 3) (z 2)).trans ?_)
  subst hx
  exact congrArg (fun y => turned 64 8 _ y _ _ (z 2)) (funext fun k => blk_small m c t _ _)

/-- A load of a whole block is the block. -/
theorem whole_tab : View.ld (iblk m c 4 t) r0_0 = tab m c t := by
  funext z
  pointwise
theorem whole_gq : View.ld (iblk m c 5 t) r0_1 = iblk m c 5 t := by
  funext z
  pointwise
  blk_ext
theorem whole_gk : View.ld (iblk m c 6 t) r0_1 = iblk m c 6 t := by
  funext z
  pointwise
  blk_ext

theorem final_q : (dats m 0 c).arrAt 7 (cfgs 0).N
    = fun i => queries (fun r k => arg0 m c (ix2 r k)) (fun k => arg6 m c (ix2 0 k)) (fun s j => cosA m c (ix2 s j)) (fun s j => sinA m c (ix2 s j)) (i 0) (i 1) := by
  refine (dats m 0 c).arrAt_eq_of_covers 7 _ (by decide +kernel) fun t hf y => ?_
  blk_simp
  rw [after0_7]
  unfold_out out0_7
  canon_tiles x h
  case piece0 => refine query_piece m c t 7 _ _ _ (whole_tab m c t) (whole_gq m c t) (fun r k => ?_) x _ _ ?_ ?_ <;> [skip; (blk_simp [idx t]; omega); (blk_simp [idx t]; omega)]; pointwise
  case piece1 => refine query_piece m c t 6 _ _ _ (whole_tab m c t) (whole_gq m c t) (fun r k => ?_) x _ _ ?_ ?_ <;> [skip; (blk_simp [idx t]; omega); (blk_simp [idx t]; omega)]; pointwise
  case piece2 => refine query_piece m c t 5 _ _ _ (whole_tab m c t) (whole_gq m c t) (fun r k => ?_) x _ _ ?_ ?_ <;> [skip; (blk_simp [idx t]; omega); (blk_simp [idx t]; omega)]; pointwise
  case piece3 => refine query_piece m c t 4 _ _ _ (whole_tab m c t) (whole_gq m c t) (fun r k => ?_) x _ _ ?_ ?_ <;> [skip; (blk_simp [idx t]; omega); (blk_simp [idx t]; omega)]; pointwise
  case piece4 => refine query_piece m c t 3 _ _ _ (whole_tab m c t) (whole_gq m c t) (fun r k => ?_) x _ _ ?_ ?_ <;> [skip; (blk_simp [idx t]; omega); (blk_simp [idx t]; omega)]; pointwise
  case piece5 => refine query_piece m c t 2 _ _ _ (whole_tab m c t) (whole_gq m c t) (fun r k => ?_) x _ _ ?_ ?_ <;> [skip; (blk_simp [idx t]; omega); (blk_simp [idx t]; omega)]; pointwise
  case piece6 => refine query_piece m c t 1 _ _ _ (whole_tab m c t) (whole_gq m c t) (fun r k => ?_) x _ _ ?_ ?_ <;> [skip; (blk_simp [idx t]; omega); (blk_simp [idx t]; omega)]; pointwise
  case piece7 => refine query_piece m c t 0 _ _ _ (whole_tab m c t) (whole_gq m c t) (fun r k => ?_) x _ _ ?_ ?_ <;> [skip; (blk_simp [idx t]; omega); (blk_simp [idx t]; omega)]; pointwise

theorem final_k : (dats m 0 c).arrAt 8 (cfgs 0).N
    = fun i => keys (fun r k => arg0 m c (ix2 r k)) (fun k => arg7 m c (ix2 0 k)) (fun s j => cosA m c (ix2 s j)) (fun s j => sinA m c (ix2 s j)) (i 0) (i 1) := by
  refine (dats m 0 c).arrAt_eq_of_covers 8 _ (by decide +kernel) fun t hf y => ?_
  blk_simp
  rw [after0_8]
  unfold_out out0_8
  canon_tiles x h
  case piece0 => refine keys_piece m c t 1 _ _ _ (whole_tab m c t) (whole_gk m c t) (fun r k => ?_) x _ _ ?_ ?_ <;> [skip; (blk_simp [idx t]; omega); (blk_simp [idx t]; omega)]; pointwise
  case piece1 => refine keys_piece m c t 0 _ _ _ (whole_tab m c t) (whole_gk m c t) (fun r k => ?_) x _ _ ?_ ?_ <;> [skip; (blk_simp [idx t]; omega); (blk_simp [idx t]; omega)]; pointwise

theorem final_iq : (dats m 0 c).arrAt 10 (cfgs 0).N
    = fun i => indexQueries (fun r k => arg0 m c (ix2 r k)) (fun s j => cosI m c (ix2 s j)) (fun s j => sinI m c (ix2 s j)) (i 0) (i 1) := by
  refine (dats m 0 c).arrAt_eq_of_covers 10 _ (by decide +kernel) fun t hf y => ?_
  blk_simp
  rw [after0_10]
  unfold_out out0_10
  canon_tiles x h
  case piece0 => refine index_piece m c t 3 _ _ (whole_tab m c t) (fun r k => ?_) x _ _ ?_ ?_ <;> [skip; (blk_simp [idx t]; omega); (blk_simp [idx t]; omega)]; pointwise
  case piece1 => refine index_piece m c t 2 _ _ (whole_tab m c t) (fun r k => ?_) x _ _ ?_ ?_ <;> [skip; (blk_simp [idx t]; omega); (blk_simp [idx t]; omega)]; pointwise
  case piece2 => refine index_piece m c t 1 _ _ (whole_tab m c t) (fun r k => ?_) x _ _ ?_ ?_ <;> [skip; (blk_simp [idx t]; omega); (blk_simp [idx t]; omega)]; pointwise
  case piece3 => refine index_piece m c t 0 _ _ (whole_tab m c t) (fun r k => ?_) x _ _ ?_ ?_ <;> [skip; (blk_simp [idx t]; omega); (blk_simp [idx t]; omega)]; pointwise

theorem final_v : (dats m 0 c).arrAt 9 (cfgs 0).N = fun i => values (fun r k => arg0 m c (ix2 r k)) (i 0) (i 1) := by
  refine (dats m 0 c).arrAt_eq_of_covers 9 _ (by decide +kernel) fun t hf y => ?_
  blk_simp
  rw [after0_9]
  unfold_out out0_9
  canon_tiles x h
  all_goals pointwise [values, h0, h1]
  all_goals blk_point [iblk, V, idx t]

theorem final_w : (dats m 0 c).arrAt 12 (cfgs 0).N = mulf (arg1 m c) (broadcast S32768x128 (Scalar.ofBits (F := Ideal) .f32 0x3D3504F3#32)) := by
  refine (dats m 0 c).arrAt_eq_of_covers 12 _ (by decide +kernel) fun t hf y => ?_
  blk_simp
  rw [after0_12]
  frame_out
  pointwise [k0_pay2]
  blk_point [iblk, V, idx t]

theorem final_kit : (dats m 0 c).arrAt 11 (cfgs 0).N
    = fun i => indexKeys (fun r k => arg1 m c (ix2 r k)) (fun s j => cosI m c (ix2 s j)) (fun s j => sinI m c (ix2 s j))
        ⟨((i 0).val * 16 + (i 1).val) * 512 + (i 3).val, by
          have h0 : (i 0).val < 4 := (i 0).isLt
          have h1 : (i 1).val < 16 := (i 1).isLt
          have h3 : (i 3).val < 512 := (i 3).isLt
          omega⟩ (i 2) := by
  refine (dats m 0 c).arrAt_eq_of_covers 11 _ (by decide +kernel) fun t hf y => ?_
  blk_simp
  rw [after0_11]
  frame_out
  refine key_tile m c t _ _ (whole_tab m c t) rfl y _ _ ?_ ?_
  · have := lt t
    simp only [idx t, Matrix.cons_val_zero, Matrix.cons_val_one, Matrix.cons_val]
    omega
  · blk_simp [idx t]

end Cert.PrepIdeal.Point

end
-- ==== Proof.PrepRefPoint.lean ====
module

public import proofs.«01_k».proof.Proof.PrepRow
public import proofs.«01_k».proof.Proof.Gen.PrepRefIdeal.Run
public import Idealize.ShloMosaic.Lib.Pipeline.ValueKit

/- The reference of the norms and the rotary embedding, entry by entry. -/

@[expose] public section

set_option maxRecDepth 16384

noncomputable section

open Idealize.ShloMosaic Idealize.ShloMosaic.TcCoe Idealize.SL.Sem
open scoped BigOperators

namespace Cert.PrepRefIdeal.Point

open Cert.PrepRefIdeal Cert.PrepRefIdeal.Gen Cert.PrepRow

/-- Eight heads normed and weighted. -/
def normed8 (p : FVec Ideal S4x8192x8x128 .f32) (g : FVec Ideal S1x128 .f32) : FVec Ideal S4x8192x8x128 .f32 :=
  mulf (mulf p (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2
    (Host.reduceAdd (mulf p p) (constant S_ .f32 0x00000000#32) reducesTo_S4x8192x8x128_S4x8192x8_d3 h_S_)) (broadcastInDim S4x8192x8x1 ![] bcast_S_S4x8192x8x1 (constant S_ .f32 0x43000000#32)))
    (broadcastInDim S4x8192x8x1 ![] bcast_S_S4x8192x8x1 (constant S_ .f32 0x358637BD#32))))))
    (broadcastInDim S4x8192x8x128 ![0, 1, 2, 3] bcast_S1x1x1x128_S4x8192x8x128_0_1_2_3 (broadcastInDim S1x1x1x128 ![3] bcast_S128_S1x1x1x128_3 (shapeCast _ g shapeCasts_S1x128_S128)))

theorem normed8_point (p : FVec Ideal S4x8192x8x128 .f32) (g : FVec Ideal S1x128 .f32) (b : Fin 4) (s : Fin 8192) (h : Fin 8) (k : Fin 128) :
    normed8 p g (ix4 b s h k) = normed (fun j => p (ix4 b s h j)) (fun j => g (ix2 0 j)) k := by
  pointwise [normed8, normed]

/-- Two heads normed and weighted. -/
def normed2 (p : FVec Ideal S4x8192x2x128 .f32) (g : FVec Ideal S1x128 .f32) : FVec Ideal S4x8192x2x128 .f32 :=
  mulf (mulf p (broadcastInDim S4x8192x2x128 ![0, 1, 2, 3] bcast_S4x8192x2x1_S4x8192x2x128_0_1_2_3 (Host.rsqrt (addf (Host.divf (broadcastInDim S4x8192x2x1 ![0, 1, 2] bcast_S4x8192x2_S4x8192x2x1_0_1_2
    (Host.reduceAdd (mulf p p) (constant S_ .f32 0x00000000#32) reducesTo_S4x8192x2x128_S4x8192x2_d3 h_S_)) (broadcastInDim S4x8192x2x1 ![] bcast_S_S4x8192x2x1 (constant S_ .f32 0x43000000#32)))
    (broadcastInDim S4x8192x2x1 ![] bcast_S_S4x8192x2x1 (constant S_ .f32 0x358637BD#32))))))
    (broadcastInDim S4x8192x2x128 ![0, 1, 2, 3] bcast_S1x1x1x128_S4x8192x2x128_0_1_2_3 (broadcastInDim S1x1x1x128 ![3] bcast_S128_S1x1x1x128_3 (shapeCast _ g shapeCasts_S1x128_S128)))

theorem normed2_point (p : FVec Ideal S4x8192x2x128 .f32) (g : FVec Ideal S1x128 .f32) (b : Fin 4) (s : Fin 8192) (h : Fin 2) (k : Fin 128) :
    normed2 p g (ix4 b s h k) = normed (fun j => p (ix4 b s h j)) (fun j => g (ix2 0 j)) k := by
  pointwise [normed2, normed]

/-- Eight heads of 128, the first 32 entries of each turned. -/
def turned8x128 (y : FVec Ideal S4x8192x8x128 .f32) (cos sin : FVec Ideal S8192x16 .f32) : FVec Ideal S4x8192x8x128 .f32 :=
  concatenate S4x8192x8x128 3 [⟨S4x8192x8x16, subf (mulf (extractStridedSlice S4x8192x8x16 ![0, 0, 0, 0] y slices_S4x8192x8x128_S4x8192x8x16_0_0_0_0) (broadcastInDim S4x8192x8x16 ![0, 1, 2, 3] bcast_S1x8192x1x16_S4x8192x8x16_0_1_2_3 (broadcastInDim S1x8192x1x16 ![1, 2, 3] bcast_S8192x1x16_S1x8192x1x16_1_2_3 (shapeCast _ cos shapeCasts_S8192x16_S8192x1x16)))) (mulf (extractStridedSlice S4x8192x8x16 ![0, 0, 0, 16] y slices_S4x8192x8x128_S4x8192x8x16_0_0_0_16) (broadcastInDim S4x8192x8x16 ![0, 1, 2, 3] bcast_S1x8192x1x16_S4x8192x8x16_0_1_2_3 (broadcastInDim S1x8192x1x16 ![1, 2, 3] bcast_S8192x1x16_S1x8192x1x16_1_2_3 (shapeCast _ sin shapeCasts_S8192x16_S8192x1x16))))⟩,
    ⟨S4x8192x8x16, addf (mulf (extractStridedSlice S4x8192x8x16 ![0, 0, 0, 16] y slices_S4x8192x8x128_S4x8192x8x16_0_0_0_16) (broadcastInDim S4x8192x8x16 ![0, 1, 2, 3] bcast_S1x8192x1x16_S4x8192x8x16_0_1_2_3 (broadcastInDim S1x8192x1x16 ![1, 2, 3] bcast_S8192x1x16_S1x8192x1x16_1_2_3 (shapeCast _ cos shapeCasts_S8192x16_S8192x1x16)))) (mulf (extractStridedSlice S4x8192x8x16 ![0, 0, 0, 0] y slices_S4x8192x8x128_S4x8192x8x16_0_0_0_0) (broadcastInDim S4x8192x8x16 ![0, 1, 2, 3] bcast_S1x8192x1x16_S4x8192x8x16_0_1_2_3 (broadcastInDim S1x8192x1x16 ![1, 2, 3] bcast_S8192x1x16_S1x8192x1x16_1_2_3 (shapeCast _ sin shapeCasts_S8192x16_S8192x1x16))))⟩,
    ⟨S4x8192x8x96, extractStridedSlice S4x8192x8x96 ![0, 0, 0, 32] y slices_S4x8192x8x128_S4x8192x8x96_0_0_0_32⟩] concatenates_S4x8192x8x16_S4x8192x8x16_S4x8192x8x96_S4x8192x8x128_d3

theorem turned8x128_point (y : FVec Ideal S4x8192x8x128 .f32) (cos sin : FVec Ideal S8192x16 .f32) (b : Fin 4) (s : Fin 8192) (h : Fin 8) (k : Fin 128) :
    turned8x128 y cos sin (ix4 b s h k) = turned 128 16 (by omega) (fun j => y (ix4 b s h j)) (fun j => cos (ix2 s j)) (fun j => sin (ix2 s j)) k := by
  pointwise [turned8x128, turned]
  by_cases c : k.val < 16
  · simp only [dif_pos c, Nat.add_comm]
  · by_cases d : k.val - 16 < 16
    · simp only [dif_neg c, dif_pos d, dif_pos (show k.val < 32 by omega), show 16 + (k.val - 16) = k.val by omega]
    · simp only [dif_neg c, dif_neg d, dif_neg (show ¬ k.val < 32 by omega), show 32 + (k.val - 16 - 16) = k.val by omega]

/-- Two heads of 128, the first 32 entries of each turned. -/
def turned2x128 (y : FVec Ideal S4x8192x2x128 .f32) (cos sin : FVec Ideal S8192x16 .f32) : FVec Ideal S4x8192x2x128 .f32 :=
  concatenate S4x8192x2x128 3 [⟨S4x8192x2x16, subf (mulf (extractStridedSlice S4x8192x2x16 ![0, 0, 0, 0] y slices_S4x8192x2x128_S4x8192x2x16_0_0_0_0) (broadcastInDim S4x8192x2x16 ![0, 1, 2, 3] bcast_S1x8192x1x16_S4x8192x2x16_0_1_2_3 (broadcastInDim S1x8192x1x16 ![1, 2, 3] bcast_S8192x1x16_S1x8192x1x16_1_2_3 (shapeCast _ cos shapeCasts_S8192x16_S8192x1x16)))) (mulf (extractStridedSlice S4x8192x2x16 ![0, 0, 0, 16] y slices_S4x8192x2x128_S4x8192x2x16_0_0_0_16) (broadcastInDim S4x8192x2x16 ![0, 1, 2, 3] bcast_S1x8192x1x16_S4x8192x2x16_0_1_2_3 (broadcastInDim S1x8192x1x16 ![1, 2, 3] bcast_S8192x1x16_S1x8192x1x16_1_2_3 (shapeCast _ sin shapeCasts_S8192x16_S8192x1x16))))⟩,
    ⟨S4x8192x2x16, addf (mulf (extractStridedSlice S4x8192x2x16 ![0, 0, 0, 16] y slices_S4x8192x2x128_S4x8192x2x16_0_0_0_16) (broadcastInDim S4x8192x2x16 ![0, 1, 2, 3] bcast_S1x8192x1x16_S4x8192x2x16_0_1_2_3 (broadcastInDim S1x8192x1x16 ![1, 2, 3] bcast_S8192x1x16_S1x8192x1x16_1_2_3 (shapeCast _ cos shapeCasts_S8192x16_S8192x1x16)))) (mulf (extractStridedSlice S4x8192x2x16 ![0, 0, 0, 0] y slices_S4x8192x2x128_S4x8192x2x16_0_0_0_0) (broadcastInDim S4x8192x2x16 ![0, 1, 2, 3] bcast_S1x8192x1x16_S4x8192x2x16_0_1_2_3 (broadcastInDim S1x8192x1x16 ![1, 2, 3] bcast_S8192x1x16_S1x8192x1x16_1_2_3 (shapeCast _ sin shapeCasts_S8192x16_S8192x1x16))))⟩,
    ⟨S4x8192x2x96, extractStridedSlice S4x8192x2x96 ![0, 0, 0, 32] y slices_S4x8192x2x128_S4x8192x2x96_0_0_0_32⟩] concatenates_S4x8192x2x16_S4x8192x2x16_S4x8192x2x96_S4x8192x2x128_d3

theorem turned2x128_point (y : FVec Ideal S4x8192x2x128 .f32) (cos sin : FVec Ideal S8192x16 .f32) (b : Fin 4) (s : Fin 8192) (h : Fin 2) (k : Fin 128) :
    turned2x128 y cos sin (ix4 b s h k) = turned 128 16 (by omega) (fun j => y (ix4 b s h j)) (fun j => cos (ix2 s j)) (fun j => sin (ix2 s j)) k := by
  pointwise [turned2x128, turned]
  by_cases c : k.val < 16
  · simp only [dif_pos c, Nat.add_comm]
  · by_cases d : k.val - 16 < 16
    · simp only [dif_neg c, dif_pos d, dif_pos (show k.val < 32 by omega), show 16 + (k.val - 16) = k.val by omega]
    · simp only [dif_neg c, dif_neg d, dif_neg (show ¬ k.val < 32 by omega), show 32 + (k.val - 16 - 16) = k.val by omega]

/-- Eight heads of 64, the first 16 entries of each turned. -/
def turned8x64 (y : FVec Ideal S4x8192x8x64 .f32) (cos sin : FVec Ideal S8192x8 .f32) : FVec Ideal S4x8192x8x64 .f32 :=
  concatenate S4x8192x8x64 3 [⟨S4x8192x8x8, subf (mulf (extractStridedSlice S4x8192x8x8 ![0, 0, 0, 0] y slices_S4x8192x8x64_S4x8192x8x8_0_0_0_0) (broadcastInDim S4x8192x8x8 ![0, 1, 2, 3] bcast_S1x8192x1x8_S4x8192x8x8_0_1_2_3 (broadcastInDim S1x8192x1x8 ![1, 2, 3] bcast_S8192x1x8_S1x8192x1x8_1_2_3 (shapeCast _ cos shapeCasts_S8192x8_S8192x1x8)))) (mulf (extractStridedSlice S4x8192x8x8 ![0, 0, 0, 8] y slices_S4x8192x8x64_S4x8192x8x8_0_0_0_8) (broadcastInDim S4x8192x8x8 ![0, 1, 2, 3] bcast_S1x8192x1x8_S4x8192x8x8_0_1_2_3 (broadcastInDim S1x8192x1x8 ![1, 2, 3] bcast_S8192x1x8_S1x8192x1x8_1_2_3 (shapeCast _ sin shapeCasts_S8192x8_S8192x1x8))))⟩,
    ⟨S4x8192x8x8, addf (mulf (extractStridedSlice S4x8192x8x8 ![0, 0, 0, 8] y slices_S4x8192x8x64_S4x8192x8x8_0_0_0_8) (broadcastInDim S4x8192x8x8 ![0, 1, 2, 3] bcast_S1x8192x1x8_S4x8192x8x8_0_1_2_3 (broadcastInDim S1x8192x1x8 ![1, 2, 3] bcast_S8192x1x8_S1x8192x1x8_1_2_3 (shapeCast _ cos shapeCasts_S8192x8_S8192x1x8)))) (mulf (extractStridedSlice S4x8192x8x8 ![0, 0, 0, 0] y slices_S4x8192x8x64_S4x8192x8x8_0_0_0_0) (broadcastInDim S4x8192x8x8 ![0, 1, 2, 3] bcast_S1x8192x1x8_S4x8192x8x8_0_1_2_3 (broadcastInDim S1x8192x1x8 ![1, 2, 3] bcast_S8192x1x8_S1x8192x1x8_1_2_3 (shapeCast _ sin shapeCasts_S8192x8_S8192x1x8))))⟩,
    ⟨S4x8192x8x48, extractStridedSlice S4x8192x8x48 ![0, 0, 0, 16] y slices_S4x8192x8x64_S4x8192x8x48_0_0_0_16⟩] concatenates_S4x8192x8x8_S4x8192x8x8_S4x8192x8x48_S4x8192x8x64_d3

theorem turned8x64_point (y : FVec Ideal S4x8192x8x64 .f32) (cos sin : FVec Ideal S8192x8 .f32) (b : Fin 4) (s : Fin 8192) (h : Fin 8) (k : Fin 64) :
    turned8x64 y cos sin (ix4 b s h k) = turned 64 8 (by omega) (fun j => y (ix4 b s h j)) (fun j => cos (ix2 s j)) (fun j => sin (ix2 s j)) k := by
  pointwise [turned8x64, turned]
  by_cases c : k.val < 8
  · simp only [dif_pos c, Nat.add_comm]
  · by_cases d : k.val - 8 < 8
    · simp only [dif_neg c, dif_pos d, dif_pos (show k.val < 16 by omega), show 8 + (k.val - 8) = k.val by omega]
    · simp only [dif_neg c, dif_neg d, dif_neg (show ¬ k.val < 16 by omega), show 16 + (k.val - 8 - 8) = k.val by omega]

/-- One head of 64, its first 16 entries turned. -/
def turned64 (y : FVec Ideal S4x8192x64 .f32) (cos sin : FVec Ideal S8192x8 .f32) : FVec Ideal S4x8192x64 .f32 :=
  concatenate S4x8192x64 2 [⟨S4x8192x8, subf (mulf (extractStridedSlice S4x8192x8 ![0, 0, 0] y slices_S4x8192x64_S4x8192x8_0_0_0) (broadcastInDim S4x8192x8 ![0, 1, 2] bcast_S1x8192x8_S4x8192x8_0_1_2 (broadcastInDim S1x8192x8 ![1, 2] bcast_S8192x8_S1x8192x8_1_2 cos))) (mulf (extractStridedSlice S4x8192x8 ![0, 0, 8] y slices_S4x8192x64_S4x8192x8_0_0_8) (broadcastInDim S4x8192x8 ![0, 1, 2] bcast_S1x8192x8_S4x8192x8_0_1_2 (broadcastInDim S1x8192x8 ![1, 2] bcast_S8192x8_S1x8192x8_1_2 sin)))⟩,
    ⟨S4x8192x8, addf (mulf (extractStridedSlice S4x8192x8 ![0, 0, 8] y slices_S4x8192x64_S4x8192x8_0_0_8) (broadcastInDim S4x8192x8 ![0, 1, 2] bcast_S1x8192x8_S4x8192x8_0_1_2 (broadcastInDim S1x8192x8 ![1, 2] bcast_S8192x8_S1x8192x8_1_2 cos))) (mulf (extractStridedSlice S4x8192x8 ![0, 0, 0] y slices_S4x8192x64_S4x8192x8_0_0_0) (broadcastInDim S4x8192x8 ![0, 1, 2] bcast_S1x8192x8_S4x8192x8_0_1_2 (broadcastInDim S1x8192x8 ![1, 2] bcast_S8192x8_S1x8192x8_1_2 sin)))⟩,
    ⟨S4x8192x48, extractStridedSlice S4x8192x48 ![0, 0, 16] y slices_S4x8192x64_S4x8192x48_0_0_16⟩] concatenates_S4x8192x8_S4x8192x8_S4x8192x48_S4x8192x64_d2

theorem turned64_point (y : FVec Ideal S4x8192x64 .f32) (cos sin : FVec Ideal S8192x8 .f32) (b : Fin 4) (s : Fin 8192) (k : Fin 64) :
    turned64 y cos sin (ix3 b s k) = turned 64 8 (by omega) (fun j => y (ix3 b s j)) (fun j => cos (ix2 s j)) (fun j => sin (ix2 s j)) k := by
  pointwise [turned64, turned]
  by_cases c : k.val < 8
  · simp only [dif_pos c, Nat.add_comm]
  · by_cases d : k.val - 8 < 8
    · simp only [dif_neg c, dif_pos d, dif_pos (show k.val < 16 by omega), show 8 + (k.val - 8) = k.val by omega]
    · simp only [dif_neg c, dif_neg d, dif_neg (show ¬ k.val < 16 by omega), show 16 + (k.val - 8 - 8) = k.val by omega]

/-! ### The results -/

/-- The queries as the reference computes them. -/
def refQueries (a : FVec Ideal S32768x8192 .bf16) (g : FVec Ideal S1x128 .f32) (cos sin : FVec Ideal S8192x16 .f32) : FVec Ideal S32768x1024 .bf16 :=
  truncf .bf16 (shapeCast _ (turned8x128 (normed8 (shapeCast _ (extractStridedSlice S32768x1024 ![0, 4096] (extf .f32 a bitsLt_bf16_f32) slices_S32768x8192_S32768x1024_0_4096)
    shapeCasts_S32768x1024_S4x8192x8x128) g) cos sin) shapeCasts_S4x8192x8x128_S32768x1024) bitsLt_bf16_f32

/-- The keys as the reference computes them. -/
def refKeys (a : FVec Ideal S32768x8192 .bf16) (g : FVec Ideal S1x128 .f32) (cos sin : FVec Ideal S8192x16 .f32) : FVec Ideal S32768x256 .bf16 :=
  truncf .bf16 (shapeCast _ (turned2x128 (normed2 (shapeCast _ (extractStridedSlice S32768x256 ![0, 5120] (extf .f32 a bitsLt_bf16_f32) slices_S32768x8192_S32768x256_0_5120)
    shapeCasts_S32768x256_S4x8192x2x128) g) cos sin) shapeCasts_S4x8192x2x128_S32768x256) bitsLt_bf16_f32

/-- The values as the reference computes them. -/
def refValues (a : FVec Ideal S32768x8192 .bf16) : FVec Ideal S32768x256 .bf16 :=
  truncf .bf16 (extractStridedSlice S32768x256 ![0, 5376] (extf .f32 a bitsLt_bf16_f32) slices_S32768x8192_S32768x256_0_5376) bitsLt_bf16_f32

/-- The indexer's queries as the reference computes them. -/
def refIndexQueries (a : FVec Ideal S32768x8192 .bf16) (cos sin : FVec Ideal S8192x8 .f32) : FVec Ideal S32768x512 .bf16 :=
  truncf .bf16 (shapeCast _ (turned8x64 (shapeCast _ (extractStridedSlice S32768x512 ![0, 5632] (extf .f32 a bitsLt_bf16_f32) slices_S32768x8192_S32768x512_0_5632)
    shapeCasts_S32768x512_S4x8192x8x64) cos sin) shapeCasts_S4x8192x8x64_S32768x512) bitsLt_bf16_f32

/-- The indexer's keys as the reference computes them. -/
def refIndexKeys (s : FVec Ideal S32768x128 .f32) (cos sin : FVec Ideal S8192x8 .f32) : FVec Ideal S4x16x64x512 .bf16 :=
  truncf .bf16 (transpose S4x16x64x512 [0, 1, 3, 2] (shapeCast _ (turned64 (shapeCast _ (extractStridedSlice S32768x64 ![0, 16] s slices_S32768x128_S32768x64_0_16)
    shapeCasts_S32768x64_S4x8192x64) cos sin) shapeCasts_S4x8192x64_S4x16x512x64) transposes_S4x16x512x64_S4x16x64x512_0_1_3_2) bitsLt_bf16_f32

theorem refQueries_eq (a : FVec Ideal S32768x8192 .bf16) (g : FVec Ideal S1x128 .f32) (cos sin : FVec Ideal S8192x16 .f32) :
    refQueries a g cos sin = fun i => queries (fun r k => a (ix2 r k)) (fun k => g (ix2 0 k)) (fun s j => cos (ix2 s j)) (fun s j => sin (ix2 s j)) (i 0) (i 1) := by
  funext i
  pointwise [refQueries, turned8x128_point, normed8_point, queries]

theorem refKeys_eq (a : FVec Ideal S32768x8192 .bf16) (g : FVec Ideal S1x128 .f32) (cos sin : FVec Ideal S8192x16 .f32) :
    refKeys a g cos sin = fun i => keys (fun r k => a (ix2 r k)) (fun k => g (ix2 0 k)) (fun s j => cos (ix2 s j)) (fun s j => sin (ix2 s j)) (i 0) (i 1) := by
  funext i
  pointwise [refKeys, turned2x128_point, normed2_point, keys]

theorem refValues_eq (a : FVec Ideal S32768x8192 .bf16) : refValues a = fun i => values (fun r k => a (ix2 r k)) (i 0) (i 1) := by
  funext i
  pointwise [refValues, values]

theorem refIndexQueries_eq (a : FVec Ideal S32768x8192 .bf16) (cos sin : FVec Ideal S8192x8 .f32) :
    refIndexQueries a cos sin = fun i => indexQueries (fun r k => a (ix2 r k)) (fun s j => cos (ix2 s j)) (fun s j => sin (ix2 s j)) (i 0) (i 1) := by
  funext i
  pointwise [refIndexQueries, turned8x64_point, indexQueries]

theorem refIndexKeys_eq (x : FVec Ideal S32768x128 .f32) (cos sin : FVec Ideal S8192x8 .f32) (b : Fin 4) (u : Fin 16) (k : Fin 64) (v : Fin 512) :
    refIndexKeys x cos sin (ix4 b u k v) = indexKeys (fun r k => x (ix2 r k)) (fun s j => cos (ix2 s j)) (fun s j => sin (ix2 s j))
      ⟨(b.val * 16 + u.val) * 512 + v.val, by omega⟩ k := by
  pointwise [refIndexKeys, turned64_point, indexKeys]
  simp only [show (b.val * 16 + u.val) * 512 + v.val = b.val * 8192 + (u.val * 512 + v.val) by omega,
    show (b.val * 8192 + (u.val * 512 + v.val)) % 8192 = u.val * 512 + v.val by omega, Nat.add_comm 16]

variable (m : (ℓ : Loc nD τ sig) → Buf (Elt Ideal) ℓ) (c : Dev nD)

theorem queries_result : Value.res_main_v121 m c = refQueries (m ((c : Thread nD τ).loc main_arg0)) (m ((c : Thread nD τ).loc main_arg6))
    (m ((c : Thread nD τ).loc main_arg2)) (m ((c : Thread nD τ).loc main_arg3)) := rfl

theorem keys_result : Value.res_main_v123 m c = refKeys (m ((c : Thread nD τ).loc main_arg0)) (m ((c : Thread nD τ).loc main_arg7))
    (m ((c : Thread nD τ).loc main_arg2)) (m ((c : Thread nD τ).loc main_arg3)) := rfl

end Cert.PrepRefIdeal.Point

end
-- ==== Proof.PrepAgree.lean ====
module

public import proofs.«01_k».proof.Proof.PrepFinal
public import proofs.«01_k».proof.Proof.PrepRefPoint

/- From equal arguments, the reference leaves in each of its six results what the call leaves. -/

@[expose] public section

set_option maxRecDepth 16384

noncomputable section

open Idealize.ShloMosaic Idealize.ShloMosaic.TcCoe Idealize.SL.Sem

namespace Cert.PrepAgree

open Cert.PrepRefIdeal.Point Cert.PrepIdeal.Point

abbrev Mem := (ℓ : Loc Cert.PrepIdeal.nD Cert.PrepIdeal.τ Cert.PrepIdeal.sig) → Buf (Elt Ideal) ℓ

variable (m : Mem) (c : Dev Cert.PrepIdeal.nD)

theorem agree_q : refQueries (arg0 m c) (arg6 m c) (cosA m c) (sinA m c) = (Cert.PrepIdeal.Gen.dats m 0 c).arrAt 7 (Cert.PrepIdeal.cfgs 0).N :=
  (refQueries_eq _ _ _ _).trans (final_q m c).symm

theorem agree_k : refKeys (arg0 m c) (arg7 m c) (cosA m c) (sinA m c) = (Cert.PrepIdeal.Gen.dats m 0 c).arrAt 8 (Cert.PrepIdeal.cfgs 0).N :=
  (refKeys_eq _ _ _ _).trans (final_k m c).symm

theorem agree_v : refValues (arg0 m c) = (Cert.PrepIdeal.Gen.dats m 0 c).arrAt 9 (Cert.PrepIdeal.cfgs 0).N :=
  (refValues_eq _).trans (final_v m c).symm

theorem agree_iq : refIndexQueries (arg0 m c) (cosI m c) (sinI m c) = (Cert.PrepIdeal.Gen.dats m 0 c).arrAt 10 (Cert.PrepIdeal.cfgs 0).N :=
  (refIndexQueries_eq _ _ _).trans (final_iq m c).symm

theorem agree_kit : refIndexKeys (arg1 m c) (cosI m c) (sinI m c) = (Cert.PrepIdeal.Gen.dats m 0 c).arrAt 11 (Cert.PrepIdeal.cfgs 0).N := by
  refine Eq.trans (funext fun i => ?_) (final_kit m c).symm
  exact (congrArg _ (ValueIdx.eq_ix4 i)).trans (refIndexKeys_eq _ _ _ (i 0) (i 1) (i 2) (i 3))

end Cert.PrepAgree

end
-- ==== Proof.MlpPoint.lean ====
module

public import proofs.«01_k».proof.Proof.Gen.MlpIdeal.Value
public import proofs.«01_k».proof.Proof.Gen.MlpRefIdeal.Run
public import Idealize.ShloMosaic.Lib.Pipeline.ValueKit

/- What the call leaves in its result, over the extended reals: the squared-ReLU feed-forward of the RMS-normalised
   rows, added to the residual. Each row block is folded over eight column blocks of the up projection. -/

@[expose] public section

set_option maxRecDepth 16384

noncomputable section

open Idealize.ShloMosaic Idealize.ShloMosaic.TcCoe Idealize.SL.Sem
open scoped BigOperators

namespace Cert.MlpRefIdeal.RefValue

open Cert.MlpRefIdeal Cert.MlpRefIdeal.Gen

/-- The normalised rows. -/
def normed (a0 : FVec Ideal S32768x1024 .f32) (a1 : FVec Ideal S1x1024 .f32) : FVec Ideal S32768x1024 .f32 :=
  mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 a1)

/-- The squared positive part of the up projection. -/
def active (a0 : FVec Ideal S32768x1024 .f32) (a1 : FVec Ideal S1x1024 .f32) (a2 : FVec Ideal S1024x4096 .f32) :
    FVec Ideal S32768x4096 .f32 :=
  mulf (maximumf (Host.dotGeneral dot_S32768x1024_S1024x4096_S32768x4096_1_0_0_1_n_n none (normed a0 a1) a2) (broadcastInDim S32768x4096 ![] bcast_S_S32768x4096 (constant S_ .f32 0x00000000#32)))
    (maximumf (Host.dotGeneral dot_S32768x1024_S1024x4096_S32768x4096_1_0_0_1_n_n none (normed a0 a1) a2) (broadcastInDim S32768x4096 ![] bcast_S_S32768x4096 (constant S_ .f32 0x00000000#32)))

/-- The reference's result as a function of its arguments. -/
def result (a0 : FVec Ideal S32768x1024 .f32) (a1 : FVec Ideal S1x1024 .f32) (a2 : FVec Ideal S1024x4096 .f32)
    (a3 : FVec Ideal S4096x1024 .f32) : FVec Ideal S32768x1024 .f32 :=
  addf a0 (Host.dotGeneral dot_S32768x4096_S4096x1024_S32768x1024_1_0_0_1_n_n none (active a0 a1 a2) a3)

end Cert.MlpRefIdeal.RefValue

namespace Cert.MlpIdeal.Point

open Cert.MlpIdeal Cert.MlpIdeal.Gen
open Cert.MlpRefIdeal.RefValue

variable (m : (ℓ : Loc nD τ sig) → Buf (Elt Ideal) ℓ)

/-- Which block of its array each window holds at a grid point. -/
theorem idx : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![t.val / 8, 0] :=
  (by decide +kernel : ∀ t : Fin grid0.N, _)

/-- The normalised rows a row block's first point stores. -/
theorem hidden_stored (c : Dev nD) (t : Fin cfg0.N) (y : S1024x1024.Idx) :
    k0_pay1 (iblk m c 0 t) (iblk m c 1 t) y = normed (m ((c : Thread nD τ).loc main_arg0)) (m ((c : Thread nD τ).loc main_arg1)) (((cfg0.win 4).blk t).view.emb y) := by
  pointwise [k0_pay1, normed]
  blk_point [iblk, V, idx t]

/-- The residual. -/
abbrev resid (c : Dev nD) : S32768x1024.Idx → EReal := m ((c : Thread nD τ).loc main_arg0)

/-- The residual rows a row block's first point stores. -/
theorem residual_stored (c : Dev nD) (t : Fin cfg0.N) (y : S1024x1024.Idx) :
    k0_pay2 (iblk m c 0 t) y = resid m c (((cfg0.win 4).blk t).view.emb y) := by
  pointwise [k0_pay2, resid]
  blk_point [iblk, V, idx t]

/-- The part of the down projection a point adds. -/
def part (c : Dev nD) (j : ℕ) (hj : j < 8) (r : S32768x1024.Idx) : EReal :=
  ∑ k : Fin 512, active (m ((c : Thread nD τ).loc main_arg0)) (m ((c : Thread nD τ).loc main_arg1)) (m ((c : Thread nD τ).loc main_arg2)) (ix2 (r 0) ⟨512 * j + k.val, by omega⟩)
    * (m ((c : Thread nD τ).loc main_arg3)) (ix2 ⟨512 * j + k.val, by omega⟩ (r 1))

/-- One accumulation: the stored sum is what was carried plus the point's part. -/
theorem added (c : Dev nD) (t : Fin cfg0.N) (h : Vec Ideal S1024x1024 .bf16) (acc : Vec Ideal S1024x1024 .f32)
    (hh : ∀ y, h y = normed (m ((c : Thread nD τ).loc main_arg0)) (m ((c : Thread nD τ).loc main_arg1)) (((cfg0.win 4).blk t).view.emb y)) (y : S1024x1024.Idx) :
    k0_pay3 h (iblk m c 2 t) acc (iblk m c 3 t) y
      = acc y + part m c (t.val % 8) (Nat.mod_lt _ (by decide)) (((cfg0.win 4).blk t).view.emb y) := by
  pointwise [k0_pay3, part, active]
  congr 1
  refine Finset.sum_congr rfl fun k _ => ?_
  have e2 : ∀ d, iblk m c 2 t (ix2 d k) = m ((c : Thread nD τ).loc main_arg2) (ix2 d ⟨512 * (t.val % 8) + k.val, by omega⟩) := fun d => by
    blk_point [iblk, V, idx t]
  have e3 : iblk m c 3 t (ix2 k (y 1)) = m ((c : Thread nD τ).loc main_arg3) (ix2 ⟨512 * (t.val % 8) + k.val, by omega⟩ ((((cfg0.win 4).blk t).view.emb y) 1)) := by
    blk_point [iblk, V, idx t]
  have e0 : ∀ d, ((cfg0.win 4).blk t).view.emb (ix2 (y 0) d) = ix2 ((((cfg0.win 4).blk t).view.emb y) 0) d := fun d => by
    blk_ext [idx t]
  simp only [hh, e2, e3, e0]
  rfl

theorem first_hidden (c : Dev nD) (t : Fin cfg0.N) (h0 : t.val % 8 = 0) :
    (outsAt0 m c t.val t.isLt).2.1 = k0_pay1 (iblk m c 0 t) (iblk m c 1 t) := by
  rw [outsAt0_A m c t h0 (by omega)]
  frame_out

theorem first_sum (c : Dev nD) (t : Fin cfg0.N) (h0 : t.val % 8 = 0) :
    (outsAt0 m c t.val t.isLt).2.2
      = k0_pay3 (k0_pay1 (iblk m c 0 t) (iblk m c 1 t)) (iblk m c 2 t) (k0_pay2 (iblk m c 0 t)) (iblk m c 3 t) := by
  rw [outsAt0_A m c t h0 (by omega)]
  frame_out

theorem next_hidden (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]
    rfl
  · rw [outsAt0_B m c t h0 h1]
    rfl

theorem next_sum (c : Dev nD) (t : Fin cfg0.N) (h0 : ¬t.val % 8 = 0) :
    (outsAt0 m c t.val t.isLt).2.2
      = k0_pay3 (outsAt0 m c (t.val - 1) (Nat.lt_of_le_of_lt (Nat.sub_le _ _) t.isLt)).2.1 (iblk m c 2 t)
          (outsAt0 m c (t.val - 1) (Nat.lt_of_le_of_lt (Nat.sub_le _ _) t.isLt)).2.2 (iblk m c 3 t) := by
  by_cases h1 : t.val % 8 = 7
  · rw [outsAt0_C m c t h0 h1]
    frame_out
    exact congrArg₂ (fun a b => k0_pay3 a (iblk m c 2 t) b (iblk m c 3 t))
      ((Memref.isWhole_whole cc0_scratch0).read_unread _) ((Memref.isWhole_whole cc0_scratch1).read_unread _)
  · rw [outsAt0_B m c t h0 h1]
    frame_out
    exact congrArg₂ (fun a b => k0_pay3 a (iblk m c 2 t) b (iblk m c 3 t))
      ((Memref.isWhole_whole cc0_scratch0).read_unread _) ((Memref.isWhole_whole cc0_scratch1).read_unread _)

/-- A row block's last point writes out the sum it leaves. -/
theorem last_out (c : Dev nD) (t : Fin cfg0.N) (h1 : t.val % 8 = 7) :
    (outsAt0 m c t.val t.isLt).1 = (outsAt0 m c t.val t.isLt).2.2 := by
  rw [next_sum m c t (by omega), outsAt0_C m c t (by omega) h1]
  frame_out
  exact congrArg₂ (fun a b => k0_pay3 a (iblk m c 2 t) b (iblk m c 3 t))
    ((Memref.isWhole_whole cc0_scratch0).read_unread _) ((Memref.isWhole_whole cc0_scratch1).read_unread _)

/-- Points of the same row block write to the same place. -/
theorem same_rows (t t' : Fin cfg0.N) (h : t.val / 8 = t'.val / 8) (y : S1024x1024.Idx) :
    ((cfg0.win 4).blk t).view.emb y = ((cfg0.win 4).blk t').view.emb y := by
  blk_ext [idx t, idx t', h]

/-- The parts of the points up to a column block, by its number alone. -/
def parts (c : Dev nD) (r : S32768x1024.Idx) (j : ℕ) : EReal :=
  ∑ i ∈ Finset.range (j + 1), if h : i < 8 then part m c i h r else 0

/-- What is carried after a point: the normalised rows, and the residual with the parts so far. -/
theorem carried (c : Dev nD) (n : ℕ) : ∀ hn : n < cfg0.N, ∀ y : S1024x1024.Idx,
    (outsAt0 m c n hn).2.1 y = normed (m ((c : Thread nD τ).loc main_arg0)) (m ((c : Thread nD τ).loc main_arg1)) (((cfg0.win 4).blk ⟨n, hn⟩).view.emb y)
    ∧ (outsAt0 m c n hn).2.2 y = resid m c (((cfg0.win 4).blk ⟨n, hn⟩).view.emb y)
        + parts m c (((cfg0.win 4).blk ⟨n, hn⟩).view.emb y) (n % 8) := by
  induction n with
  | zero =>
    intro hn y
    have hh : ∀ y, k0_pay1 (iblk m c 0 ⟨0, hn⟩) (iblk m c 1 ⟨0, hn⟩) y = _ := hidden_stored m c ⟨0, hn⟩
    refine ⟨by rw [first_hidden m c ⟨0, hn⟩ rfl, hh], ?_⟩
    rw [first_sum m c ⟨0, hn⟩ rfl, added m c ⟨0, hn⟩ _ _ hh y, residual_stored m c ⟨0, hn⟩]
    simp [parts]
  | succ n ih =>
    intro hn y
    by_cases h0 : (n + 1) % 8 = 0
    · have hh : ∀ y, k0_pay1 (iblk m c 0 ⟨n + 1, hn⟩) (iblk m c 1 ⟨n + 1, hn⟩) y = _ := hidden_stored m c ⟨n + 1, hn⟩
      refine ⟨by rw [first_hidden m c ⟨n + 1, hn⟩ h0, hh], ?_⟩
      rw [first_sum m c ⟨n + 1, hn⟩ h0, added m c ⟨n + 1, hn⟩ _ _ hh y, residual_stored m c ⟨n + 1, hn⟩]
      simp [parts, h0]
    · have hq : n / 8 = (n + 1) / 8 := by omega
      have hr : (n + 1) % 8 = n % 8 + 1 := by omega
      have hl : n % 8 + 1 < 8 := by omega
      have hp : n < cfg0.N := Nat.lt_of_succ_lt hn
      have e : ∀ y, ((cfg0.win 4).blk ⟨n, hp⟩).view.emb y = ((cfg0.win 4).blk ⟨n + 1, hn⟩).view.emb y :=
        same_rows ⟨n, hp⟩ ⟨n + 1, hn⟩ hq
      have hh : ∀ y, (outsAt0 m c n hp).2.1 y = normed (m ((c : Thread nD τ).loc main_arg0)) (m ((c : Thread nD τ).loc main_arg1)) (((cfg0.win 4).blk ⟨n + 1, hn⟩).view.emb y) :=
        fun y => (ih hp y).1.trans (congrArg _ (e y))
      refine ⟨by rw [next_hidden m c ⟨n + 1, hn⟩ h0]; exact hh y, ?_⟩
      rw [next_sum m c ⟨n + 1, hn⟩ h0]
      refine (added m c ⟨n + 1, hn⟩ _ _ hh y).trans ?_
      simp only [Nat.add_sub_cancel]
      rw [(ih hp y).2, e, add_assoc]
      congr 1
      simp only [parts, hr]
      rw [Finset.sum_range_succ _ (n % 8 + 1), dif_pos hl]

/-- The eight parts make the reference's down projection. -/
theorem result_eq (c : Dev nD) (r : S32768x1024.Idx) :
    resid m c r + parts m c r 7 = result (m ((c : Thread nD τ).loc main_arg0)) (m ((c : Thread nD τ).loc main_arg1)) (m ((c : Thread nD τ).loc main_arg2)) (m ((c : Thread nD τ).loc main_arg3)) r := by
  pointwise [result, resid]
  congr 1
  simp only [parts]
  rw [← Fin.sum_univ_eq_sum_range (fun i => if h : i < 8 then part m c i h r else 0) 8]
  simp only [Fin.is_lt, dif_pos, part]
  rw [← Fintype.sum_prod_type' (f := fun (i : Fin 8) (k : Fin 512) => active (m ((c : Thread nD τ).loc main_arg0)) (m ((c : Thread nD τ).loc main_arg1)) (m ((c : Thread nD τ).loc main_arg2)) (ix2 (r 0) ⟨512 * i.val + k.val, by omega⟩)
    * (m ((c : Thread nD τ).loc main_arg3)) (ix2 ⟨512 * i.val + k.val, by omega⟩ (r 1)))]
  refine Fintype.sum_equiv (finProdFinEquiv (m := 8) (n := 512)) _ _ fun p => ?_
  have e : (⟨512 * p.1.val + p.2.val, by omega⟩ : Fin 4096) = finProdFinEquiv p := Fin.ext (by simp [finProdFinEquiv]; omega)
  rw [e]

/-- The result array after the run is the reference's result. -/
theorem final (c : Dev nD) : (dats m 0 c).arrAt 4 (cfgs 0).N = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h7 : t.val % 8 = 7 := (flush0_4 t).mp hf
  blk_simp
  rw [after0_4, last_out m c t h7]
  refine (carried m c t.val t.isLt y).2.trans ?_
  rw [h7]
  exact result_eq m c _

end Cert.MlpIdeal.Point

end
-- ==== Proof.InprojPoint.lean ====
module

public import proofs.«01_k».proof.Proof.Gen.InprojIdeal.Value
public import proofs.«01_k».proof.Proof.Gen.InprojRefIdeal.Run
public import Idealize.ShloMosaic.Lib.Pipeline.ValueKit

/- What the call leaves in its result, over the extended reals: the RMS-normalised rows times the packed input weights. -/

@[expose] public section

set_option maxRecDepth 16384

noncomputable section

open Idealize.ShloMosaic Idealize.ShloMosaic.TcCoe Idealize.SL.Sem

namespace Cert.InprojRefIdeal.RefValue

open Cert.InprojRefIdeal Cert.InprojRefIdeal.Gen

/-- The reference's result as a function of its arguments. -/
abbrev result (a0 : FVec Ideal S32768x1024 .f32) (a1 : FVec Ideal S1x1024 .f32) (a2 : FVec Ideal S1024x8192 .f32) : FVec Ideal S32768x8192 .bf16 :=
  truncf .bf16 (Host.dotGeneral dot_S32768x1024_S1024x8192_S32768x8192_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 a1)) a2) bitsLt_bf16_f32

end Cert.InprojRefIdeal.RefValue

namespace Cert.InprojIdeal.Point

open Cert.InprojIdeal Cert.InprojIdeal.Gen
open Cert.InprojRefIdeal.RefValue (result)

variable (m : (ℓ : Loc nD τ sig) → Buf (Elt Ideal) ℓ)

/-- Which block of its array each window holds at a grid point. -/
theorem idx : ∀ t : Fin cfg0.N, win0_0.index t = ![t.val % 32, 0]
    ∧ win0_1.index t = ![0, 0]
    ∧ win0_2.index t = ![0, t.val / 32]
    ∧ win0_3.index t = ![t.val % 32, t.val / 32] :=
  (by decide +kernel : ∀ t : Fin grid0.N, _)

set_option maxHeartbeats 1600000 in
/-- What a grid point stores at `y` is the reference's result where `y` lies in the array. -/
theorem stored (c : Dev nD) (t : Fin cfg0.N) (y) :
    k0_pay1 (iblk m c 0 t) (iblk m c 1 t) (iblk m c 2 t) y
      = result (m ((c : Thread nD τ).loc main_arg0)) (m ((c : Thread nD τ).loc main_arg1)) (m ((c : Thread nD τ).loc main_arg2))
        (((cfg0.win 3).blk t).view.emb y) := by
  pointwise [k0_pay1, result]
  blk_point [iblk, V, idx t]

/-- The result array after the run is the reference's result. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact stored m c t y

end Cert.InprojIdeal.Point

end
-- ==== Proof.SmallPoint.lean ====
module

public import proofs.«01_k».proof.Proof.Gen.SmallIdeal.Value
public import proofs.«01_k».proof.Proof.Gen.SmallRefIdeal.Run
public import Idealize.ShloMosaic.Lib.Pipeline.ValueKit

/- What the call leaves in its result, over the extended reals: the RMS-normalised rows times the small projection weights. -/

@[expose] public section

set_option maxRecDepth 16384

noncomputable section

open Idealize.ShloMosaic Idealize.ShloMosaic.TcCoe Idealize.SL.Sem

namespace Cert.SmallRefIdeal.RefValue

open Cert.SmallRefIdeal Cert.SmallRefIdeal.Gen

/-- The reference's result as a function of its arguments. -/
abbrev result (a0 : FVec Ideal S32768x1024 .f32) (a1 : FVec Ideal S1x1024 .f32) (a2 : FVec Ideal S1024x128 .f32) : FVec Ideal S32768x128 .f32 :=
  Host.dotGeneral dot_S32768x1024_S1024x128_S32768x128_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 a1)) a2

end Cert.SmallRefIdeal.RefValue

namespace Cert.SmallIdeal.Point

open Cert.SmallIdeal Cert.SmallIdeal.Gen
open Cert.SmallRefIdeal.RefValue (result)

variable (m : (ℓ : Loc nD τ sig) → Buf (Elt Ideal) ℓ)

/-- Which block of its array each window holds at a grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

set_option maxHeartbeats 1600000 in
/-- What a grid point stores at `y` is the reference's result where `y` lies in the array. -/
theorem stored (c : Dev nD) (t : Fin cfg0.N) (y) :
    k0_pay1 (iblk m c 0 t) (iblk m c 1 t) (iblk m c 2 t) y
      = result (m ((c : Thread nD τ).loc main_arg0)) (m ((c : Thread nD τ).loc main_arg1)) (m ((c : Thread nD τ).loc main_arg2))
        (((cfg0.win 3).blk t).view.emb y) := by
  pointwise [k0_pay1, result]
  blk_point [iblk, V, idx t]

/-- The result array after the run is the reference's result. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact stored m c t y

end Cert.SmallIdeal.Point

end
-- ==== Proof.MergePoint.lean ====
module

public import proofs.«01_k».proof.Proof.Gen.MergeIdeal.Value
public import proofs.«01_k».proof.Proof.Gen.MergeRefIdeal.Run
public import Idealize.ShloMosaic.Lib.Pipeline.ValueKit

/- What the call leaves in its result, over the extended reals: the gated sum of the two branches times the output weights, added to the residual. -/

@[expose] public section

set_option maxRecDepth 16384

noncomputable section

open Idealize.ShloMosaic Idealize.ShloMosaic.TcCoe Idealize.SL.Sem

namespace Cert.MergeRefIdeal.RefValue

open Cert.MergeRefIdeal Cert.MergeRefIdeal.Gen

/-- The reference's result as a function of its arguments. -/
abbrev result (a0 : FVec Ideal S32768x8192 .bf16) (a1 : FVec Ideal S32768x1024 .bf16) (a2 : FVec Ideal S32768x1024 .bf16) (a3 : FVec Ideal S32768x1024 .f32) (a4 : FVec Ideal S1024x1024 .f32) : FVec Ideal S32768x1024 .f32 :=
  addf a3 (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 6144] (extf .f32 a0 bitsLt_bf16_f32) slices_S32768x8192_S32768x1024_0_6144))))) (extf .f32 a1 bitsLt_bf16_f32)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 7168] (extf .f32 a0 bitsLt_bf16_f32) slices_S32768x8192_S32768x1024_0_7168))))) (extf .f32 a2 bitsLt_bf16_f32))) a4)

end Cert.MergeRefIdeal.RefValue

namespace Cert.MergeIdeal.Point

open Cert.MergeIdeal Cert.MergeIdeal.Gen
open Cert.MergeRefIdeal.RefValue (result)

variable (m : (ℓ : Loc nD τ sig) → Buf (Elt Ideal) ℓ)

/-- Which block of its array each window holds at a grid point. -/
theorem idx : ∀ t : Fin cfg0.N, win0_0.index t = ![t.val, 6]
    ∧ win0_1.index t = ![t.val, 7]
    ∧ win0_2.index t = ![t.val, 0]
    ∧ win0_3.index t = ![t.val, 0]
    ∧ win0_4.index t = ![t.val, 0]
    ∧ win0_5.index t = ![0, 0]
    ∧ win0_6.index t = ![t.val, 0] :=
  (by decide +kernel : ∀ t : Fin grid0.N, _)

set_option maxHeartbeats 1600000 in
/-- What a grid point stores at `y` is the reference's result where `y` lies in the array. -/
theorem stored (c : Dev nD) (t : Fin cfg0.N) (y) :
    k0_pay1 (iblk m c 0 t) (iblk m c 2 t) (iblk m c 1 t) (iblk m c 3 t) (iblk m c 4 t) (iblk m c 5 t) y
      = result (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 6).blk t).view.emb y) := by
  pointwise [k0_pay1, result, Ideal.logistic]
  blk_point [iblk, V, idx t]

/-- The result array after the run is the reference's result. -/
theorem final (c : Dev nD) : (dats m 0 c).arrAt 6 (cfgs 0).N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  exact stored m c t y

end Cert.MergeIdeal.Point

end
-- ==== Proof.lean ====
module

public import proofs.«01_k».proof.Defs
public import proofs.«01_k».proof.Proof.Gen.Attn.Frame
public import proofs.«01_k».proof.Proof.Gen.Attn.Loops
public import proofs.«01_k».proof.Proof.Gen.AttnIdeal.Frame
public import proofs.«01_k».proof.Proof.Gen.AttnIdeal.Loops
public import proofs.«01_k».proof.Proof.Gen.AttnRefIdeal.Run
public import proofs.«01_k».proof.Proof.Gen.Mlp.Frame
public import proofs.«01_k».proof.Proof.Gen.MlpIdeal.Value
public import proofs.«01_k».proof.Proof.Gen.MlpRefIdeal.Run
public import proofs.«01_k».proof.Proof.Gen.Inproj.Frame
public import proofs.«01_k».proof.Proof.Gen.InprojIdeal.Value
public import proofs.«01_k».proof.Proof.Gen.InprojRefIdeal.Run
public import proofs.«01_k».proof.Proof.Gen.Small.Frame
public import proofs.«01_k».proof.Proof.Gen.SmallIdeal.Value
public import proofs.«01_k».proof.Proof.Gen.SmallRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Prep.Frame
public import proofs.«01_k».proof.Proof.Gen.PrepIdeal.Value
public import proofs.«01_k».proof.Proof.Gen.PrepRefIdeal.Run
public import proofs.«01_k».proof.Proof.AttnFrame
public import proofs.«01_k».proof.Proof.AttnFinal
public import proofs.«01_k».proof.Proof.AttnRefFinal
public import proofs.«01_k».proof.Proof.AttnMeans
public import proofs.«01_k».proof.Proof.PrepAgree
public import proofs.«01_k».proof.Proof.MlpPoint
public import proofs.«01_k».proof.Proof.InprojPoint
public import proofs.«01_k».proof.Proof.SmallPoint
public import proofs.«01_k».proof.Proof.MergePoint

@[expose] public section

namespace Cert.Proof

open Idealize.ShloMosaic Idealize.SL.Sem

theorem frame_Attn : Cert.quiescent_Attn := fun m g _ => Cert.Attn.Run.frame m g

theorem frame_AttnIdeal : Cert.quiescent_AttnIdeal := fun m g _ => Cert.AttnIdeal.Run.frame m g

theorem frame_AttnIdeal_pre : Cert.quiescent_AttnIdeal_pre_attention_pre := fun m g _ => Cert.AttnIdeal.Run.frame m g

theorem frame_AttnRef : Cert.quiescent_AttnRefIdeal := fun m g _ =>
  (θ_run _ _ _).mono (fun r h => ⟨fun c => (h c).2, sem_eq_zero_of_no_sems (by decide) r.2⟩) (Cert.AttnRefIdeal.Value.run m g)

theorem frame_AttnRef_pre : Cert.quiescent_AttnRefIdeal_pre_attention_pre := fun m g _ => frame_AttnRef m g trivial

theorem preserves_Attn : Cert.preserves_Attn_AttnIdeal :=
  ⟨IdealRules.named_const.statement Cert.AttnIdeal.κ "scale_log2e" .f32 0x3E0293EE#32 _ rfl,
    IdealRules.named_const.statement Cert.AttnIdeal.κ "mask" .f32 0xF149F2CA#32 _ rfl,
    IdealRules.named_const.statement Cert.AttnIdeal.κ "scale" .f32 0x3DB504F3#32 _ rfl⟩

set_option maxHeartbeats 1600000 in
theorem algebraic_Attn : Cert.algebraic_AttnIdeal_AttnRefIdeal_pre_attention_pre := by
  pair_intro
  · run_from Cert.AttnIdeal.Run.run_main m g
    exact Cert.AttnIdeal.Gen.V_main_arg3 m c
  · refine (θ_run _ _ _).mono (fun r h c => ⟨(h c).1.trans ?_, (h c).2⟩) (Cert.AttnRefIdeal.Value.run m' g')
    have H := Cert.AttnPre.meaningful _ _ _ _ _ (hpre c)
    obtain ⟨e0, e1, e2, e3, _⟩ := hagree c
    have H' : Cert.AttnSpec.Meaningful (Cert.AttnRefIdeal.Point.qa m' c) (Cert.AttnRefIdeal.Point.ka m' c) (Cert.AttnRefIdeal.Point.keep m' c) := by
      rw [Cert.AttnRefIdeal.Point.qa, Cert.AttnRefIdeal.Point.ka, Cert.AttnRefIdeal.Point.keep, e0, e1, e3]
      exact H
    refine (Cert.AttnRefIdeal.Point.final m' c H').trans (Eq.trans ?_ (Cert.AttnIdeal.Point.final m c H).symm)
    rw [Cert.AttnRefIdeal.Point.qa, Cert.AttnRefIdeal.Point.ka, Cert.AttnRefIdeal.Point.va, Cert.AttnRefIdeal.Point.keep, e0, e1, e2, e3]

set_option maxHeartbeats 1600000 in
theorem algebraic_Inproj : Cert.algebraic_InprojIdeal_InprojRefIdeal := by
  pair_intro
  · run_from Cert.InprojIdeal.Gen.run_main m g
  · hlo_run
    exact (Cert.InprojIdeal.Point.final m c).symm

set_option maxHeartbeats 1600000 in
theorem algebraic_Small : Cert.algebraic_SmallIdeal_SmallRefIdeal := by
  pair_intro
  · run_from Cert.SmallIdeal.Gen.run_main m g
  · hlo_run
    exact (Cert.SmallIdeal.Point.final m c).symm

set_option maxHeartbeats 1600000 in
theorem algebraic_Merge : Cert.algebraic_MergeIdeal_MergeRefIdeal := by
  pair_intro
  · run_from Cert.MergeIdeal.Gen.run_main m g
  · hlo_run
    exact (Cert.MergeIdeal.Point.final m c).symm

set_option maxHeartbeats 1600000 in
theorem algebraic_Mlp : Cert.algebraic_MlpIdeal_MlpRefIdeal := by
  pair_intro
  · run_from Cert.MlpIdeal.Gen.run_main m g
  · hlo_run
    exact (Cert.MlpIdeal.Point.final m c).symm

theorem frame_MlpRef : Cert.quiescent_MlpRefIdeal := fun m g _ =>
  (θ_run _ _ _).mono (fun r h => ⟨fun c => (h c).2, sem_eq_zero_of_no_sems (by decide) r.2⟩) (Cert.MlpRefIdeal.Value.run m g)

theorem frame_InprojRef : Cert.quiescent_InprojRefIdeal := fun m g _ =>
  (θ_run _ _ _).mono (fun r h => ⟨fun c => (h c).2, sem_eq_zero_of_no_sems (by decide) r.2⟩) (Cert.InprojRefIdeal.Value.run m g)

theorem frame_SmallRef : Cert.quiescent_SmallRefIdeal := fun m g _ =>
  (θ_run _ _ _).mono (fun r h => ⟨fun c => (h c).2, sem_eq_zero_of_no_sems (by decide) r.2⟩) (Cert.SmallRefIdeal.Value.run m g)

theorem frame_MergeRef : Cert.quiescent_MergeRefIdeal := fun m g _ =>
  (θ_run _ _ _).mono (fun r h => ⟨fun c => (h c).2, sem_eq_zero_of_no_sems (by decide) r.2⟩) (Cert.MergeRefIdeal.Value.run m g)

theorem frame_PrepRef : Cert.quiescent_PrepRefIdeal := fun m g _ =>
  (θ_run _ _ _).mono (fun r h => ⟨fun c => (h c).2.2.2.2.2.2, sem_eq_zero_of_no_sems (by decide) r.2⟩) (Cert.PrepRefIdeal.Value.run m g)

theorem algebraic_Prep : Cert.algebraic_PrepIdeal_PrepRefIdeal := by
  intro m g m' g' _ hagree
  refine ⟨fun c => (Cert.PrepIdeal.Gen.dats m 0 c).arrAt 7 (Cert.PrepIdeal.cfgs 0).N, fun c => (Cert.PrepIdeal.Gen.dats m 0 c).arrAt 8 (Cert.PrepIdeal.cfgs 0).N,
    fun c => (Cert.PrepIdeal.Gen.dats m 0 c).arrAt 9 (Cert.PrepIdeal.cfgs 0).N, fun c => (Cert.PrepIdeal.Gen.dats m 0 c).arrAt 10 (Cert.PrepIdeal.cfgs 0).N,
    fun c => (Cert.PrepIdeal.Gen.dats m 0 c).arrAt 11 (Cert.PrepIdeal.cfgs 0).N, fun c => (Cert.PrepIdeal.Gen.dats m 0 c).arrAt 12 (Cert.PrepIdeal.cfgs 0).N,
    Cert.PrepIdeal.Value.run_blocks m g, (θ_run _ _ _).mono (fun r h c => ?_) (Cert.PrepRefIdeal.Value.run m' g')⟩
  obtain ⟨q, k, v, iq, kit, w, rest⟩ := h c
  obtain ⟨e0, e1, e2, e3, e4, e5, e6, e7⟩ := hagree c
  refine ⟨q.trans ?_, k.trans ?_, v.trans ?_, iq.trans ?_, kit.trans ?_, w.trans ?_, rest⟩
  · refine (Cert.PrepRefIdeal.Point.queries_result m' c).trans (Eq.trans ?_ (Cert.PrepAgree.agree_q m c))
    rw [e0, e6, e2, e3]
  · refine (Cert.PrepRefIdeal.Point.keys_result m' c).trans (Eq.trans ?_ (Cert.PrepAgree.agree_k m c))
    rw [e0, e7, e2, e3]
  · refine Eq.trans ?_ (Cert.PrepAgree.agree_v m c)
    rw [e0]
    rfl
  · refine Eq.trans ?_ (Cert.PrepAgree.agree_iq m c)
    rw [e0, e4, e5]
    rfl
  · refine Eq.trans ?_ (Cert.PrepAgree.agree_kit m c)
    rw [e1, e4, e5]
    rfl
  · refine Eq.trans ?_ (Cert.PrepIdeal.Point.final_w m c).symm
    rw [e1]
    rfl

theorem claim : Cert.Claim :=
  ⟨Cert.Attn.Gen.facts, Cert.AttnIdeal.Gen.facts, Cert.AttnRefIdeal.Gen.facts, Cert.Mlp.Gen.facts, Cert.MlpIdeal.Gen.facts, Cert.MlpRefIdeal.Gen.facts, Cert.Inproj.Gen.facts, Cert.InprojIdeal.Gen.facts, Cert.InprojRefIdeal.Gen.facts, Cert.Small.Gen.facts, Cert.SmallIdeal.Gen.facts, Cert.SmallRefIdeal.Gen.facts, Cert.Merge.Gen.facts, Cert.MergeIdeal.Gen.facts, Cert.MergeRefIdeal.Gen.facts, Cert.Prep.Gen.facts, Cert.PrepIdeal.Gen.facts, Cert.PrepRefIdeal.Gen.facts, Cert.AttnPre.facts,
    frame_Attn, frame_AttnIdeal, frame_AttnIdeal_pre, frame_AttnRef, frame_AttnRef_pre,
    fun m g _ => Cert.Mlp.Gen.frame m g, fun m g _ => Cert.MlpIdeal.Gen.frame m g, frame_MlpRef,
    fun m g _ => Cert.Inproj.Gen.frame m g, fun m g _ => Cert.InprojIdeal.Gen.frame m g, frame_InprojRef,
    fun m g _ => Cert.Small.Gen.frame m g, fun m g _ => Cert.SmallIdeal.Gen.frame m g, frame_SmallRef,
    fun m g _ => Cert.Merge.Gen.frame m g, fun m g _ => Cert.MergeIdeal.Gen.frame m g, frame_MergeRef,
    fun m g _ => Cert.Prep.Gen.frame m g, fun m g _ => Cert.PrepIdeal.Gen.frame m g, frame_PrepRef,
    preserves_Attn, algebraic_Attn,
    trivial, algebraic_Mlp,
    trivial, algebraic_Inproj,
    trivial, algebraic_Small,
    trivial, algebraic_Merge,
    trivial, algebraic_Prep⟩

end Cert.Proof
